-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_in_order [hPre_positions_in_order : Cert.Pre_positions_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_order [hPre_positions_in_order : Cert.Pre_positions_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_positions_in_order [hKernelIdeal : Cert.KernelIdeal.Facts] [hPre_positions_in_order : Cert.Pre_positions_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_positions_in_order [hReferenceIdeal : Cert.ReferenceIdeal.Facts] [hPre_positions_in_order : Cert.Pre_positions_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S2x24x2x128 Cert.KernelIdeal.S2x24x1x128
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.bf16_pair.Statement Cert.KernelIdeal.S1x1x2x128 Cert.KernelIdeal.S1x1x1x128

def algebraic_KernelIdeal_ReferenceIdeal_pre_positions_in_order [hKernelIdeal : Cert.KernelIdeal.Facts] [hReferenceIdeal : Cert.ReferenceIdeal.Facts] [hPre_positions_in_order : Cert.Pre_positions_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_positions_in_order : Cert.Pre_positions_in_order.Facts),
    quiescent_Kernel (hKernel := hKernel)
    ∧ quiescent_KernelIdeal (hKernelIdeal := hKernelIdeal)
    ∧ quiescent_KernelIdeal_pre_positions_in_order (hKernelIdeal := hKernelIdeal) (hPre_positions_in_order := hPre_positions_in_order)
    ∧ quiescent_ReferenceIdeal (hReferenceIdeal := hReferenceIdeal)
    ∧ quiescent_ReferenceIdeal_pre_positions_in_order (hReferenceIdeal := hReferenceIdeal) (hPre_positions_in_order := hPre_positions_in_order)
    ∧ preserves_Kernel_KernelIdeal
    ∧ algebraic_KernelIdeal_ReferenceIdeal_pre_positions_in_order (hKernelIdeal := hKernelIdeal) (hReferenceIdeal := hReferenceIdeal) (hPre_positions_in_order := hPre_positions_in_order)
-- ==== Pre_positions_in_order.lean ====
abbrev S2x1x5120 : Shape := ⟨3, ![2, 1, 5120]⟩
abbrev S2560x13824 : Shape := ⟨2, ![2560, 13824]⟩
abbrev S640x27648 : Shape := ⟨2, ![640, 27648]⟩
abbrev S40x27648 : Shape := ⟨2, ![40, 27648]⟩
abbrev S_ : Shape := ⟨0, ![]⟩

class Facts : Prop where
  natLt_8_32 : 8 < 32
  bcast_S_S640x27648 : S_.BroadcastsInDim S640x27648 (![] : Fin 0 → Fin S640x27648.rank)

variable [Facts]

def fn_part1 {F : FTy → Type} [FloatOps F] (main_v7 : IVec S640x27648 1) (main_v16 : IVec S640x27648 1) : IVec S640x27648 1 :=
  let main_v17 : IVec S640x27648 1 := andi main_v7 main_v16
  main_v17

def fn {F : FTy → Type} [FloatOps F] (main_arg0 : FVec F S2x1x5120 .bf16) (main_arg1 : IVec S2560x13824 8) (main_arg2 : IVec S640x27648 8) (main_arg3 : FVec F S40x27648 .bf16) : IVec S640x27648 1 :=
  let main_v0 : IVec S640x27648 32 := (extui 32 · natLt_8_32) main_arg2
  let main_c : IVec S_ 32 := constantI S_ 32 3#32
  let main_v1 : IVec S640x27648 32 := broadcastInDim S640x27648 ![] bcast_S_S640x27648 main_c
  let main_v2 : IVec S640x27648 32 := andi main_v0 main_v1
  let main_c_0 : IVec S_ 32 := constantI S_ 32 2#32
  let main_v3 : IVec S640x27648 32 := broadcastInDim S640x27648 ![] bcast_S_S640x27648 main_c_0
  let main_v4 : IVec S640x27648 32 := Host.shrsi main_v0 main_v3
  let main_c_1 : IVec S_ 32 := constantI S_ 32 3#32
  let main_v5 : IVec S640x27648 32 := broadcastInDim S640x27648 ![] bcast_S_S640x27648 main_c_1
  let main_v6 : IVec S640x27648 32 := andi main_v4 main_v5
  let main_v7 : IVec S640x27648 1 := cmpi .slt main_v2 main_v6
  let main_c_2 : IVec S_ 32 := constantI S_ 32 4#32
  let main_v8 : IVec S640x27648 32 := broadcastInDim S640x27648 ![] bcast_S_S640x27648 main_c_2
  let main_v9 : IVec S640x27648 32 := Host.shrsi main_v0 main_v8
  let main_c_3 : IVec S_ 32 := constantI S_ 32 3#32
  let main_v10 : IVec S640x27648 32 := broadcastInDim S640x27648 ![] bcast_S_S640x27648 main_c_3
  let main_v11 : IVec S640x27648 32 := andi main_v9 main_v10
  let main_c_4 : IVec S_ 32 := constantI S_ 32 6#32
  let main_v12 : IVec S640x27648 32 := broadcastInDim S640x27648 ![] bcast_S_S640x27648 main_c_4
  let main_v13 : IVec S640x27648 32 := Host.shrsi main_v0 main_v12
  let main_c_5 : IVec S_ 32 := constantI S_ 32 3#32
  let main_v14 : IVec S640x27648 32 := broadcastInDim S640x27648 ![] bcast_S_S640x27648 main_c_5
  let main_v15 : IVec S640x27648 32 := andi main_v13 main_v14
  let main_v16 : IVec S640x27648 1 := cmpi .slt main_v11 main_v15
  fn_part1 (F := F) main_v7 main_v16
-- ==== Kernel.lean ====
abbrev S2x1x5120 : Shape := ⟨3, ![2, 1, 5120]⟩
abbrev S2560x13824 : Shape := ⟨2, ![2560, 13824]⟩
abbrev S640x27648 : Shape := ⟨2, ![640, 27648]⟩
abbrev S40x27648 : Shape := ⟨2, ![40, 27648]⟩
abbrev S2x20x2x2x2x2x2x2x4 : Shape := ⟨9, ![2, 20, 2, 2, 2, 2, 2, 2, 4]⟩
abbrev S20x2x2x2x4x2x2x2x2 : Shape := ⟨9, ![20, 2, 2, 2, 4, 2, 2, 2, 2]⟩
abbrev S40x2x128 : Shape := ⟨3, ![40, 2, 128]⟩
abbrev S_ : Shape := ⟨0, ![]⟩
abbrev S40x2x128x1 : Shape := ⟨4, ![40, 2, 128, 1]⟩
abbrev S40x2x128x2 : Shape := ⟨4, ![40, 2, 128, 2]⟩
abbrev S40x2x256 : Shape := ⟨3, ![40, 2, 256]⟩
abbrev S40x12x256 : Shape := ⟨3, ![40, 12, 256]⟩
abbrev S40x16x256 : Shape := ⟨3, ![40, 16, 256]⟩
abbrev S16x13824 : Shape := ⟨2, ![16, 13824]⟩
abbrev S2560x128 : Shape := ⟨2, ![2560, 128]⟩
abbrev S640x512 : Shape := ⟨2, ![640, 512]⟩
abbrev S40x512 : Shape := ⟨2, ![40, 512]⟩
abbrev S16x256 : Shape := ⟨2, ![16, 256]⟩
abbrev S2x24x128 : Shape := ⟨3, ![2, 24, 128]⟩
abbrev S8x128 : Shape := ⟨2, ![8, 128]⟩
abbrev S8x8x128 : Shape := ⟨3, ![8, 8, 128]⟩
abbrev S16x128 : Shape := ⟨2, ![16, 128]⟩
abbrev S16x128x1 : Shape := ⟨3, ![16, 128, 1]⟩
abbrev S1x8x128 : Shape := ⟨3, ![1, 8, 128]⟩
abbrev S128x128 : Shape := ⟨2, ![128, 128]⟩
abbrev S32x128 : Shape := ⟨2, ![32, 128]⟩
abbrev S8x4x128 : Shape := ⟨3, ![8, 4, 128]⟩
abbrev S8x1x128 : Shape := ⟨3, ![8, 1, 128]⟩
abbrev S8x128x1 : Shape := ⟨3, ![8, 128, 1]⟩
abbrev S1x1x128 : Shape := ⟨3, ![1, 1, 128]⟩
abbrev S1x128 : Shape := ⟨2, ![1, 128]⟩
abbrev S64x128 : Shape := ⟨2, ![64, 128]⟩
abbrev S256x128 : Shape := ⟨2, ![256, 128]⟩
abbrev S256x256 : Shape := ⟨2, ![256, 256]⟩
abbrev S1x16x256 : Shape := ⟨3, ![1, 16, 256]⟩
abbrev S4x13824 : Shape := ⟨2, ![4, 13824]⟩
abbrev S2x2x13824 : Shape := ⟨3, ![2, 2, 13824]⟩
abbrev S2x13824x2 : Shape := ⟨3, ![2, 13824, 2]⟩
abbrev S2x1x27648 : Shape := ⟨3, ![2, 1, 27648]⟩

abbrev nBuf : Space → Nat
  | .hbm => 26
  | .vmem => 14
  | .smem => 0
  | _ => 0

abbrev bufTy : (tb : Table) → Fin (tcTables nBuf tb) → BufTy
  | .hbm, ⟨0, _⟩ => ⟨S2x1x5120, .bf16⟩
  | .hbm, ⟨1, _⟩ => ⟨S2560x13824, .i8⟩
  | .hbm, ⟨2, _⟩ => ⟨S640x27648, .i8⟩
  | .hbm, ⟨3, _⟩ => ⟨S40x27648, .bf16⟩
  | .hbm, ⟨4, _⟩ => ⟨S2x20x2x2x2x2x2x2x4, .bf16⟩
  | .hbm, ⟨5, _⟩ => ⟨S20x2x2x2x4x2x2x2x2, .bf16⟩
  | .hbm, ⟨6, _⟩ => ⟨S40x2x128, .bf16⟩
  | .hbm, ⟨7, _⟩ => ⟨S_, .bf16⟩
  | .hbm, ⟨8, _⟩ => ⟨S40x2x128, .bf16⟩
  | .hbm, ⟨9, _⟩ => ⟨S40x2x128x1, .bf16⟩
  | .hbm, ⟨10, _⟩ => ⟨S40x2x128x1, .bf16⟩
  | .hbm, ⟨11, _⟩ => ⟨S40x2x128x2, .bf16⟩
  | .hbm, ⟨12, _⟩ => ⟨S40x2x256, .bf16⟩
  | .hbm, ⟨13, _⟩ => ⟨S40x2x128x1, .bf16⟩
  | .hbm, ⟨14, _⟩ => ⟨S40x2x128x1, .bf16⟩
  | .hbm, ⟨15, _⟩ => ⟨S40x2x128x2, .bf16⟩
  | .hbm, ⟨16, _⟩ => ⟨S40x2x256, .bf16⟩
  | .hbm, ⟨17, _⟩ => ⟨S_, .bf16⟩
  | .hbm, ⟨18, _⟩ => ⟨S40x12x256, .bf16⟩
  | .hbm, ⟨19, _⟩ => ⟨S40x16x256, .bf16⟩
  | .hbm, ⟨20, _⟩ => ⟨S16x13824, .f32⟩
  | .hbm, ⟨21, _⟩ => ⟨S4x13824, .f32⟩
  | .hbm, ⟨22, _⟩ => ⟨S2x2x13824, .f32⟩
  | .hbm, ⟨23, _⟩ => ⟨S2x13824x2, .f32⟩
  | .hbm, ⟨24, _⟩ => ⟨S2x1x27648, .f32⟩
  | .hbm, ⟨25, _⟩ => ⟨S2x1x27648, .bf16⟩
  | .local _ .vmem, ⟨0, _⟩ => ⟨S40x16x256, .bf16⟩
  | .local _ .vmem, ⟨1, _⟩ => ⟨S2560x128, .i8⟩
  | .local _ .vmem, ⟨2, _⟩ => ⟨S2560x128, .i8⟩
  | .local _ .vmem, ⟨3, _⟩ => ⟨S2560x128, .i8⟩
  | .local _ .vmem, ⟨4, _⟩ => ⟨S2560x128, .i8⟩
  | .local _ .vmem, ⟨5, _⟩ => ⟨S640x512, .i8⟩
  | .local _ .vmem, ⟨6, _⟩ => ⟨S640x512, .i8⟩
  | .local _ .vmem, ⟨7, _⟩ => ⟨S40x512, .bf16⟩
  | .local _ .vmem, ⟨8, _⟩ => ⟨S40x512, .bf16⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S2x24x128, .i32⟩
  | .local _ .vmem, ⟨13, _⟩ => ⟨S2x24x128, .i32⟩
  | _, _ => ⟨S2x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![54], ![false]⟩

@[reducible] def k0_t1_loop : Scf.Loop 32 :=
  let c0_i32_184 : BitVec 32 := 0#32
  let c20_i32 : BitVec 32 := 20#32
  let v507 : BitVec 32 := Scalar.addi c0_i32_184 c20_i32
  let c1_i32_185 : BitVec 32 := 1#32
  ⟨c0_i32_184, v507, c1_i32_185⟩
def k0_mult1 (k0_t1 : Fin k0_t1_loop.trips) : BitVec 32 :=
  let c128_i32_191 : BitVec 32 := 128#32
  let c0_i32_184 : BitVec 32 := 0#32
  let c1_i32_185 : BitVec 32 := 1#32
  let arg10 : BitVec 32 := Scf.iv c0_i32_184 c1_i32_185 k0_t1
  let v510 : BitVec 32 := Scalar.muli c128_i32_191 arg10
  v510
def k0_off1 (k0_t1 : Fin k0_t1_loop.trips) : Fin 2 → Nat :=
  let c128_i32_191 : BitVec 32 := 128#32
  let c0_i32_184 : BitVec 32 := 0#32
  let c1_i32_185 : BitVec 32 := 1#32
  let arg10 : BitVec 32 := Scf.iv c0_i32_184 c1_i32_185 k0_t1
  let v510 : BitVec 32 := Scalar.muli c128_i32_191 arg10
  let v511 : BitVec 32 := v510
  let v512 : Index := Scalar.indexCast v511
  let c0_192 : Index := 0#32
  ![v512.toNat, 0]
def k0_mult2 (k0_t1 : Fin k0_t1_loop.trips) : BitVec 32 :=
  let c32_i32 : BitVec 32 := 32#32
  let c0_i32_184 : BitVec 32 := 0#32
  let c1_i32_185 : BitVec 32 := 1#32
  let arg10 : BitVec 32 := Scf.iv c0_i32_184 c1_i32_185 k0_t1
  let v535 : BitVec 32 := Scalar.muli c32_i32 arg10
  v535
def k0_off2 (k0_t1 : Fin k0_t1_loop.trips) : Fin 2 → Nat :=
  let c32_i32 : BitVec 32 := 32#32
  let c0_i32_184 : BitVec 32 := 0#32
  let c1_i32_185 : BitVec 32 := 1#32
  let arg10 : BitVec 32 := Scf.iv c0_i32_184 c1_i32_185 k0_t1
  let v535 : BitVec 32 := Scalar.muli c32_i32 arg10
  let v536 : BitVec 32 := v535
  let v537 : Index := Scalar.indexCast v536
  let c0_196 : Index := 0#32
  ![v537.toNat, 0]
def k0_off3 (k0_t1 : Fin k0_t1_loop.trips) : Fin 2 → Nat :=
  let c32_i32 : BitVec 32 := 32#32
  let c0_i32_184 : BitVec 32 := 0#32
  let c1_i32_185 : BitVec 32 := 1#32
  let arg10 : BitVec 32 := Scf.iv c0_i32_184 c1_i32_185 k0_t1
  let v535 : BitVec 32 := Scalar.muli c32_i32 arg10
  let v536 : BitVec 32 := v535
  let v540 : Index := Scalar.indexCast v536
  let c128_197 : Index := 128#32
  ![v540.toNat, 128]
def k0_off4 (k0_t1 : Fin k0_t1_loop.trips) : Fin 3 → Nat :=
  let c0_254 : Index := 0#32
  let c0_i32_184 : BitVec 32 := 0#32
  let c1_i32_185 : BitVec 32 := 1#32
  let arg10 : BitVec 32 := Scf.iv c0_i32_184 c1_i32_185 k0_t1
  let v714 : Index := Scalar.indexCast arg10
  let c0_255 : Index := 0#32
  ![0, v714.toNat, 0]
def k0_mult3 (k0_t1 : Fin k0_t1_loop.trips) : BitVec 32 :=
  let c128_i32_266 : BitVec 32 := 128#32
  let c0_i32_184 : BitVec 32 := 0#32
  let c1_i32_185 : BitVec 32 := 1#32
  let arg10 : BitVec 32 := Scf.iv c0_i32_184 c1_i32_185 k0_t1
  let v854 : BitVec 32 := Scalar.muli c128_i32_266 arg10
  v854
def k0_mult4 (k0_t1 : Fin k0_t1_loop.trips) : BitVec 32 :=
  let c32_i32_272 : BitVec 32 := 32#32
  let c0_i32_184 : BitVec 32 := 0#32
  let c1_i32_185 : BitVec 32 := 1#32
  let arg10 : BitVec 32 := Scf.iv c0_i32_184 c1_i32_185 k0_t1
  let v879 : BitVec 32 := Scalar.muli c32_i32_272 arg10
  v879
def k0_off5 (k0_t1 : Fin k0_t1_loop.trips) : Fin 2 → Nat :=
  let c32_i32_272 : BitVec 32 := 32#32
  let c0_i32_184 : BitVec 32 := 0#32
  let c1_i32_185 : BitVec 32 := 1#32
  let arg10 : BitVec 32 := Scf.iv c0_i32_184 c1_i32_185 k0_t1
  let v879 : BitVec 32 := Scalar.muli c32_i32_272 arg10
  let v880 : BitVec 32 := v879
  let v881 : Index := Scalar.indexCast v880
  let c256_273 : Index := 256#32
  ![v881.toNat, 256]
def k0_off6 (k0_t1 : Fin k0_t1_loop.trips) : Fin 2 → Nat :=
  let c32_i32_272 : BitVec 32 := 32#32
  let c0_i32_184 : BitVec 32 := 0#32
  let c1_i32_185 : BitVec 32 := 1#32
  let arg10 : BitVec 32 := Scf.iv c0_i32_184 c1_i32_185 k0_t1
  let v879 : BitVec 32 := Scalar.muli c32_i32_272 arg10
  let v880 : BitVec 32 := v879
  let v884 : Index := Scalar.indexCast v880
  let c384_274 : Index := 384#32
  ![v884.toNat, 384]
def k0_off7 (k0_t1 : Fin k0_t1_loop.trips) : Fin 3 → Nat :=
  let c1_337 : Index := 1#32
  let c0_i32_184 : BitVec 32 := 0#32
  let c1_i32_185 : BitVec 32 := 1#32
  let arg10 : BitVec 32 := Scf.iv c0_i32_184 c1_i32_185 k0_t1
  let v1058 : Index := Scalar.indexCast arg10
  let c0_338 : Index := 0#32
  ![1, v1058.toNat, 0]
def k0_off8 (k0_t1 : Fin k0_t1_loop.trips) (c0_i32_350 : BitVec 32) : Fin 3 → Nat :=
  let c2_i32_349 : BitVec 32 := 2#32
  let c0_i32_184 : BitVec 32 := 0#32
  let c1_i32_185 : BitVec 32 := 1#32
  let arg10 : BitVec 32 := Scf.iv c0_i32_184 c1_i32_185 k0_t1
  let v1199 : BitVec 32 := Scalar.muli c2_i32_349 arg10
  let v1200 : BitVec 32 := Scalar.addi v1199 c0_i32_350
  let v1201 : Index := Scalar.indexCast v1200
  let c0_351 : Index := 0#32
  let c0_352 : Index := 0#32
  ![v1201.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x16x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S2x1x5120 : Shape := ⟨3, ![2, 1, 5120]⟩
abbrev S2560x13824 : Shape := ⟨2, ![2560, 13824]⟩
abbrev S640x27648 : Shape := ⟨2, ![640, 27648]⟩
abbrev S40x27648 : Shape := ⟨2, ![40, 27648]⟩
abbrev S2x20x2x2x2x2x2x2x4 : Shape := ⟨9, ![2, 20, 2, 2, 2, 2, 2, 2, 4]⟩
abbrev S20x2x2x2x4x2x2x2x2 : Shape := ⟨9, ![20, 2, 2, 2, 4, 2, 2, 2, 2]⟩
abbrev S40x2x128 : Shape := ⟨3, ![40, 2, 128]⟩
abbrev S_ : Shape := ⟨0, ![]⟩
abbrev S40x2x128x1 : Shape := ⟨4, ![40, 2, 128, 1]⟩
abbrev S40x2x128x2 : Shape := ⟨4, ![40, 2, 128, 2]⟩
abbrev S40x2x256 : Shape := ⟨3, ![40, 2, 256]⟩
abbrev S40x12x256 : Shape := ⟨3, ![40, 12, 256]⟩
abbrev S40x16x256 : Shape := ⟨3, ![40, 16, 256]⟩
abbrev S16x13824 : Shape := ⟨2, ![16, 13824]⟩
abbrev S2560x128 : Shape := ⟨2, ![2560, 128]⟩
abbrev S640x512 : Shape := ⟨2, ![640, 512]⟩
abbrev S40x512 : Shape := ⟨2, ![40, 512]⟩
abbrev S16x256 : Shape := ⟨2, ![16, 256]⟩
abbrev S2x24x128 : Shape := ⟨3, ![2, 24, 128]⟩
abbrev S2x24x2x128 : Shape := ⟨4, ![2, 24, 2, 128]⟩
abbrev S2x24x1x128 : Shape := ⟨4, ![2, 24, 1, 128]⟩
abbrev S8x128 : Shape := ⟨2, ![8, 128]⟩
abbrev S8x8x128 : Shape := ⟨3, ![8, 8, 128]⟩
abbrev S16x128 : Shape := ⟨2, ![16, 128]⟩
abbrev S16x128x1 : Shape := ⟨3, ![16, 128, 1]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S128x128 : Shape := ⟨2, ![128, 128]⟩
abbrev S32x128 : Shape := ⟨2, ![32, 128]⟩
abbrev S8x4x128 : Shape := ⟨3, ![8, 4, 128]⟩
abbrev S8x1x128 : Shape := ⟨3, ![8, 1, 128]⟩
abbrev S8x128x1 : Shape := ⟨3, ![8, 128, 1]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S64x128 : Shape := ⟨2, ![64, 128]⟩
abbrev S256x128 : Shape := ⟨2, ![256, 128]⟩
abbrev S256x256 : Shape := ⟨2, ![256, 256]⟩
abbrev S1x16x256 : Shape := ⟨3, ![1, 16, 256]⟩
abbrev S4x13824 : Shape := ⟨2, ![4, 13824]⟩
abbrev S2x2x13824 : Shape := ⟨3, ![2, 2, 13824]⟩
abbrev S2x13824x2 : Shape := ⟨3, ![2, 13824, 2]⟩
abbrev S2x1x27648 : Shape := ⟨3, ![2, 1, 27648]⟩

abbrev nBuf : Space → Nat
  | .hbm => 26
  | .vmem => 14
  | .smem => 0
  | _ => 0

abbrev bufTy : (tb : Table) → Fin (tcTables nBuf tb) → BufTy
  | .hbm, ⟨0, _⟩ => ⟨S2x1x5120, .bf16⟩
  | .hbm, ⟨1, _⟩ => ⟨S2560x13824, .i8⟩
  | .hbm, ⟨2, _⟩ => ⟨S640x27648, .i8⟩
  | .hbm, ⟨3, _⟩ => ⟨S40x27648, .bf16⟩
  | .hbm, ⟨4, _⟩ => ⟨S2x20x2x2x2x2x2x2x4, .bf16⟩
  | .hbm, ⟨5, _⟩ => ⟨S20x2x2x2x4x2x2x2x2, .bf16⟩
  | .hbm, ⟨6, _⟩ => ⟨S40x2x128, .bf16⟩
  | .hbm, ⟨7, _⟩ => ⟨S_, .bf16⟩
  | .hbm, ⟨8, _⟩ => ⟨S40x2x128, .bf16⟩
  | .hbm, ⟨9, _⟩ => ⟨S40x2x128x1, .bf16⟩
  | .hbm, ⟨10, _⟩ => ⟨S40x2x128x1, .bf16⟩
  | .hbm, ⟨11, _⟩ => ⟨S40x2x128x2, .bf16⟩
  | .hbm, ⟨12, _⟩ => ⟨S40x2x256, .bf16⟩
  | .hbm, ⟨13, _⟩ => ⟨S40x2x128x1, .bf16⟩
  | .hbm, ⟨14, _⟩ => ⟨S40x2x128x1, .bf16⟩
  | .hbm, ⟨15, _⟩ => ⟨S40x2x128x2, .bf16⟩
  | .hbm, ⟨16, _⟩ => ⟨S40x2x256, .bf16⟩
  | .hbm, ⟨17, _⟩ => ⟨S_, .bf16⟩
  | .hbm, ⟨18, _⟩ => ⟨S40x12x256, .bf16⟩
  | .hbm, ⟨19, _⟩ => ⟨S40x16x256, .bf16⟩
  | .hbm, ⟨20, _⟩ => ⟨S16x13824, .f32⟩
  | .hbm, ⟨21, _⟩ => ⟨S4x13824, .f32⟩
  | .hbm, ⟨22, _⟩ => ⟨S2x2x13824, .f32⟩
  | .hbm, ⟨23, _⟩ => ⟨S2x13824x2, .f32⟩
  | .hbm, ⟨24, _⟩ => ⟨S2x1x27648, .f32⟩
  | .hbm, ⟨25, _⟩ => ⟨S2x1x27648, .bf16⟩
  | .local _ .vmem, ⟨0, _⟩ => ⟨S40x16x256, .bf16⟩
  | .local _ .vmem, ⟨1, _⟩ => ⟨S2560x128, .i8⟩
  | .local _ .vmem, ⟨2, _⟩ => ⟨S2560x128, .i8⟩
  | .local _ .vmem, ⟨3, _⟩ => ⟨S2560x128, .i8⟩
  | .local _ .vmem, ⟨4, _⟩ => ⟨S2560x128, .i8⟩
  | .local _ .vmem, ⟨5, _⟩ => ⟨S640x512, .i8⟩
  | .local _ .vmem, ⟨6, _⟩ => ⟨S640x512, .i8⟩
  | .local _ .vmem, ⟨7, _⟩ => ⟨S40x512, .bf16⟩
  | .local _ .vmem, ⟨8, _⟩ => ⟨S40x512, .bf16⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S2x24x2x128, .bf16⟩
  | .local _ .vmem, ⟨13, _⟩ => ⟨S2x24x2x128, .bf16⟩
  | _, _ => ⟨S2x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![54], ![false]⟩

@[reducible] def k0_t1_loop : Scf.Loop 32 :=
  let c0_i32_184 : BitVec 32 := 0#32
  let c20_i32 : BitVec 32 := 20#32
  let v507 : BitVec 32 := Scalar.addi c0_i32_184 c20_i32
  let c1_i32_185 : BitVec 32 := 1#32
  ⟨c0_i32_184, v507, c1_i32_185⟩
def k0_mult1 (k0_t1 : Fin k0_t1_loop.trips) : BitVec 32 :=
  let c128_i32_191 : BitVec 32 := 128#32
  let c0_i32_184 : BitVec 32 := 0#32
  let c1_i32_185 : BitVec 32 := 1#32
  let arg10 : BitVec 32 := Scf.iv c0_i32_184 c1_i32_185 k0_t1
  let v510 : BitVec 32 := Scalar.muli c128_i32_191 arg10
  v510
def k0_off1 (k0_t1 : Fin k0_t1_loop.trips) : Fin 2 → Nat :=
  let c128_i32_191 : BitVec 32 := 128#32
  let c0_i32_184 : BitVec 32 := 0#32
  let c1_i32_185 : BitVec 32 := 1#32
  let arg10 : BitVec 32 := Scf.iv c0_i32_184 c1_i32_185 k0_t1
  let v510 : BitVec 32 := Scalar.muli c128_i32_191 arg10
  let v511 : BitVec 32 := v510
  let v512 : Index := Scalar.indexCast v511
  let c0_192 : Index := 0#32
  ![v512.toNat, 0]
def k0_mult2 (k0_t1 : Fin k0_t1_loop.trips) : BitVec 32 :=
  let c32_i32 : BitVec 32 := 32#32
  let c0_i32_184 : BitVec 32 := 0#32
  let c1_i32_185 : BitVec 32 := 1#32
  let arg10 : BitVec 32 := Scf.iv c0_i32_184 c1_i32_185 k0_t1
  let v535 : BitVec 32 := Scalar.muli c32_i32 arg10
  v535
def k0_off2 (k0_t1 : Fin k0_t1_loop.trips) : Fin 2 → Nat :=
  let c32_i32 : BitVec 32 := 32#32
  let c0_i32_184 : BitVec 32 := 0#32
  let c1_i32_185 : BitVec 32 := 1#32
  let arg10 : BitVec 32 := Scf.iv c0_i32_184 c1_i32_185 k0_t1
  let v535 : BitVec 32 := Scalar.muli c32_i32 arg10
  let v536 : BitVec 32 := v535
  let v537 : Index := Scalar.indexCast v536
  let c0_196 : Index := 0#32
  ![v537.toNat, 0]
def k0_off3 (k0_t1 : Fin k0_t1_loop.trips) : Fin 2 → Nat :=
  let c32_i32 : BitVec 32 := 32#32
  let c0_i32_184 : BitVec 32 := 0#32
  let c1_i32_185 : BitVec 32 := 1#32
  let arg10 : BitVec 32 := Scf.iv c0_i32_184 c1_i32_185 k0_t1
  let v535 : BitVec 32 := Scalar.muli c32_i32 arg10
  let v536 : BitVec 32 := v535
  let v540 : Index := Scalar.indexCast v536
  let c128_197 : Index := 128#32
  ![v540.toNat, 128]
def k0_off4 (k0_t1 : Fin k0_t1_loop.trips) : Fin 4 → Nat :=
  let c0_254 : Index := 0#32
  let c0_i32_184 : BitVec 32 := 0#32
  let c1_i32_185 : BitVec 32 := 1#32
  let arg10 : BitVec 32 := Scf.iv c0_i32_184 c1_i32_185 k0_t1
  let v714 : Index := Scalar.indexCast arg10
  let c0_255 : Index := 0#32
  ![0, v714.toNat, 0, 0]
def k0_mult3 (k0_t1 : Fin k0_t1_loop.trips) : BitVec 32 :=
  let c128_i32_266 : BitVec 32 := 128#32
  let c0_i32_184 : BitVec 32 := 0#32
  let c1_i32_185 : BitVec 32 := 1#32
  let arg10 : BitVec 32 := Scf.iv c0_i32_184 c1_i32_185 k0_t1
  let v854 : BitVec 32 := Scalar.muli c128_i32_266 arg10
  v854
def k0_mult4 (k0_t1 : Fin k0_t1_loop.trips) : BitVec 32 :=
  let c32_i32_272 : BitVec 32 := 32#32
  let c0_i32_184 : BitVec 32 := 0#32
  let c1_i32_185 : BitVec 32 := 1#32
  let arg10 : BitVec 32 := Scf.iv c0_i32_184 c1_i32_185 k0_t1
  let v879 : BitVec 32 := Scalar.muli c32_i32_272 arg10
  v879
def k0_off5 (k0_t1 : Fin k0_t1_loop.trips) : Fin 2 → Nat :=
  let c32_i32_272 : BitVec 32 := 32#32
  let c0_i32_184 : BitVec 32 := 0#32
  let c1_i32_185 : BitVec 32 := 1#32
  let arg10 : BitVec 32 := Scf.iv c0_i32_184 c1_i32_185 k0_t1
  let v879 : BitVec 32 := Scalar.muli c32_i32_272 arg10
  let v880 : BitVec 32 := v879
  let v881 : Index := Scalar.indexCast v880
  let c256_273 : Index := 256#32
  ![v881.toNat, 256]
def k0_off6 (k0_t1 : Fin k0_t1_loop.trips) : Fin 2 → Nat :=
  let c32_i32_272 : BitVec 32 := 32#32
  let c0_i32_184 : BitVec 32 := 0#32
  let c1_i32_185 : BitVec 32 := 1#32
  let arg10 : BitVec 32 := Scf.iv c0_i32_184 c1_i32_185 k0_t1
  let v879 : BitVec 32 := Scalar.muli c32_i32_272 arg10
  let v880 : BitVec 32 := v879
  let v884 : Index := Scalar.indexCast v880
  let c384_274 : Index := 384#32
  ![v884.toNat, 384]
def k0_off7 (k0_t1 : Fin k0_t1_loop.trips) : Fin 4 → Nat :=
  let c1_337 : Index := 1#32
  let c0_i32_184 : BitVec 32 := 0#32
  let c1_i32_185 : BitVec 32 := 1#32
  let arg10 : BitVec 32 := Scf.iv c0_i32_184 c1_i32_185 k0_t1
  let v1058 : Index := Scalar.indexCast arg10
  let c0_338 : Index := 0#32
  ![1, v1058.toNat, 0, 0]
def k0_off8 (k0_t1 : Fin k0_t1_loop.trips) (c0_i32_350 : BitVec 32) : Fin 3 → Nat :=
  let c2_i32_349 : BitVec 32 := 2#32
  let c0_i32_184 : BitVec 32 := 0#32
  let c1_i32_185 : BitVec 32 := 1#32
  let arg10 : BitVec 32 := Scf.iv c0_i32_184 c1_i32_185 k0_t1
  let v1199 : BitVec 32 := Scalar.muli c2_i32_349 arg10
  let v1200 : BitVec 32 := Scalar.addi v1199 c0_i32_350
  let v1201 : Index := Scalar.indexCast v1200
  let c0_351 : Index := 0#32
  let c0_352 : Index := 0#32
  ![v1201.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x16x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x1x5120 : Shape := ⟨3, ![2, 1, 5120]⟩
abbrev S2560x13824 : Shape := ⟨2, ![2560, 13824]⟩
abbrev S640x27648 : Shape := ⟨2, ![640, 27648]⟩
abbrev S40x27648 : Shape := ⟨2, ![40, 27648]⟩
abbrev S2x1x640x2x4 : Shape := ⟨5, ![2, 1, 640, 2, 4]⟩
abbrev S640x2x2x13824 : Shape := ⟨4, ![640, 2, 2, 13824]⟩
abbrev S_ : Shape := ⟨0, ![]⟩
abbrev S40x13824 : Shape := ⟨2, ![40, 13824]⟩
abbrev S40x16x13824 : Shape := ⟨3, ![40, 16, 13824]⟩
abbrev S640x13824 : Shape := ⟨2, ![640, 13824]⟩
abbrev S640x1x1x13824 : Shape := ⟨4, ![640, 1, 1, 13824]⟩
abbrev S2x1x640x1x1 : Shape := ⟨5, ![2, 1, 640, 1, 1]⟩
abbrev S2x1x640 : Shape := ⟨3, ![2, 1, 640]⟩
abbrev S2x1x13824 : Shape := ⟨3, ![2, 1, 13824]⟩
abbrev S2x1x13824x1 : Shape := ⟨4, ![2, 1, 13824, 1]⟩
abbrev S2x1x13824x2 : Shape := ⟨4, ![2, 1, 13824, 2]⟩
abbrev S2x1x27648 : Shape := ⟨3, ![2, 1, 27648]⟩

abbrev nBuf : Space → Nat
  | .hbm => 333
  | .vmem => 0
  | .smem => 0
  | _ => 0

abbrev hbmTy0_0 (i : Nat) : BufTy := match i % 128 with
  | 0 => ⟨S2x1x5120, .bf16⟩
  | 1 => ⟨S2560x13824, .i8⟩
  | 2 => ⟨S640x27648, .i8⟩
  | 3 => ⟨S40x27648, .bf16⟩
  | 4 => ⟨S2x1x640x2x4, .bf16⟩
  | 5 => ⟨S2560x13824, .i32⟩
  | 6 => ⟨S640x2x2x13824, .i32⟩
  | 7 => ⟨S640x27648, .i32⟩
  | 8 => ⟨S_, .i32⟩
  | 9 => ⟨S640x2x2x13824, .i32⟩
  | 10 => ⟨S640x2x2x13824, .i32⟩
  | 11 => ⟨S_, .i32⟩
  | 12 => ⟨S640x2x2x13824, .i32⟩
  | 13 => ⟨S640x2x2x13824, .i32⟩
  | 14 => ⟨S40x13824, .bf16⟩
  | 15 => ⟨S40x16x13824, .bf16⟩
  | 16 => ⟨S640x13824, .bf16⟩
  | 17 => ⟨S640x2x2x13824, .bf16⟩
  | 18 => ⟨S_, .bf16⟩
  | 19 => ⟨S640x2x2x13824, .bf16⟩
  | 20 => ⟨S640x2x2x13824, .bf16⟩
  | 21 => ⟨S640x1x1x13824, .bf16⟩
  | 22 => ⟨S640x2x2x13824, .bf16⟩
  | 23 => ⟨S640x2x2x13824, .bf16⟩
  | 24 => ⟨S640x13824, .i32⟩
  | 25 => ⟨S_, .i32⟩
  | 26 => ⟨S640x13824, .i32⟩
  | 27 => ⟨S640x13824, .i32⟩
  | 28 => ⟨S_, .i32⟩
  | 29 => ⟨S640x13824, .i32⟩
  | 30 => ⟨S640x13824, .i32⟩
  | 31 => ⟨S_, .i32⟩
  | 32 => ⟨S640x13824, .i32⟩
  | 33 => ⟨S640x13824, .i32⟩
  | 34 => ⟨S_, .i32⟩
  | 35 => ⟨S640x13824, .i32⟩
  | 36 => ⟨S640x13824, .i32⟩
  | 37 => ⟨S640x1x1x13824, .bf16⟩
  | 38 => ⟨S640x13824, .bf16⟩
  | 39 => ⟨S640x1x1x13824, .bf16⟩
  | 40 => ⟨S640x13824, .bf16⟩
  | 41 => ⟨S_, .i32⟩
  | 42 => ⟨S640x13824, .i32⟩
  | 43 => ⟨S640x13824, .i1⟩
  | 44 => ⟨S_, .i32⟩
  | 45 => ⟨S640x13824, .i32⟩
  | 46 => ⟨S640x13824, .i1⟩
  | 47 => ⟨S_, .bf16⟩
  | 48 => ⟨S640x13824, .bf16⟩
  | 49 => ⟨S640x13824, .bf16⟩
  | 50 => ⟨S640x13824, .bf16⟩
  | 51 => ⟨S2x1x640x1x1, .bf16⟩
  | 52 => ⟨S2x1x640, .bf16⟩
  | 53 => ⟨S2x1x13824, .f32⟩
  | 54 => ⟨S_, .i32⟩
  | 55 => ⟨S640x13824, .i32⟩
  | 56 => ⟨S640x13824, .i1⟩
  | 57 => ⟨S_, .i32⟩
  | 58 => ⟨S640x13824, .i32⟩
  | 59 => ⟨S640x13824, .i1⟩
  | 60 => ⟨S_, .bf16⟩
  | 61 => ⟨S640x13824, .bf16⟩
  | 62 => ⟨S640x13824, .bf16⟩
  | 63 => ⟨S640x13824, .bf16⟩
  | 64 => ⟨S2x1x640x1x1, .bf16⟩
  | 65 => ⟨S2x1x640, .bf16⟩
  | 66 => ⟨S2x1x13824, .f32⟩
  | 67 => ⟨S2x1x13824, .f32⟩
  | 68 => ⟨S_, .i32⟩
  | 69 => ⟨S640x13824, .i32⟩
  | 70 => ⟨S640x13824, .i1⟩
  | 71 => ⟨S_, .i32⟩
  | 72 => ⟨S640x13824, .i32⟩
  | 73 => ⟨S640x13824, .i1⟩
  | 74 => ⟨S_, .bf16⟩
  | 75 => ⟨S640x13824, .bf16⟩
  | 76 => ⟨S640x13824, .bf16⟩
  | 77 => ⟨S640x13824, .bf16⟩
  | 78 => ⟨S2x1x640x1x1, .bf16⟩
  | 79 => ⟨S2x1x640, .bf16⟩
  | 80 => ⟨S2x1x13824, .f32⟩
  | 81 => ⟨S2x1x13824, .f32⟩
  | 82 => ⟨S_, .i32⟩
  | 83 => ⟨S640x13824, .i32⟩
  | 84 => ⟨S640x13824, .i1⟩
  | 85 => ⟨S_, .i32⟩
  | 86 => ⟨S640x13824, .i32⟩
  | 87 => ⟨S640x13824, .i1⟩
  | 88 => ⟨S_, .bf16⟩
  | 89 => ⟨S640x13824, .bf16⟩
  | 90 => ⟨S640x13824, .bf16⟩
  | 91 => ⟨S640x13824, .bf16⟩
  | 92 => ⟨S2x1x640x1x1, .bf16⟩
  | 93 => ⟨S2x1x640, .bf16⟩
  | 94 => ⟨S2x1x13824, .f32⟩
  | 95 => ⟨S2x1x13824, .f32⟩
  | 96 => ⟨S_, .i32⟩
  | 97 => ⟨S640x13824, .i32⟩
  | 98 => ⟨S640x13824, .i32⟩
  | 99 => ⟨S_, .i32⟩
  | 100 => ⟨S640x13824, .i32⟩
  | 101 => ⟨S640x13824, .i32⟩
  | 102 => ⟨S_, .i32⟩
  | 103 => ⟨S640x13824, .i32⟩
  | 104 => ⟨S640x13824, .i32⟩
  | 105 => ⟨S_, .i32⟩
  | 106 => ⟨S640x13824, .i32⟩
  | 107 => ⟨S640x13824, .i32⟩
  | 108 => ⟨S640x1x1x13824, .bf16⟩
  | 109 => ⟨S640x13824, .bf16⟩
  | 110 => ⟨S640x1x1x13824, .bf16⟩
  | 111 => ⟨S640x13824, .bf16⟩
  | 112 => ⟨S_, .i32⟩
  | 113 => ⟨S640x13824, .i32⟩
  | 114 => ⟨S640x13824, .i1⟩
  | 115 => ⟨S_, .i32⟩
  | 116 => ⟨S640x13824, .i32⟩
  | 117 => ⟨S640x13824, .i1⟩
  | 118 => ⟨S_, .bf16⟩
  | 119 => ⟨S640x13824, .bf16⟩
  | 120 => ⟨S640x13824, .bf16⟩
  | 121 => ⟨S640x13824, .bf16⟩
  | 122 => ⟨S2x1x640x1x1, .bf16⟩
  | 123 => ⟨S2x1x640, .bf16⟩
  | 124 => ⟨S2x1x13824, .f32⟩
  | 125 => ⟨S2x1x13824, .f32⟩
  | 126 => ⟨S_, .i32⟩
  | 127 => ⟨S640x13824, .i32⟩
  | _ => ⟨S2x1x5120, .bf16⟩

abbrev hbmTy0_1 (i : Nat) : BufTy := match i % 128 with
  | 0 => ⟨S640x13824, .i1⟩
  | 1 => ⟨S_, .i32⟩
  | 2 => ⟨S640x13824, .i32⟩
  | 3 => ⟨S640x13824, .i1⟩
  | 4 => ⟨S_, .bf16⟩
  | 5 => ⟨S640x13824, .bf16⟩
  | 6 => ⟨S640x13824, .bf16⟩
  | 7 => ⟨S640x13824, .bf16⟩
  | 8 => ⟨S2x1x640x1x1, .bf16⟩
  | 9 => ⟨S2x1x640, .bf16⟩
  | 10 => ⟨S2x1x13824, .f32⟩
  | 11 => ⟨S2x1x13824, .f32⟩
  | 12 => ⟨S_, .i32⟩
  | 13 => ⟨S640x13824, .i32⟩
  | 14 => ⟨S640x13824, .i1⟩
  | 15 => ⟨S_, .i32⟩
  | 16 => ⟨S640x13824, .i32⟩
  | 17 => ⟨S640x13824, .i1⟩
  | 18 => ⟨S_, .bf16⟩
  | 19 => ⟨S640x13824, .bf16⟩
  | 20 => ⟨S640x13824, .bf16⟩
  | 21 => ⟨S640x13824, .bf16⟩
  | 22 => ⟨S2x1x640x1x1, .bf16⟩
  | 23 => ⟨S2x1x640, .bf16⟩
  | 24 => ⟨S2x1x13824, .f32⟩
  | 25 => ⟨S2x1x13824, .f32⟩
  | 26 => ⟨S_, .i32⟩
  | 27 => ⟨S640x13824, .i32⟩
  | 28 => ⟨S640x13824, .i1⟩
  | 29 => ⟨S_, .i32⟩
  | 30 => ⟨S640x13824, .i32⟩
  | 31 => ⟨S640x13824, .i1⟩
  | 32 => ⟨S_, .bf16⟩
  | 33 => ⟨S640x13824, .bf16⟩
  | 34 => ⟨S640x13824, .bf16⟩
  | 35 => ⟨S640x13824, .bf16⟩
  | 36 => ⟨S2x1x640x1x1, .bf16⟩
  | 37 => ⟨S2x1x640, .bf16⟩
  | 38 => ⟨S2x1x13824, .f32⟩
  | 39 => ⟨S2x1x13824, .f32⟩
  | 40 => ⟨S_, .i32⟩
  | 41 => ⟨S640x2x2x13824, .i32⟩
  | 42 => ⟨S640x2x2x13824, .i32⟩
  | 43 => ⟨S_, .i32⟩
  | 44 => ⟨S640x2x2x13824, .i32⟩
  | 45 => ⟨S640x2x2x13824, .i32⟩
  | 46 => ⟨S40x13824, .bf16⟩
  | 47 => ⟨S40x16x13824, .bf16⟩
  | 48 => ⟨S640x13824, .bf16⟩
  | 49 => ⟨S640x2x2x13824, .bf16⟩
  | 50 => ⟨S_, .bf16⟩
  | 51 => ⟨S640x2x2x13824, .bf16⟩
  | 52 => ⟨S640x2x2x13824, .bf16⟩
  | 53 => ⟨S640x1x1x13824, .bf16⟩
  | 54 => ⟨S640x2x2x13824, .bf16⟩
  | 55 => ⟨S640x2x2x13824, .bf16⟩
  | 56 => ⟨S640x13824, .i32⟩
  | 57 => ⟨S_, .i32⟩
  | 58 => ⟨S640x13824, .i32⟩
  | 59 => ⟨S640x13824, .i32⟩
  | 60 => ⟨S_, .i32⟩
  | 61 => ⟨S640x13824, .i32⟩
  | 62 => ⟨S640x13824, .i32⟩
  | 63 => ⟨S_, .i32⟩
  | 64 => ⟨S640x13824, .i32⟩
  | 65 => ⟨S640x13824, .i32⟩
  | 66 => ⟨S_, .i32⟩
  | 67 => ⟨S640x13824, .i32⟩
  | 68 => ⟨S640x13824, .i32⟩
  | 69 => ⟨S640x1x1x13824, .bf16⟩
  | 70 => ⟨S640x13824, .bf16⟩
  | 71 => ⟨S640x1x1x13824, .bf16⟩
  | 72 => ⟨S640x13824, .bf16⟩
  | 73 => ⟨S_, .i32⟩
  | 74 => ⟨S640x13824, .i32⟩
  | 75 => ⟨S640x13824, .i1⟩
  | 76 => ⟨S_, .i32⟩
  | 77 => ⟨S640x13824, .i32⟩
  | 78 => ⟨S640x13824, .i1⟩
  | 79 => ⟨S_, .bf16⟩
  | 80 => ⟨S640x13824, .bf16⟩
  | 81 => ⟨S640x13824, .bf16⟩
  | 82 => ⟨S640x13824, .bf16⟩
  | 83 => ⟨S2x1x640x1x1, .bf16⟩
  | 84 => ⟨S2x1x640, .bf16⟩
  | 85 => ⟨S2x1x13824, .f32⟩
  | 86 => ⟨S_, .i32⟩
  | 87 => ⟨S640x13824, .i32⟩
  | 88 => ⟨S640x13824, .i1⟩
  | 89 => ⟨S_, .i32⟩
  | 90 => ⟨S640x13824, .i32⟩
  | 91 => ⟨S640x13824, .i1⟩
  | 92 => ⟨S_, .bf16⟩
  | 93 => ⟨S640x13824, .bf16⟩
  | 94 => ⟨S640x13824, .bf16⟩
  | 95 => ⟨S640x13824, .bf16⟩
  | 96 => ⟨S2x1x640x1x1, .bf16⟩
  | 97 => ⟨S2x1x640, .bf16⟩
  | 98 => ⟨S2x1x13824, .f32⟩
  | 99 => ⟨S2x1x13824, .f32⟩
  | 100 => ⟨S_, .i32⟩
  | 101 => ⟨S640x13824, .i32⟩
  | 102 => ⟨S640x13824, .i1⟩
  | 103 => ⟨S_, .i32⟩
  | 104 => ⟨S640x13824, .i32⟩
  | 105 => ⟨S640x13824, .i1⟩
  | 106 => ⟨S_, .bf16⟩
  | 107 => ⟨S640x13824, .bf16⟩
  | 108 => ⟨S640x13824, .bf16⟩
  | 109 => ⟨S640x13824, .bf16⟩
  | 110 => ⟨S2x1x640x1x1, .bf16⟩
  | 111 => ⟨S2x1x640, .bf16⟩
  | 112 => ⟨S2x1x13824, .f32⟩
  | 113 => ⟨S2x1x13824, .f32⟩
  | 114 => ⟨S_, .i32⟩
  | 115 => ⟨S640x13824, .i32⟩
  | 116 => ⟨S640x13824, .i1⟩
  | 117 => ⟨S_, .i32⟩
  | 118 => ⟨S640x13824, .i32⟩
  | 119 => ⟨S640x13824, .i1⟩
  | 120 => ⟨S_, .bf16⟩
  | 121 => ⟨S640x13824, .bf16⟩
  | 122 => ⟨S640x13824, .bf16⟩
  | 123 => ⟨S640x13824, .bf16⟩
  | 124 => ⟨S2x1x640x1x1, .bf16⟩
  | 125 => ⟨S2x1x640, .bf16⟩
  | 126 => ⟨S2x1x13824, .f32⟩
  | 127 => ⟨S2x1x13824, .f32⟩
  | _ => ⟨S2x1x5120, .bf16⟩

abbrev hbmTy0_2 (i : Nat) : BufTy := match i % 128 with
  | 0 => ⟨S_, .i32⟩
  | 1 => ⟨S640x13824, .i32⟩
  | 2 => ⟨S640x13824, .i32⟩
  | 3 => ⟨S_, .i32⟩
  | 4 => ⟨S640x13824, .i32⟩
  | 5 => ⟨S640x13824, .i32⟩
  | 6 => ⟨S_, .i32⟩
  | 7 => ⟨S640x13824, .i32⟩
  | 8 => ⟨S640x13824, .i32⟩
  | 9 => ⟨S_, .i32⟩
  | 10 => ⟨S640x13824, .i32⟩
  | 11 => ⟨S640x13824, .i32⟩
  | 12 => ⟨S640x1x1x13824, .bf16⟩
  | 13 => ⟨S640x13824, .bf16⟩
  | 14 => ⟨S640x1x1x13824, .bf16⟩
  | 15 => ⟨S640x13824, .bf16⟩
  | 16 => ⟨S_, .i32⟩
  | 17 => ⟨S640x13824, .i32⟩
  | 18 => ⟨S640x13824, .i1⟩
  | 19 => ⟨S_, .i32⟩
  | 20 => ⟨S640x13824, .i32⟩
  | 21 => ⟨S640x13824, .i1⟩
  | 22 => ⟨S_, .bf16⟩
  | 23 => ⟨S640x13824, .bf16⟩
  | 24 => ⟨S640x13824, .bf16⟩
  | 25 => ⟨S640x13824, .bf16⟩
  | 26 => ⟨S2x1x640x1x1, .bf16⟩
  | 27 => ⟨S2x1x640, .bf16⟩
  | 28 => ⟨S2x1x13824, .f32⟩
  | 29 => ⟨S2x1x13824, .f32⟩
  | 30 => ⟨S_, .i32⟩
  | 31 => ⟨S640x13824, .i32⟩
  | 32 => ⟨S640x13824, .i1⟩
  | 33 => ⟨S_, .i32⟩
  | 34 => ⟨S640x13824, .i32⟩
  | 35 => ⟨S640x13824, .i1⟩
  | 36 => ⟨S_, .bf16⟩
  | 37 => ⟨S640x13824, .bf16⟩
  | 38 => ⟨S640x13824, .bf16⟩
  | 39 => ⟨S640x13824, .bf16⟩
  | 40 => ⟨S2x1x640x1x1, .bf16⟩
  | 41 => ⟨S2x1x640, .bf16⟩
  | 42 => ⟨S2x1x13824, .f32⟩
  | 43 => ⟨S2x1x13824, .f32⟩
  | 44 => ⟨S_, .i32⟩
  | 45 => ⟨S640x13824, .i32⟩
  | 46 => ⟨S640x13824, .i1⟩
  | 47 => ⟨S_, .i32⟩
  | 48 => ⟨S640x13824, .i32⟩
  | 49 => ⟨S640x13824, .i1⟩
  | 50 => ⟨S_, .bf16⟩
  | 51 => ⟨S640x13824, .bf16⟩
  | 52 => ⟨S640x13824, .bf16⟩
  | 53 => ⟨S640x13824, .bf16⟩
  | 54 => ⟨S2x1x640x1x1, .bf16⟩
  | 55 => ⟨S2x1x640, .bf16⟩
  | 56 => ⟨S2x1x13824, .f32⟩
  | 57 => ⟨S2x1x13824, .f32⟩
  | 58 => ⟨S_, .i32⟩
  | 59 => ⟨S640x13824, .i32⟩
  | 60 => ⟨S640x13824, .i1⟩
  | 61 => ⟨S_, .i32⟩
  | 62 => ⟨S640x13824, .i32⟩
  | 63 => ⟨S640x13824, .i1⟩
  | 64 => ⟨S_, .bf16⟩
  | 65 => ⟨S640x13824, .bf16⟩
  | 66 => ⟨S640x13824, .bf16⟩
  | 67 => ⟨S640x13824, .bf16⟩
  | 68 => ⟨S2x1x640x1x1, .bf16⟩
  | 69 => ⟨S2x1x640, .bf16⟩
  | 70 => ⟨S2x1x13824, .f32⟩
  | 71 => ⟨S2x1x13824, .f32⟩
  | 72 => ⟨S2x1x13824x1, .f32⟩
  | 73 => ⟨S2x1x13824x1, .f32⟩
  | 74 => ⟨S2x1x13824x2, .f32⟩
  | 75 => ⟨S2x1x27648, .f32⟩
  | 76 => ⟨S2x1x27648, .bf16⟩
  | _ => ⟨S2x1x5120, .bf16⟩

abbrev hbmTy (i : Nat) : BufTy := match i / 128 with
  | 0 => hbmTy0_0 i
  | 1 => hbmTy0_1 i
  | 2 => hbmTy0_2 i
  | _ => ⟨S2x1x5120, .bf16⟩

abbrev bufTy : (tb : Table) → Fin (tcTables nBuf tb) → BufTy
  | .hbm, ⟨i, _⟩ => hbmTy i
  | _, _ => ⟨S2x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_call2_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_call4_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_14 : Ref sig .tc := ⟨.hbm, 82, rfl⟩
abbrev main_v59 : Ref sig .tc := ⟨.hbm, 83, rfl⟩
abbrev main_v60 : Ref sig .tc := ⟨.hbm, 84, rfl⟩
abbrev main_c_15 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_call6_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_17 : Ref sig .tc := ⟨.hbm, 96, rfl⟩
abbrev main_v69 : Ref sig .tc := ⟨.hbm, 97, rfl⟩
abbrev main_v70 : Ref sig .tc := ⟨.hbm, 98, rfl⟩
abbrev main_c_18 : Ref sig .tc := ⟨.hbm, 99, rfl⟩
abbrev main_v71 : Ref sig .tc := ⟨.hbm, 100, rfl⟩
abbrev main_v72 : Ref sig .tc := ⟨.hbm, 101, rfl⟩
abbrev main_c_19 : Ref sig .tc := ⟨.hbm, 102, rfl⟩
abbrev main_v73 : Ref sig .tc := ⟨.hbm, 103, rfl⟩
abbrev main_v74 : Ref sig .tc := ⟨.hbm, 104, rfl⟩
abbrev main_c_20 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_21 : Ref sig .tc := ⟨.hbm, 112, rfl⟩
abbrev main_v81 : Ref sig .tc := ⟨.hbm, 113, rfl⟩
abbrev main_v82 : Ref sig .tc := ⟨.hbm, 114, rfl⟩
abbrev main_c_22 : Ref sig .tc := ⟨.hbm, 115, rfl⟩
abbrev main_v83 : Ref sig .tc := ⟨.hbm, 116, rfl⟩
abbrev main_v84 : Ref sig .tc := ⟨.hbm, 117, rfl⟩
abbrev main_cst_23 : Ref sig .tc := ⟨.hbm, 118, rfl⟩
abbrev main_call8_v0 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_24 : Ref sig .tc := ⟨.hbm, 126, rfl⟩
abbrev main_v91 : Ref sig .tc := ⟨.hbm, 127, rfl⟩
abbrev main_v92 : Ref sig .tc := ⟨.hbm, 128, rfl⟩
abbrev main_c_25 : Ref sig .tc := ⟨.hbm, 129, rfl⟩
abbrev main_v93 : Ref sig .tc := ⟨.hbm, 130, rfl⟩
abbrev main_v94 : Ref sig .tc := ⟨.hbm, 131, rfl⟩
abbrev main_cst_26 : Ref sig .tc := ⟨.hbm, 132, rfl⟩
abbrev main_call10_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_27 : Ref sig .tc := ⟨.hbm, 140, rfl⟩
abbrev main_v101 : Ref sig .tc := ⟨.hbm, 141, rfl⟩
abbrev main_v102 : Ref sig .tc := ⟨.hbm, 142, rfl⟩
abbrev main_c_28 : Ref sig .tc := ⟨.hbm, 143, rfl⟩
abbrev main_v103 : Ref sig .tc := ⟨.hbm, 144, rfl⟩
abbrev main_v104 : Ref sig .tc := ⟨.hbm, 145, rfl⟩
abbrev main_cst_29 : Ref sig .tc := ⟨.hbm, 146, rfl⟩
abbrev main_call12_v0 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_c_30 : Ref sig .tc := ⟨.hbm, 154, rfl⟩
abbrev main_v111 : Ref sig .tc := ⟨.hbm, 155, rfl⟩
abbrev main_v112 : Ref sig .tc := ⟨.hbm, 156, rfl⟩
abbrev main_c_31 : Ref sig .tc := ⟨.hbm, 157, rfl⟩
abbrev main_v113 : Ref sig .tc := ⟨.hbm, 158, rfl⟩
abbrev main_v114 : Ref sig .tc := ⟨.hbm, 159, rfl⟩
abbrev main_cst_32 : Ref sig .tc := ⟨.hbm, 160, rfl⟩
abbrev main_call14_v0 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c_33 : Ref sig .tc := ⟨.hbm, 168, rfl⟩
abbrev main_v121 : Ref sig .tc := ⟨.hbm, 169, rfl⟩
abbrev main_v122 : Ref sig .tc := ⟨.hbm, 170, rfl⟩
abbrev main_c_34 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_35 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_c_36 : Ref sig .tc := ⟨.hbm, 185, rfl⟩
abbrev main_v135 : Ref sig .tc := ⟨.hbm, 186, rfl⟩
abbrev main_v136 : Ref sig .tc := ⟨.hbm, 187, rfl⟩
abbrev main_c_37 : Ref sig .tc := ⟨.hbm, 188, rfl⟩
abbrev main_v137 : Ref sig .tc := ⟨.hbm, 189, rfl⟩
abbrev main_v138 : Ref sig .tc := ⟨.hbm, 190, rfl⟩
abbrev main_c_38 : Ref sig .tc := ⟨.hbm, 191, rfl⟩
abbrev main_v139 : Ref sig .tc := ⟨.hbm, 192, rfl⟩
abbrev main_v140 : Ref sig .tc := ⟨.hbm, 193, rfl⟩
abbrev main_c_39 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_c_40 : Ref sig .tc := ⟨.hbm, 201, rfl⟩
abbrev main_v147 : Ref sig .tc := ⟨.hbm, 202, rfl⟩
abbrev main_v148 : Ref sig .tc := ⟨.hbm, 203, rfl⟩
abbrev main_c_41 : Ref sig .tc := ⟨.hbm, 204, rfl⟩
abbrev main_v149 : Ref sig .tc := ⟨.hbm, 205, rfl⟩
abbrev main_v150 : Ref sig .tc := ⟨.hbm, 206, rfl⟩
abbrev main_cst_42 : Ref sig .tc := ⟨.hbm, 207, rfl⟩
abbrev main_call16_v0 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_c_43 : Ref sig .tc := ⟨.hbm, 214, rfl⟩
abbrev main_v156 : Ref sig .tc := ⟨.hbm, 215, rfl⟩
abbrev main_v157 : Ref sig .tc := ⟨.hbm, 216, rfl⟩
abbrev main_c_44 : Ref sig .tc := ⟨.hbm, 217, rfl⟩
abbrev main_v158 : Ref sig .tc := ⟨.hbm, 218, rfl⟩
abbrev main_v159 : Ref sig .tc := ⟨.hbm, 219, rfl⟩
abbrev main_cst_45 : Ref sig .tc := ⟨.hbm, 220, rfl⟩
abbrev main_call18_v0 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_c_46 : Ref sig .tc := ⟨.hbm, 228, rfl⟩
abbrev main_v166 : Ref sig .tc := ⟨.hbm, 229, rfl⟩
abbrev main_v167 : Ref sig .tc := ⟨.hbm, 230, rfl⟩
abbrev main_c_47 : Ref sig .tc := ⟨.hbm, 231, rfl⟩
abbrev main_v168 : Ref sig .tc := ⟨.hbm, 232, rfl⟩
abbrev main_v169 : Ref sig .tc := ⟨.hbm, 233, rfl⟩
abbrev main_cst_48 : Ref sig .tc := ⟨.hbm, 234, rfl⟩
abbrev main_call20_v0 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_c_49 : Ref sig .tc := ⟨.hbm, 242, rfl⟩
abbrev main_v176 : Ref sig .tc := ⟨.hbm, 243, rfl⟩
abbrev main_v177 : Ref sig .tc := ⟨.hbm, 244, rfl⟩
abbrev main_c_50 : Ref sig .tc := ⟨.hbm, 245, rfl⟩
abbrev main_v178 : Ref sig .tc := ⟨.hbm, 246, rfl⟩
abbrev main_v179 : Ref sig .tc := ⟨.hbm, 247, rfl⟩
abbrev main_cst_51 : Ref sig .tc := ⟨.hbm, 248, rfl⟩
abbrev main_call22_v0 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_c_52 : Ref sig .tc := ⟨.hbm, 256, rfl⟩
abbrev main_v186 : Ref sig .tc := ⟨.hbm, 257, rfl⟩
abbrev main_v187 : Ref sig .tc := ⟨.hbm, 258, rfl⟩
abbrev main_c_53 : Ref sig .tc := ⟨.hbm, 259, rfl⟩
abbrev main_v188 : Ref sig .tc := ⟨.hbm, 260, rfl⟩
abbrev main_v189 : Ref sig .tc := ⟨.hbm, 261, rfl⟩
abbrev main_c_54 : Ref sig .tc := ⟨.hbm, 262, rfl⟩
abbrev main_v190 : Ref sig .tc := ⟨.hbm, 263, rfl⟩
abbrev main_v191 : Ref sig .tc := ⟨.hbm, 264, rfl⟩
abbrev main_c_55 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_c_56 : Ref sig .tc := ⟨.hbm, 272, rfl⟩
abbrev main_v198 : Ref sig .tc := ⟨.hbm, 273, rfl⟩
abbrev main_v199 : Ref sig .tc := ⟨.hbm, 274, rfl⟩
abbrev main_c_57 : Ref sig .tc := ⟨.hbm, 275, rfl⟩
abbrev main_v200 : Ref sig .tc := ⟨.hbm, 276, rfl⟩
abbrev main_v201 : Ref sig .tc := ⟨.hbm, 277, rfl⟩
abbrev main_cst_58 : Ref sig .tc := ⟨.hbm, 278, rfl⟩
abbrev main_call24_v0 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_c_59 : Ref sig .tc := ⟨.hbm, 286, rfl⟩
abbrev main_v208 : Ref sig .tc := ⟨.hbm, 287, rfl⟩
abbrev main_v209 : Ref sig .tc := ⟨.hbm, 288, rfl⟩
abbrev main_c_60 : Ref sig .tc := ⟨.hbm, 289, rfl⟩
abbrev main_v210 : Ref sig .tc := ⟨.hbm, 290, rfl⟩
abbrev main_v211 : Ref sig .tc := ⟨.hbm, 291, rfl⟩
abbrev main_cst_61 : Ref sig .tc := ⟨.hbm, 292, rfl⟩
abbrev main_call26_v0 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_c_62 : Ref sig .tc := ⟨.hbm, 300, rfl⟩
abbrev main_v218 : Ref sig .tc := ⟨.hbm, 301, rfl⟩
abbrev main_v219 : Ref sig .tc := ⟨.hbm, 302, rfl⟩
abbrev main_c_63 : Ref sig .tc := ⟨.hbm, 303, rfl⟩
abbrev main_v220 : Ref sig .tc := ⟨.hbm, 304, rfl⟩
abbrev main_v221 : Ref sig .tc := ⟨.hbm, 305, rfl⟩
abbrev main_cst_64 : Ref sig .tc := ⟨.hbm, 306, rfl⟩
abbrev main_call28_v0 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_c_65 : Ref sig .tc := ⟨.hbm, 314, rfl⟩
abbrev main_v228 : Ref sig .tc := ⟨.hbm, 315, rfl⟩
abbrev main_v229 : Ref sig .tc := ⟨.hbm, 316, rfl⟩
abbrev main_c_66 : Ref sig .tc := ⟨.hbm, 317, rfl⟩
abbrev main_v230 : Ref sig .tc := ⟨.hbm, 318, rfl⟩
abbrev main_v231 : Ref sig .tc := ⟨.hbm, 319, rfl⟩
abbrev main_cst_67 : Ref sig .tc := ⟨.hbm, 320, rfl⟩
abbrev main_call30_v0 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩

abbrev nD : Nat := 1
abbrev τ : Topo := Topo.v7x

variable {F : FTy → Type} [FloatOps F]
-- ==== Proof.Trip.lean ====
module

public import proofs.«01_k».proof.Proof.Gen.KernelIdeal.Skeleton
public import Idealize.ShloMosaic.Lib.Tactic

@[expose] public section

set_option maxRecDepth 16384

noncomputable section

open Idealize.ShloMosaic Idealize.ShloMosaic.TcCoe Idealize.SL.Sem

namespace Cert.KernelIdeal.KV

open Cert.KernelIdeal Cert.KernelIdeal.Gen

variable {F : FTy → Type} [FloatOps F]

/-- What the first of a trip's two stores puts into the accumulator. -/
def trip1 (v0 : IVec S8x128 32) (v5 : IVec S8x8x128 32) (v513 : Vec F S128x128 .i8) (v538 v541 : Vec F S32x128 .i8) (v715_raw v720_raw : Vec F S1x1x2x128 .bf16) (v857 : Vec F S128x128 .i8) (v882 v885 : Vec F S32x128 .i8) (v1059_raw v1064_raw : Vec F S1x1x2x128 .bf16) (v1202 : Vec F S1x16x256 .bf16) (v1204 : Vec F S16x256 .f32) : FVec F S16x256 .f32 :=
  let v519 := k0_pay2 v513
  let v524 := k0_pay3 v513
  let v529 := k0_pay4 v513
  let v534 := k0_pay5 v513
  let v539 := k0_pay6 v538
  let v542 := k0_pay7 v541
  let v553 := k0_pay8 v0
  let c64_i32_203 := 64#32
  let v599 := k0_pay11 v0 v539 v542 v553 c64_i32_203
  let v600 := k0_pay12 v0 v539 v542 v553 c64_i32_203
  let v619 := k0_pay17 v599 v600
  let v626 := k0_pay19 v599 v600
  let v633 := k0_pay20 v599 v600
  let v641 := k0_pay21 v599 v600
  let v642 := k0_pay22
  let v660 := k0_pay26 v519 v524 v626
  let v661 := k0_pay27 v519 v524 v633
  let v665 := k0_pay30 v519 v524 v626 v633 v641 v642
  let v666 := k0_pay31 v519 v524 v626 v633 v641 v642
  let v673 := k0_pay33 v619
  let v680 := k0_pay34 v619
  let v686 := k0_pay35 v619
  let v707 := k0_pay39 v529 v534 v673
  let v708 := k0_pay40 v529 v534 v680
  let v712 := k0_pay43 v529 v534 v673 v680 v686
  let v713 := k0_pay44 v529 v534 v673 v680 v686
  let v718 := k0_pay45 v715_raw
  let v725 := k0_pay47 v660
  let v733 := k0_pay49 v5 v718 v725
  let v735 := k0_pay50 v5 v718 v725
  let v749 := k0_pay54 v5 v665 v718
  let v751 := k0_pay55 v5 v665 v718
  let v765 := k0_pay59 v5 v666 v718
  let v767 := k0_pay60 v5 v666 v718
  let v779 := k0_pay63 (F := F) v5 v661
  let v781 := k0_pay64 v5 v661 v718
  let v783 := k0_pay65 v718 v779
  let v797 := k0_pay69 v5 v707 v718
  let v799 := k0_pay70 v5 v707 v718
  let v813 := k0_pay74 v5 v712 v718
  let v815 := k0_pay75 v5 v712 v718
  let v829 := k0_pay79 v5 v713 v718
  let v831 := k0_pay80 v5 v713 v718
  let v838 := k0_pay83 v708
  let v852 := k0_pay85 v5 v718 v733 v735 v749 v751 v765 v767 v781 v783 v797 v799 v813 v815 v829 v831 v838
  let v863 := k0_pay88 v857
  let v868 := k0_pay89 v857
  let v873 := k0_pay90 v857
  let v878 := k0_pay91 v857
  let v883 := k0_pay92 v882
  let v886 := k0_pay93 v885
  let v887 := k0_pay94
  let v908 := k0_pay96 v0
  let v916 := k0_pay97 v0 v883 v887
  let v924 := k0_pay98 v0 v886 v887
  let v932 := k0_pay99 v0 v886
  let v958 := k0_pay106 v0 v883 v908 v916 v924 v932
  let v963 := k0_pay107 v0 v883 v908 v916 v924 v932
  let v970 := k0_pay109 v0 v883 v908 v916 v924 v932
  let v975 := k0_pay110 v0 v883 v908 v916 v924 v932
  let v976 := k0_pay111
  let v1004 := k0_pay115 v863 v868 v970
  let v1005 := k0_pay116 v863 v868 v975 v976
  let v1009 := k0_pay119 v863 v868 v958 v970 v975 v976
  let v1010 := k0_pay120 v863 v868 v958 v970 v975 v976
  let v1017 := k0_pay122 v963
  let v1020 := k0_pay123 v963
  let v1051 := k0_pay127 v873 v878 v1017
  let v1052 := k0_pay128 v873 v878 v1020
  let v1056 := k0_pay131 v873 v878 v963 v1017 v1020
  let v1057 := k0_pay132 v873 v878 v963 v1017 v1020
  let v1060_hi := k0_pay133 v1059_raw
  let v1061_lo := k0_pay134 v1059_raw
  let v1062 := k0_pay135 v1060_hi v1061_lo
  let v1077 := k0_pay138 v5 v1004 v1060_hi v1061_lo
  let v1079 := k0_pay139 v5 v1004 v1060_hi v1061_lo
  let v1093 := k0_pay143 v5 v1009 v1060_hi v1061_lo
  let v1095 := k0_pay144 v5 v1009 v1060_hi v1061_lo
  let v1109 := k0_pay148 v5 v1010 v1060_hi v1061_lo
  let v1111 := k0_pay149 v5 v1010 v1060_hi v1061_lo
  let v1125 := k0_pay153 v5 v1005 v1062
  let v1127 := k0_pay154 v5 v1005 v1062
  let v1141 := k0_pay158 v5 v1051 v1062
  let v1143 := k0_pay159 v5 v1051 v1062
  let v1157 := k0_pay163 v5 v1056 v1062
  let v1159 := k0_pay164 v5 v1056 v1062
  let v1167 := k0_pay167 v5 v1057
  let c28_i32_347 := 28#32
  k0_pay170 v5 v852 v1052 v1062 v1077 v1079 v1093 v1095 v1109 v1111 v1125 v1127 v1141 v1143 v1157 v1159 v1167 c28_i32_347 v1202 v1204

/-- The second dense tile of a trip. -/
def tripW1 (v0 : IVec S8x128 32) (v5 : IVec S8x8x128 32) (v513 : Vec F S128x128 .i8) (v538 v541 : Vec F S32x128 .i8) (v715_raw v720_raw : Vec F S1x1x2x128 .bf16) (v857 : Vec F S128x128 .i8) (v882 v885 : Vec F S32x128 .i8) (v1059_raw v1064_raw : Vec F S1x1x2x128 .bf16) : FVec F S256x256 .bf16 :=
  let v519 := k0_pay2 v513
  let v524 := k0_pay3 v513
  let v529 := k0_pay4 v513
  let v534 := k0_pay5 v513
  let v539 := k0_pay6 v538
  let v542 := k0_pay7 v541
  let v553 := k0_pay8 v0
  let c64_i32_203 := 64#32
  let v599 := k0_pay11 v0 v539 v542 v553 c64_i32_203
  let v600 := k0_pay12 v0 v539 v542 v553 c64_i32_203
  let v619 := k0_pay17 v599 v600
  let v626 := k0_pay19 v599 v600
  let v633 := k0_pay20 v599 v600
  let v641 := k0_pay21 v599 v600
  let v642 := k0_pay22
  let v660 := k0_pay26 v519 v524 v626
  let v661 := k0_pay27 v519 v524 v633
  let v665 := k0_pay30 v519 v524 v626 v633 v641 v642
  let v666 := k0_pay31 v519 v524 v626 v633 v641 v642
  let v673 := k0_pay33 v619
  let v680 := k0_pay34 v619
  let v686 := k0_pay35 v619
  let v707 := k0_pay39 v529 v534 v673
  let v708 := k0_pay40 v529 v534 v680
  let v712 := k0_pay43 v529 v534 v673 v680 v686
  let v713 := k0_pay44 v529 v534 v673 v680 v686
  let v723 := k0_pay46 v720_raw
  let v725 := k0_pay47 v660
  let v737 := k0_pay51 v5 v723 v725
  let v739 := k0_pay52 v5 v723 v725
  let v753 := k0_pay56 v5 v665 v723
  let v755 := k0_pay57 v5 v665 v723
  let v769 := k0_pay61 v5 v666 v723
  let v771 := k0_pay62 v5 v666 v723
  let v779 := k0_pay63 (F := F) v5 v661
  let v785 := k0_pay66 v723 v779
  let v787 := k0_pay67 v723 v779
  let v801 := k0_pay71 v5 v707 v723
  let v803 := k0_pay72 v5 v707 v723
  let v817 := k0_pay76 v5 v712 v723
  let v819 := k0_pay77 v5 v712 v723
  let v833 := k0_pay81 v5 v713 v723
  let v835 := k0_pay82 v5 v713 v723
  let v838 := k0_pay83 v708
  let v853 := k0_pay86 v5 v723 v737 v739 v753 v755 v769 v771 v785 v787 v801 v803 v817 v819 v833 v835 v838
  let v863 := k0_pay88 v857
  let v868 := k0_pay89 v857
  let v873 := k0_pay90 v857
  let v878 := k0_pay91 v857
  let v883 := k0_pay92 v882
  let v886 := k0_pay93 v885
  let v887 := k0_pay94
  let v908 := k0_pay96 v0
  let v916 := k0_pay97 v0 v883 v887
  let v924 := k0_pay98 v0 v886 v887
  let v932 := k0_pay99 v0 v886
  let v958 := k0_pay106 v0 v883 v908 v916 v924 v932
  let v963 := k0_pay107 v0 v883 v908 v916 v924 v932
  let v970 := k0_pay109 v0 v883 v908 v916 v924 v932
  let v975 := k0_pay110 v0 v883 v908 v916 v924 v932
  let v976 := k0_pay111
  let v1004 := k0_pay115 v863 v868 v970
  let v1005 := k0_pay116 v863 v868 v975 v976
  let v1009 := k0_pay119 v863 v868 v958 v970 v975 v976
  let v1010 := k0_pay120 v863 v868 v958 v970 v975 v976
  let v1017 := k0_pay122 v963
  let v1020 := k0_pay123 v963
  let v1051 := k0_pay127 v873 v878 v1017
  let v1052 := k0_pay128 v873 v878 v1020
  let v1056 := k0_pay131 v873 v878 v963 v1017 v1020
  let v1057 := k0_pay132 v873 v878 v963 v1017 v1020
  let v1067 := k0_pay136 v1064_raw
  let v1081 := k0_pay140 v5 v1004 v1064_raw
  let v1083 := k0_pay141 v5 v1004 v1064_raw
  let v1097 := k0_pay145 v5 v1009 v1064_raw
  let v1099 := k0_pay146 v5 v1009 v1064_raw
  let v1107 := k0_pay147 (F := F) v5 v1010
  let v1113 := k0_pay150 v1067 v1107
  let v1115 := k0_pay151 v1067 v1107
  let v1129 := k0_pay155 v5 v1005 v1067
  let v1131 := k0_pay156 v5 v1005 v1067
  let v1145 := k0_pay160 v5 v1051 v1067
  let v1147 := k0_pay161 v5 v1051 v1067
  let v1161 := k0_pay165 v5 v1056 v1067
  let v1163 := k0_pay166 v5 v1056 v1067
  let v1167 := k0_pay167 v5 v1057
  let c28_i32_347 := 28#32
  k0_pay171 v5 v853 v1052 v1067 v1081 v1083 v1097 v1099 v1113 v1115 v1129 v1131 v1145 v1147 v1161 v1163 v1167 c28_i32_347

/-! ### The words, one lane at a time -/

/-- The even bytes of two words, interleaved. -/
def bw0 (a b : BitVec 32) : BitVec 32 :=
  IntOp.ori (IntOp.andi a 16711935#32) (IntOp.shli .vector (IntOp.andi b 16711935#32) 8#32)
/-- The odd bytes of two words, interleaved. -/
def bw1 (a b : BitVec 32) : BitVec 32 :=
  IntOp.ori (IntOp.andi (IntOp.shrui .vector a 8#32) 16711935#32) (IntOp.andi b 4278255360#32)
/-- The nibbles in which the even and the odd column's positions are exchanged. -/
def tw (e o : BitVec 32) : BitVec 32 := IntOp.andi (IntOp.xori (IntOp.shrui .vector e 4#32) o) 252645135#32
/-- The upper group's positions: the even column's nibble low, the odd one's high. -/
def f1w (e o : BitVec 32) : BitVec 32 := IntOp.xori o (tw e o)
/-- The lower group's positions. -/
def f0w (e o : BitVec 32) : BitVec 32 := IntOp.xori e (IntOp.shli .vector (tw e o) 4#32)
/-- The positions the first half of the words is decoded by. -/
def st0 (e o : BitVec 32) : BitVec 32 := IntOp.ori (IntOp.andi (f0w e o) 65535#32) (IntOp.shli .vector (f1w e o) 16#32)
/-- The positions the second half of the words is decoded by. -/
def st1 (e o : BitVec 32) : BitVec 32 := IntOp.ori (IntOp.shrui .vector (f0w e o) 16#32) (IntOp.andi (f1w e o) 4294901760#32)
/-- A nibble of ones where the first position is not 0. -/
def n0w (x : BitVec 32) : BitVec 32 := IntOp.muli (IntOp.andi (IntOp.ori x (IntOp.shrui .vector x 1#32)) 286331153#32) 15#32
/-- A nibble of ones where the second position is 3. -/
def k3w (x : BitVec 32) : BitVec 32 :=
  IntOp.muli (IntOp.andi (IntOp.shrui .vector (IntOp.andi x (IntOp.shrui .vector x 1#32)) 2#32) 286331153#32) 15#32
/-- A nibble of ones where the two middle values change places. -/
def sww (x : BitVec 32) : BitVec 32 :=
  IntOp.xori (IntOp.muli (IntOp.andi (IntOp.shrui .vector (IntOp.andi (IntOp.xori x 4294967295#32) (IntOp.shrui .vector x 2#32)) 1#32)
    286331153#32) 15#32) 4294967295#32
/-- The dense word of position 0. -/
def dw0 (a b x : BitVec 32) : BitVec 32 := IntOp.xori (bw0 a b) (IntOp.andi (bw0 a b) (n0w x))
/-- What the exchange moves. -/
def dx (a b x : BitVec 32) : BitVec 32 :=
  IntOp.andi (IntOp.xori (IntOp.andi (bw0 a b) (n0w x)) (IntOp.xori (bw1 a b) (IntOp.andi (bw1 a b) (k3w x)))) (sww x)
/-- The dense word of position 1. -/
def dw1 (a b x : BitVec 32) : BitVec 32 := IntOp.xori (IntOp.andi (bw0 a b) (n0w x)) (dx a b x)
/-- The dense word of position 2. -/
def dw2 (a b x : BitVec 32) : BitVec 32 := IntOp.xori (IntOp.xori (bw1 a b) (IntOp.andi (bw1 a b) (k3w x))) (dx a b x)
/-- The dense word of position 3. -/
def dw3 (a b x : BitVec 32) : BitVec 32 := IntOp.andi (bw1 a b) (k3w x)

/-- Four vectors of words. -/
def four {α : Type} (a b c d : α) : Fin 4 → α
  | 0 => a | 1 => b | 2 => c | 3 => d

/-- The four dense words of one half, every lane. -/
def words (a b x : IVec S8x128 32) : Fin 4 → IVec S8x128 32 :=
  four (fun j => dw0 (a j) (b j) (x j)) (fun j => dw1 (a j) (b j) (x j)) (fun j => dw2 (a j) (b j) (x j))
    (fun j => dw3 (a j) (b j) (x j))

/-- The even columns' position bytes. -/
def eV (v0 : IVec S8x128 32) (i0 i1 : Vec F S32x128 .i8) : IVec S8x128 32 :=
  k0_pay11 v0 (k0_pay6 i0) (k0_pay7 i1) (k0_pay8 v0) 64#32
/-- The odd columns' position bytes. -/
def oV (v0 : IVec S8x128 32) (i0 i1 : Vec F S32x128 .i8) : IVec S8x128 32 :=
  k0_pay12 v0 (k0_pay6 i0) (k0_pay7 i1) (k0_pay8 v0) 64#32

/-- The eight dense words of a block of a trip. -/
def wordsOf (v0 : IVec S8x128 32) (v : Vec F S128x128 .i8) (i0 i1 : Vec F S32x128 .i8) : Fin 2 → Fin 4 → IVec S8x128 32
  | 0 => words (k0_pay2 v) (k0_pay3 v) (fun j => st0 (eV v0 i0 i1 j) (oV v0 i0 i1 j))
  | 1 => words (k0_pay4 v) (k0_pay5 v) (fun j => st1 (eV v0 i0 i1 j) (oV v0 i0 i1 j))

/-- A word's eight signed nibbles. -/
def nibbles (v5 : IVec S8x8x128 32) (w : IVec S8x128 32) : FVec F S64x128 .bf16 := k0_pay48 v5 (k0_pay47 w)

/-- Half of a block's dense tile, the first two quarters of every word. -/
def tile0 (v5 : IVec S8x8x128 32) (w : Fin 2 → Fin 4 → IVec S8x128 32) (s : FVec F S16x128 .bf16) : FVec F S256x128 .bf16 :=
  concatenate S256x128 0 [⟨S16x128, mulf (extractStridedSlice S16x128 ![0, 0] (nibbles (F := F) v5 (w 0 0)) slices_S64x128_o0_0_S16x128) s⟩, ⟨S16x128, mulf (extractStridedSlice S16x128 ![16, 0] (nibbles (F := F) v5 (w 0 0)) slices_S64x128_o16_0_S16x128) s⟩, ⟨S16x128, mulf (extractStridedSlice S16x128 ![0, 0] (nibbles (F := F) v5 (w 0 1)) slices_S64x128_o0_0_S16x128) s⟩, ⟨S16x128, mulf (extractStridedSlice S16x128 ![16, 0] (nibbles (F := F) v5 (w 0 1)) slices_S64x128_o16_0_S16x128) s⟩, ⟨S16x128, mulf (extractStridedSlice S16x128 ![0, 0] (nibbles (F := F) v5 (w 0 2)) slices_S64x128_o0_0_S16x128) s⟩, ⟨S16x128, mulf (extractStridedSlice S16x128 ![16, 0] (nibbles (F := F) v5 (w 0 2)) slices_S64x128_o16_0_S16x128) s⟩, ⟨S16x128, mulf (extractStridedSlice S16x128 ![0, 0] (nibbles (F := F) v5 (w 0 3)) slices_S64x128_o0_0_S16x128) s⟩, ⟨S16x128, mulf (extractStridedSlice S16x128 ![16, 0] (nibbles (F := F) v5 (w 0 3)) slices_S64x128_o16_0_S16x128) s⟩, ⟨S16x128, mulf (extractStridedSlice S16x128 ![0, 0] (nibbles (F := F) v5 (w 1 0)) slices_S64x128_o0_0_S16x128) s⟩, ⟨S16x128, mulf (extractStridedSlice S16x128 ![16, 0] (nibbles (F := F) v5 (w 1 0)) slices_S64x128_o16_0_S16x128) s⟩, ⟨S16x128, mulf (extractStridedSlice S16x128 ![0, 0] (nibbles (F := F) v5 (w 1 1)) slices_S64x128_o0_0_S16x128) s⟩, ⟨S16x128, mulf (extractStridedSlice S16x128 ![16, 0] (nibbles (F := F) v5 (w 1 1)) slices_S64x128_o16_0_S16x128) s⟩, ⟨S16x128, mulf (extractStridedSlice S16x128 ![0, 0] (nibbles (F := F) v5 (w 1 2)) slices_S64x128_o0_0_S16x128) s⟩, ⟨S16x128, mulf (extractStridedSlice S16x128 ![16, 0] (nibbles (F := F) v5 (w 1 2)) slices_S64x128_o16_0_S16x128) s⟩, ⟨S16x128, mulf (extractStridedSlice S16x128 ![0, 0] (nibbles (F := F) v5 (w 1 3)) slices_S64x128_o0_0_S16x128) s⟩, ⟨S16x128, mulf (extractStridedSlice S16x128 ![16, 0] (nibbles (F := F) v5 (w 1 3)) slices_S64x128_o16_0_S16x128) s⟩] concatenates_S16x128_S16x128_S16x128_S16x128_S16x128_S16x128_S16x128_S16x128_S16x128_S16x128_S16x128_S16x128_S16x128_S16x128_S16x128_S16x128_S256x128_d0
/-- The other half, the last two quarters. -/
def tile1 (v5 : IVec S8x8x128 32) (w : Fin 2 → Fin 4 → IVec S8x128 32) (s : FVec F S16x128 .bf16) : FVec F S256x128 .bf16 :=
  concatenate S256x128 0 [⟨S16x128, mulf (extractStridedSlice S16x128 ![32, 0] (nibbles (F := F) v5 (w 0 0)) slices_S64x128_o32_0_S16x128) s⟩, ⟨S16x128, mulf (extractStridedSlice S16x128 ![48, 0] (nibbles (F := F) v5 (w 0 0)) slices_S64x128_o48_0_S16x128) s⟩, ⟨S16x128, mulf (extractStridedSlice S16x128 ![32, 0] (nibbles (F := F) v5 (w 0 1)) slices_S64x128_o32_0_S16x128) s⟩, ⟨S16x128, mulf (extractStridedSlice S16x128 ![48, 0] (nibbles (F := F) v5 (w 0 1)) slices_S64x128_o48_0_S16x128) s⟩, ⟨S16x128, mulf (extractStridedSlice S16x128 ![32, 0] (nibbles (F := F) v5 (w 0 2)) slices_S64x128_o32_0_S16x128) s⟩, ⟨S16x128, mulf (extractStridedSlice S16x128 ![48, 0] (nibbles (F := F) v5 (w 0 2)) slices_S64x128_o48_0_S16x128) s⟩, ⟨S16x128, mulf (extractStridedSlice S16x128 ![32, 0] (nibbles (F := F) v5 (w 0 3)) slices_S64x128_o32_0_S16x128) s⟩, ⟨S16x128, mulf (extractStridedSlice S16x128 ![48, 0] (nibbles (F := F) v5 (w 0 3)) slices_S64x128_o48_0_S16x128) s⟩, ⟨S16x128, mulf (extractStridedSlice S16x128 ![32, 0] (nibbles (F := F) v5 (w 1 0)) slices_S64x128_o32_0_S16x128) s⟩, ⟨S16x128, mulf (extractStridedSlice S16x128 ![48, 0] (nibbles (F := F) v5 (w 1 0)) slices_S64x128_o48_0_S16x128) s⟩, ⟨S16x128, mulf (extractStridedSlice S16x128 ![32, 0] (nibbles (F := F) v5 (w 1 1)) slices_S64x128_o32_0_S16x128) s⟩, ⟨S16x128, mulf (extractStridedSlice S16x128 ![48, 0] (nibbles (F := F) v5 (w 1 1)) slices_S64x128_o48_0_S16x128) s⟩, ⟨S16x128, mulf (extractStridedSlice S16x128 ![32, 0] (nibbles (F := F) v5 (w 1 2)) slices_S64x128_o32_0_S16x128) s⟩, ⟨S16x128, mulf (extractStridedSlice S16x128 ![48, 0] (nibbles (F := F) v5 (w 1 2)) slices_S64x128_o48_0_S16x128) s⟩, ⟨S16x128, mulf (extractStridedSlice S16x128 ![32, 0] (nibbles (F := F) v5 (w 1 3)) slices_S64x128_o32_0_S16x128) s⟩, ⟨S16x128, mulf (extractStridedSlice S16x128 ![48, 0] (nibbles (F := F) v5 (w 1 3)) slices_S64x128_o48_0_S16x128) s⟩] concatenates_S16x128_S16x128_S16x128_S16x128_S16x128_S16x128_S16x128_S16x128_S16x128_S16x128_S16x128_S16x128_S16x128_S16x128_S16x128_S16x128_S256x128_d0

/-- The accumulator plus one product. -/
def step (x : Vec F S1x16x256 .bf16) (acc : FVec F S16x256 .f32) (w : FVec F S256x256 .bf16) : FVec F S16x256 .f32 :=
  k0_pay264 w x acc

/-- A trip's first product, from its named tiles. -/
theorem trip1_eq (v0 : IVec S8x128 32) (v5 : IVec S8x8x128 32) (v513 : Vec F S128x128 .i8) (v538 v541 : Vec F S32x128 .i8) (v715_raw v720_raw : Vec F S1x1x2x128 .bf16) (v857 : Vec F S128x128 .i8) (v882 v885 : Vec F S32x128 .i8) (v1059_raw v1064_raw : Vec F S1x1x2x128 .bf16) (v1202 : Vec F S1x16x256 .bf16) (v1204 : Vec F S16x256 .f32) :
    trip1 v0 v5 v513 v538 v541 v715_raw v720_raw v857 v882 v885 v1059_raw v1064_raw v1202 v1204
      = step v1202 v1204 (concatenate S256x256 1 [⟨S256x128, tile0 v5 (wordsOf v0 v513 v538 v541) (k0_pay45 v715_raw)⟩,
          ⟨S256x128, tile0 v5 (wordsOf v0 v857 v882 v885) (k0_pay45 v1059_raw)⟩] concatenates_S256x128_S256x128_S256x256_d1) := rfl

/-- The weights of a trip's second product, from its named tiles. -/
theorem tripW1_eq (v0 : IVec S8x128 32) (v5 : IVec S8x8x128 32) (v513 : Vec F S128x128 .i8) (v538 v541 : Vec F S32x128 .i8) (v715_raw v720_raw : Vec F S1x1x2x128 .bf16) (v857 : Vec F S128x128 .i8) (v882 v885 : Vec F S32x128 .i8) (v1059_raw v1064_raw : Vec F S1x1x2x128 .bf16) :
    tripW1 v0 v5 v513 v538 v541 v715_raw v720_raw v857 v882 v885 v1059_raw v1064_raw
      = concatenate S256x256 1 [⟨S256x128, tile1 v5 (wordsOf v0 v513 v538 v541) (k0_pay45 v720_raw)⟩,
          ⟨S256x128, tile1 v5 (wordsOf v0 v857 v882 v885) (k0_pay45 v1064_raw)⟩] concatenates_S256x128_S256x128_S256x256_d1 := rfl

end Cert.KernelIdeal.KV

end
-- ==== Proof.Pieces.lean ====
module

public import proofs.«01_k».proof.Proof.Trip
public import proofs.«01_k».proof.Proof.Gen.KernelIdeal.Frame
public import Idealize.ShloMosaic.Lib.Pipeline.Value

@[expose] public section

set_option maxRecDepth 16384

noncomputable section

open Idealize.ShloMosaic Idealize.ShloMosaic.TcCoe Idealize.SL Idealize.SL.RA Idealize.SL.Sem

namespace Cert.KernelIdeal.KV

open Cert.KernelIdeal Cert.KernelIdeal.Gen

variable {F : FTy → Type} [FloatOps F]

/-- A trip of the loop is the reads, the product and the store named here. -/
theorem tripL_eq (𝒱 : Variants) (c : Dev nD) (bd : Option 𝒱.V) (i : grid0.Coords) (arg1 : Memref sig .tc .vmem S40x16x256 .bf16) (harg1 : arg1.IsWhole) (arg2 : Memref sig .tc .vmem S2560x128 .i8) (harg2 : arg2.IsWhole) (arg3 : Memref sig .tc .vmem S2560x128 .i8) (harg3 : arg3.IsWhole) (arg4 : Memref sig .tc .vmem S640x512 .i8) (harg4 : arg4.IsWhole) (arg5 : Memref sig .tc .vmem S40x512 .bf16) (harg5 : arg5.IsWhole) (arg6 : Memref sig .tc .vmem S16x256 .f32) (harg6 : arg6.IsWhole) (arg7 : Memref sig .tc .vmem S16x256 .f32) (harg7 : arg7.IsWhole) (arg8 : Memref sig .tc .vmem S2x24x2x128 .bf16) (harg8 : arg8.IsWhole) (arg9 : Memref sig .tc .vmem S2x24x2x128 .bf16) (harg9 : arg9.IsWhole) (v0 : IVec S8x128 32) (v5 : IVec S8x8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg8 : BufTy.Contents (Elt F) arg8.view.ty) (X_arg9 : BufTy.Contents (Elt F) arg9.view.ty) (k : Fin k0_t1_loop.trips) (f_arg7 : BufTy.Contents (Elt F) arg7.view.ty) :
    tripL_k0_t1 (F := F) 𝒱 c bd i arg1 harg1 arg2 harg2 arg3 harg3 arg4 harg4 arg5 harg5 arg6 harg6 arg7 harg7 arg8 harg8 arg9 harg9 v0 v5 X_arg1 X_arg2 X_arg3 X_arg4 X_arg8 X_arg9 k f_arg7
      = [⟨(Rect.unit (s := S16x256) ![0, 0] S16x256.size inb_S16x256_S16x256_0_0), step (View.readAt (Elt F) arg1.view (Rect.unit (s := S40x16x256) (k0_off8 k 1#32) S1x16x256.size (k0_off8_inb k 1)).toLoadRect X_arg1) (arg7.view.readCov ([⟨(Rect.unit (s := S16x256) ![0, 0] S16x256.size inb_S16x256_S16x256_0_0), trip1 v0 v5 (View.readAt (Elt F) arg2.view (Rect.unit (s := S2560x128) (k0_off1 k ) S128x128.size (k0_off1_inb k )).toLoadRect X_arg2) (View.readAt (Elt F) arg4.view (Rect.unit (s := S640x512) (k0_off2 k ) S32x128.size (k0_off2_inb k )).toLoadRect X_arg4) (View.readAt (Elt F) arg4.view (Rect.unit (s := S640x512) (k0_off3 k ) S32x128.size (k0_off3_inb k )).toLoadRect X_arg4) (View.readAt (Elt F) arg8.view (Rect.unit (s := S2x24x2x128) (k0_off4 k ) S1x1x2x128.size (k0_off4_inb k )).toLoadRect X_arg8) (View.readAt (Elt F) arg9.view (Rect.unit (s := S2x24x2x128) (k0_off4 k ) S1x1x2x128.size (k0_off4_inb k )).toLoadRect X_arg9) (View.readAt (Elt F) arg3.view (Rect.unit (s := S2560x128) (k0_off1 k ) S128x128.size (k0_off1_inb k )).toLoadRect X_arg3) (View.readAt (Elt F) arg4.view (Rect.unit (s := S640x512) (k0_off5 k ) S32x128.size (k0_off5_inb k )).toLoadRect X_arg4) (View.readAt (Elt F) arg4.view (Rect.unit (s := S640x512) (k0_off6 k ) S32x128.size (k0_off6_inb k )).toLoadRect X_arg4) (View.readAt (Elt F) arg8.view (Rect.unit (s := S2x24x2x128) (k0_off7 k ) S1x1x2x128.size (k0_off7_inb k )).toLoadRect X_arg8) (View.readAt (Elt F) arg9.view (Rect.unit (s := S2x24x2x128) (k0_off7 k ) S1x1x2x128.size (k0_off7_inb k )).toLoadRect X_arg9) (View.readAt (Elt F) arg1.view (Rect.unit (s := S40x16x256) (k0_off8 k 0#32) S1x16x256.size (k0_off8_inb k 0)).toLoadRect X_arg1) (View.readAt (Elt F) arg7.view (Rect.unit (s := S16x256) ![0, 0] S16x256.size inb_S16x256_S16x256_0_0).toLoadRect f_arg7)⟩] : List (View.Piece (Elt F) S16x256 .f32)) (Rect.unit (s := S16x256) ![0, 0] S16x256.size inb_S16x256_S16x256_0_0).toLoadRect) (tripW1 v0 v5 (View.readAt (Elt F) arg2.view (Rect.unit (s := S2560x128) (k0_off1 k ) S128x128.size (k0_off1_inb k )).toLoadRect X_arg2) (View.readAt (Elt F) arg4.view (Rect.unit (s := S640x512) (k0_off2 k ) S32x128.size (k0_off2_inb k )).toLoadRect X_arg4) (View.readAt (Elt F) arg4.view (Rect.unit (s := S640x512) (k0_off3 k ) S32x128.size (k0_off3_inb k )).toLoadRect X_arg4) (View.readAt (Elt F) arg8.view (Rect.unit (s := S2x24x2x128) (k0_off4 k ) S1x1x2x128.size (k0_off4_inb k )).toLoadRect X_arg8) (View.readAt (Elt F) arg9.view (Rect.unit (s := S2x24x2x128) (k0_off4 k ) S1x1x2x128.size (k0_off4_inb k )).toLoadRect X_arg9) (View.readAt (Elt F) arg3.view (Rect.unit (s := S2560x128) (k0_off1 k ) S128x128.size (k0_off1_inb k )).toLoadRect X_arg3) (View.readAt (Elt F) arg4.view (Rect.unit (s := S640x512) (k0_off5 k ) S32x128.size (k0_off5_inb k )).toLoadRect X_arg4) (View.readAt (Elt F) arg4.view (Rect.unit (s := S640x512) (k0_off6 k ) S32x128.size (k0_off6_inb k )).toLoadRect X_arg4) (View.readAt (Elt F) arg8.view (Rect.unit (s := S2x24x2x128) (k0_off7 k ) S1x1x2x128.size (k0_off7_inb k )).toLoadRect X_arg8) (View.readAt (Elt F) arg9.view (Rect.unit (s := S2x24x2x128) (k0_off7 k ) S1x1x2x128.size (k0_off7_inb k )).toLoadRect X_arg9))⟩,
         ⟨(Rect.unit (s := S16x256) ![0, 0] S16x256.size inb_S16x256_S16x256_0_0), trip1 v0 v5 (View.readAt (Elt F) arg2.view (Rect.unit (s := S2560x128) (k0_off1 k ) S128x128.size (k0_off1_inb k )).toLoadRect X_arg2) (View.readAt (Elt F) arg4.view (Rect.unit (s := S640x512) (k0_off2 k ) S32x128.size (k0_off2_inb k )).toLoadRect X_arg4) (View.readAt (Elt F) arg4.view (Rect.unit (s := S640x512) (k0_off3 k ) S32x128.size (k0_off3_inb k )).toLoadRect X_arg4) (View.readAt (Elt F) arg8.view (Rect.unit (s := S2x24x2x128) (k0_off4 k ) S1x1x2x128.size (k0_off4_inb k )).toLoadRect X_arg8) (View.readAt (Elt F) arg9.view (Rect.unit (s := S2x24x2x128) (k0_off4 k ) S1x1x2x128.size (k0_off4_inb k )).toLoadRect X_arg9) (View.readAt (Elt F) arg3.view (Rect.unit (s := S2560x128) (k0_off1 k ) S128x128.size (k0_off1_inb k )).toLoadRect X_arg3) (View.readAt (Elt F) arg4.view (Rect.unit (s := S640x512) (k0_off5 k ) S32x128.size (k0_off5_inb k )).toLoadRect X_arg4) (View.readAt (Elt F) arg4.view (Rect.unit (s := S640x512) (k0_off6 k ) S32x128.size (k0_off6_inb k )).toLoadRect X_arg4) (View.readAt (Elt F) arg8.view (Rect.unit (s := S2x24x2x128) (k0_off7 k ) S1x1x2x128.size (k0_off7_inb k )).toLoadRect X_arg8) (View.readAt (Elt F) arg9.view (Rect.unit (s := S2x24x2x128) (k0_off7 k ) S1x1x2x128.size (k0_off7_inb k )).toLoadRect X_arg9) (View.readAt (Elt F) arg1.view (Rect.unit (s := S40x16x256) (k0_off8 k 0#32) S1x16x256.size (k0_off8_inb k 0)).toLoadRect X_arg1) (View.readAt (Elt F) arg7.view (Rect.unit (s := S16x256) ![0, 0] S16x256.size inb_S16x256_S16x256_0_0).toLoadRect f_arg7)⟩] := by
  unfold tripL_k0_t1 trip_k0_t1
  dsimp only
  sl_unfold_run_names
  rfl

end Cert.KernelIdeal.KV

end
-- ==== Proof.Out.lean ====
module

public import proofs.«01_k».proof.Proof.Pieces
public import Idealize.ShloMosaic.Lib.VecWindow

@[expose] public section

set_option maxRecDepth 16384

noncomputable section

open Idealize.ShloMosaic Idealize.ShloMosaic.TcCoe Idealize.SL Idealize.SL.RA Idealize.SL.Sem

namespace Cert.KernelIdeal.KV

open Cert.KernelIdeal Cert.KernelIdeal.Gen

variable {F : FTy → Type} [FloatOps F]

/-- The offsets of a store at the origin are zero. -/
theorem hz : (![0, 0] : Fin 2 → Nat) = fun _ => 0 := funext fun a => by fin_cases a <;> rfl

/-- The first dense tile of trip `k`, its two blocks side by side. -/
def W0 (v0 : IVec S8x128 32) (v5 : IVec S8x8x128 32) (x1 x2 : Vec F S2560x128 .i8) (x3 : Vec F S640x512 .i8) (s0 : Vec F S2x24x2x128 .bf16) (k : Fin k0_t1_loop.trips) : FVec F S256x256 .bf16 :=
  concatenate S256x256 1 [⟨S256x128, tile0 v5 (wordsOf v0 (View.ld x1 (Rect.unit (s := S2560x128) (k0_off1 k ) S128x128.size (k0_off1_inb k ))) (View.ld x3 (Rect.unit (s := S640x512) (k0_off2 k ) S32x128.size (k0_off2_inb k ))) (View.ld x3 (Rect.unit (s := S640x512) (k0_off3 k ) S32x128.size (k0_off3_inb k )))) (k0_pay45 (View.ld s0 (Rect.unit (s := S2x24x2x128) (k0_off4 k ) S1x1x2x128.size (k0_off4_inb k ))))⟩,
    ⟨S256x128, tile0 v5 (wordsOf v0 (View.ld x2 (Rect.unit (s := S2560x128) (k0_off1 k ) S128x128.size (k0_off1_inb k ))) (View.ld x3 (Rect.unit (s := S640x512) (k0_off5 k ) S32x128.size (k0_off5_inb k ))) (View.ld x3 (Rect.unit (s := S640x512) (k0_off6 k ) S32x128.size (k0_off6_inb k )))) (k0_pay45 (View.ld s0 (Rect.unit (s := S2x24x2x128) (k0_off7 k ) S1x1x2x128.size (k0_off7_inb k ))))⟩] concatenates_S256x128_S256x128_S256x256_d1

/-- The second dense tile of trip `k`. -/
def W1 (v0 : IVec S8x128 32) (v5 : IVec S8x8x128 32) (x1 x2 : Vec F S2560x128 .i8) (x3 : Vec F S640x512 .i8) (s1 : Vec F S2x24x2x128 .bf16) (k : Fin k0_t1_loop.trips) : FVec F S256x256 .bf16 :=
  concatenate S256x256 1 [⟨S256x128, tile1 v5 (wordsOf v0 (View.ld x1 (Rect.unit (s := S2560x128) (k0_off1 k ) S128x128.size (k0_off1_inb k ))) (View.ld x3 (Rect.unit (s := S640x512) (k0_off2 k ) S32x128.size (k0_off2_inb k ))) (View.ld x3 (Rect.unit (s := S640x512) (k0_off3 k ) S32x128.size (k0_off3_inb k )))) (k0_pay45 (View.ld s1 (Rect.unit (s := S2x24x2x128) (k0_off4 k ) S1x1x2x128.size (k0_off4_inb k ))))⟩,
    ⟨S256x128, tile1 v5 (wordsOf v0 (View.ld x2 (Rect.unit (s := S2560x128) (k0_off1 k ) S128x128.size (k0_off1_inb k ))) (View.ld x3 (Rect.unit (s := S640x512) (k0_off5 k ) S32x128.size (k0_off5_inb k ))) (View.ld x3 (Rect.unit (s := S640x512) (k0_off6 k ) S32x128.size (k0_off6_inb k )))) (k0_pay45 (View.ld s1 (Rect.unit (s := S2x24x2x128) (k0_off7 k ) S1x1x2x128.size (k0_off7_inb k ))))⟩] concatenates_S256x128_S256x128_S256x256_d1

/-- The left rows of trip `k`, first and second half. -/
def X0 (x0 : Vec F S40x16x256 .bf16) (k : Fin k0_t1_loop.trips) : Vec F S1x16x256 .bf16 := (View.ld x0 (Rect.unit (s := S40x16x256) (k0_off8 k 0#32) S1x16x256.size (k0_off8_inb k 0)))
def X1 (x0 : Vec F S40x16x256 .bf16) (k : Fin k0_t1_loop.trips) : Vec F S1x16x256 .bf16 := (View.ld x0 (Rect.unit (s := S40x16x256) (k0_off8 k 1#32) S1x16x256.size (k0_off8_inb k 1)))

/-- What a trip makes of the accumulator. -/
def tripOf (v0 : IVec S8x128 32) (v5 : IVec S8x8x128 32) (x0 : Vec F S40x16x256 .bf16) (x1 : Vec F S2560x128 .i8) (x2 : Vec F S2560x128 .i8) (x3 : Vec F S640x512 .i8) (s0 s1 : Vec F S2x24x2x128 .bf16) (k : Fin k0_t1_loop.trips) (acc : FVec F S16x256 .f32) : FVec F S16x256 .f32 :=
  step (X1 x0 k) (step (X0 x0 k) acc (W0 v0 v5 x1 x2 x3 s0 k)) (W1 v0 v5 x1 x2 x3 s1 k)

/-- The accumulator before trip `n`. -/
def accN (v0 : IVec S8x128 32) (v5 : IVec S8x8x128 32) (x0 : Vec F S40x16x256 .bf16) (x1 : Vec F S2560x128 .i8) (x2 : Vec F S2560x128 .i8) (x3 : Vec F S640x512 .i8) (s0 s1 : Vec F S2x24x2x128 .bf16) : Nat → FVec F S16x256 .f32
  | 0 => k0_pay173
  | n + 1 => if h : n < k0_t1_loop.trips then tripOf v0 v5 x0 x1 x2 x3 s0 s1 ⟨n, h⟩ (accN v0 v5 x0 x1 x2 x3 s0 s1 n)
      else accN v0 v5 x0 x1 x2 x3 s0 s1 n

/-- The trip's stores, with what it reads as values. -/
theorem tripL_val (𝒱 : Variants) (c : Dev nD) (bd : Option 𝒱.V) (i : grid0.Coords) (arg1 : Memref sig .tc .vmem S40x16x256 .bf16) (harg1 : arg1.IsWhole) (arg2 : Memref sig .tc .vmem S2560x128 .i8) (harg2 : arg2.IsWhole) (arg3 : Memref sig .tc .vmem S2560x128 .i8) (harg3 : arg3.IsWhole) (arg4 : Memref sig .tc .vmem S640x512 .i8) (harg4 : arg4.IsWhole) (arg5 : Memref sig .tc .vmem S40x512 .bf16) (harg5 : arg5.IsWhole) (arg6 : Memref sig .tc .vmem S16x256 .f32) (harg6 : arg6.IsWhole) (arg7 : Memref sig .tc .vmem S16x256 .f32) (harg7 : arg7.IsWhole) (arg8 : Memref sig .tc .vmem S2x24x2x128 .bf16) (harg8 : arg8.IsWhole) (arg9 : Memref sig .tc .vmem S2x24x2x128 .bf16) (harg9 : arg9.IsWhole) (v0 : IVec S8x128 32) (v5 : IVec S8x8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg8 : BufTy.Contents (Elt F) arg8.view.ty) (X_arg9 : BufTy.Contents (Elt F) arg9.view.ty) (k : Fin k0_t1_loop.trips) (f_arg7 : BufTy.Contents (Elt F) arg7.view.ty) (x0 : Vec F S40x16x256 .bf16) (x1 : Vec F S2560x128 .i8) (x2 : Vec F S2560x128 .i8) (x3 : Vec F S640x512 .i8) (s0 s1 : Vec F S2x24x2x128 .bf16) (acc : FVec F S16x256 .f32)
    (h1 : arg1.view.read (Elt F) X_arg1 = x0) (h2 : arg2.view.read (Elt F) X_arg2 = x1) (h3 : arg3.view.read (Elt F) X_arg3 = x2)
    (h4 : arg4.view.read (Elt F) X_arg4 = x3) (h8 : arg8.view.read (Elt F) X_arg8 = s0) (h9 : arg9.view.read (Elt F) X_arg9 = s1)
    (h7 : arg7.view.read (Elt F) f_arg7 = acc) :
    ∃ w : FVec F S16x256 .f32, tripL_k0_t1 (F := F) 𝒱 c bd i arg1 harg1 arg2 harg2 arg3 harg3 arg4 harg4 arg5 harg5 arg6 harg6 arg7 harg7 arg8 harg8 arg9 harg9 v0 v5 X_arg1 X_arg2 X_arg3 X_arg4 X_arg8 X_arg9 k f_arg7
      = [⟨(Rect.unit (s := S16x256) ![0, 0] S16x256.size inb_S16x256_S16x256_0_0), tripOf v0 v5 x0 x1 x2 x3 s0 s1 k acc⟩, ⟨(Rect.unit (s := S16x256) ![0, 0] S16x256.size inb_S16x256_S16x256_0_0), w⟩] := by
  rw [tripL_eq, View.readCov_full, trip1_eq, tripW1_eq, View.readAt_full, h7]
  subst h1 h2 h3 h4 h8 h9
  exact ⟨step (X0 (arg1.view.read (Elt F) X_arg1) k) acc (W0 v0 v5 (arg2.view.read (Elt F) X_arg2) (arg3.view.read (Elt F) X_arg3) (arg4.view.read (Elt F) X_arg4) (arg8.view.read (Elt F) X_arg8) k), rfl⟩

/-- Before trip `n` the accumulator's buffer reads `accN n`. -/
theorem loop_val (𝒱 : Variants) (c : Dev nD) (bd : Option 𝒱.V) (i : grid0.Coords) (arg1 : Memref sig .tc .vmem S40x16x256 .bf16) (harg1 : arg1.IsWhole) (arg2 : Memref sig .tc .vmem S2560x128 .i8) (harg2 : arg2.IsWhole) (arg3 : Memref sig .tc .vmem S2560x128 .i8) (harg3 : arg3.IsWhole) (arg4 : Memref sig .tc .vmem S640x512 .i8) (harg4 : arg4.IsWhole) (arg5 : Memref sig .tc .vmem S40x512 .bf16) (harg5 : arg5.IsWhole) (arg6 : Memref sig .tc .vmem S16x256 .f32) (harg6 : arg6.IsWhole) (arg7 : Memref sig .tc .vmem S16x256 .f32) (harg7 : arg7.IsWhole) (arg8 : Memref sig .tc .vmem S2x24x2x128 .bf16) (harg8 : arg8.IsWhole) (arg9 : Memref sig .tc .vmem S2x24x2x128 .bf16) (harg9 : arg9.IsWhole) (v0 : IVec S8x128 32) (v5 : IVec S8x8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg8 : BufTy.Contents (Elt F) arg8.view.ty) (X_arg9 : BufTy.Contents (Elt F) arg9.view.ty)  (G : BufTy.Contents (Elt F) arg7.view.ty) (x0 : Vec F S40x16x256 .bf16) (x1 : Vec F S2560x128 .i8) (x2 : Vec F S2560x128 .i8) (x3 : Vec F S640x512 .i8) (s0 s1 : Vec F S2x24x2x128 .bf16)
    (h1 : arg1.view.read (Elt F) X_arg1 = x0) (h2 : arg2.view.read (Elt F) X_arg2 = x1) (h3 : arg3.view.read (Elt F) X_arg3 = x2)
    (h4 : arg4.view.read (Elt F) X_arg4 = x3) (h8 : arg8.view.read (Elt F) X_arg8 = s0) (h9 : arg9.view.read (Elt F) X_arg9 = s1)
    (h7 : arg7.view.read (Elt F) G = k0_pay173) (n : Nat) (hn : n ≤ k0_t1_loop.trips) :
    arg7.view.read (Elt F) (arg7.view.writes (Elt F) G (pb_k0_t1 (F := F) 𝒱 c bd i arg1 harg1 arg2 harg2 arg3 harg3 arg4 harg4 arg5 harg5 arg6 harg6 arg7 harg7 arg8 harg8 arg9 harg9 v0 v5 X_arg1 X_arg2 X_arg3 X_arg4 X_arg8 X_arg9 G n)) = accN v0 v5 x0 x1 x2 x3 s0 s1 n := by
  induction n with
  | zero => exact h7
  | succ n ih =>
    obtain ⟨w, hw⟩ := tripL_val 𝒱 c bd i arg1 harg1 arg2 harg2 arg3 harg3 arg4 harg4 arg5 harg5 arg6 harg6 arg7 harg7 arg8 harg8 arg9 harg9 v0 v5 X_arg1 X_arg2 X_arg3 X_arg4 X_arg8 X_arg9 ⟨n, hn⟩ (arg7.view.writes (Elt F) G (pb_k0_t1 (F := F) 𝒱 c bd i arg1 harg1 arg2 harg2 arg3 harg3 arg4 harg4 arg5 harg5 arg6 harg6 arg7 harg7 arg8 harg8 arg9 harg9 v0 v5 X_arg1 X_arg2 X_arg3 X_arg4 X_arg8 X_arg9 G n)) x0 x1 x2 x3 s0 s1 _ h1 h2 h3 h4 h8 h9 (ih (Nat.le_of_lt hn))
    rw [show n + 1 = (⟨n, hn⟩ : Fin k0_t1_loop.trips).val + 1 from rfl, pb_k0_t1_succ, hw, List.cons_append, View.read_writes_full]
    show _ = accN v0 v5 x0 x1 x2 x3 s0 s1 (n + 1)
    rw [accN]
    rw [dif_pos (show n < k0_t1_loop.trips from hn)]

/-- What a body leaves in its output block: the accumulator after the last trip. -/
theorem out_A (c : Dev nD) (i : grid0.Coords) (arg1 : Memref sig .tc .vmem S40x16x256 .bf16) (harg1 : arg1.IsWhole) (arg2 : Memref sig .tc .vmem S2560x128 .i8) (harg2 : arg2.IsWhole) (arg3 : Memref sig .tc .vmem S2560x128 .i8) (harg3 : arg3.IsWhole) (arg4 : Memref sig .tc .vmem S640x512 .i8) (harg4 : arg4.IsWhole) (arg5 : Memref sig .tc .vmem S40x512 .bf16) (harg5 : arg5.IsWhole) (arg6 : Memref sig .tc .vmem S16x256 .f32) (harg6 : arg6.IsWhole) (arg7 : Memref sig .tc .vmem S16x256 .f32) (harg7 : arg7.IsWhole) (arg8 : Memref sig .tc .vmem S2x24x2x128 .bf16) (harg8 : arg8.IsWhole) (arg9 : Memref sig .tc .vmem S2x24x2x128 .bf16) (harg9 : arg9.IsWhole)  (x0 : Vec F S40x16x256 .bf16) (x1 : Vec F S2560x128 .i8) (x2 : Vec F S2560x128 .i8) (x3 : Vec F S640x512 .i8) (x4 : Vec F S40x512 .bf16) :
    out0_A_5 (F := F) c i arg1 harg1 arg2 harg2 arg3 harg3 arg4 harg4 arg5 harg5 arg6 harg6 arg7 harg7 arg8 harg8 arg9 harg9 x0 x1 x2 x3 x4
      = accN (kernelRun0_A.sl.v0) k0_pay172 x0 x1 x2 x3 (View.canon (kernelRun0_A.sl.HS1_6 (F := F) c arg5 harg5 x4)) (View.canon (kernelRun0_A.sl.HS2_6 (F := F) c arg5 harg5 x4)) (Scf.trips k0_t1_loop.lb k0_t1_loop.ub k0_t1_loop.st) := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3 x4)]
  unfold kernelRun0_A
  dsimp only
  rw [View.canon_unit_zero hz]
  unfold kernelRun0_A.sl.v508
  rw [View.readCov_eq_canon', ← View.read_writes_junk_eq_canon arg7.view, View.writes_append]
  funext j
  unfold kernelRun0_A.sl.HS0_1
  rw [loop_val _ _ _ _ arg1 harg1 arg2 harg2 arg3 harg3 arg4 harg4 arg5 harg5 arg6 harg6 arg7 harg7 arg8 harg8 arg9 harg9 _ _ _ _ _ _ _ _ _ x0 x1 x2 x3 _ _ (harg1.read_unread x0) (harg2.read_unread x1) (harg3.read_unread x2) (harg4.read_unread x3)
    (View.read_writes_junk_eq_canon arg8.view _) (View.read_writes_junk_eq_canon arg9.view _) (View.read_writes_full _ _ _ _ _) _ (le_refl _)]
  exact congrArg _ (funext fun a => Fin.ext (by simp [Rect.unit, Rect.toLoadRect, LoadRect.idx]; exact congrFun hz a))

end Cert.KernelIdeal.KV

end
-- ==== Proof.Scale.lean ====
module

public import proofs.«01_k».proof.Proof.Out
public import Idealize.ShloMosaic.Lib.Pointwise

@[expose] public section

set_option maxRecDepth 16384

noncomputable section

open Idealize.ShloMosaic Idealize.ShloMosaic.TcCoe Idealize.SL Idealize.SL.RA Idealize.SL.Sem

namespace Cert.KernelIdeal.KV

open Cert.KernelIdeal Cert.KernelIdeal.Gen

/-! ### Reading a matrix by numbers -/

/-- Entry `i`, `j` of a matrix, the two as plain numbers (used below the extents only). -/
def rd {α : Type} {m n : Nat} [NeZero m] [NeZero n] (x : (⟨2, ![m, n]⟩ : Shape).Idx → α) (i j : Nat) : α :=
  x (ix2 (Fin.ofNat m i) (Fin.ofNat n j))

/-- An entry read by its numbers. -/
theorem rd_of {α : Type} {m n : Nat} [NeZero m] [NeZero n] (x : (⟨2, ![m, n]⟩ : Shape).Idx → α) (i : Fin m) (j : Fin n) :
    x (ix2 i j) = rd x i.val j.val :=
  congrArg x (by rw [show Fin.ofNat m i.val = i from Fin.ext (Nat.mod_eq_of_lt i.isLt), show Fin.ofNat n j.val = j from Fin.ext (Nat.mod_eq_of_lt j.isLt)])

/-- An entry read by equal numbers. -/
theorem rd_eq {α : Type} {m n : Nat} [NeZero m] [NeZero n] (x : (⟨2, ![m, n]⟩ : Shape).Idx → α) (i j : Nat) (hi : i < m) (hj : j < n) :
    rd x i j = x (ix2 ⟨i, hi⟩ ⟨j, hj⟩) := (rd_of x ⟨i, hi⟩ ⟨j, hj⟩).symm

/-- A window of a matrix, by numbers. -/
theorem ld_rd {e : EltTy} {α : EltTy → Type} {m n m' n' : Nat} [NeZero m] [NeZero n] [NeZero m'] [NeZero n'] (x : (⟨2, ![m, n]⟩ : Shape).Idx → α e)
    (off : Fin 2 → Nat) (inb : ∀ a, off a + (![m', n'] : Fin 2 → Nat) a ≤ (⟨2, ![m, n]⟩ : Shape).size a) (r c : Nat) (hoff : off = ![r, c])
    (i j : Nat) (hi : i < m') (hj : j < n') :
    rd (m := m') (n := n') (View.ld x (Rect.unit (s := ⟨2, ![m, n]⟩) off (![m', n']) inb)) i j = rd x (r + i) (c + j) := by
  subst hoff
  have h0 : r + m' ≤ m := inb 0
  have h1 : c + n' ≤ n := inb 1
  rw [rd_eq _ i j hi hj, rd_eq x (r + i) (c + j) (by omega) (by omega)]
  refine congrArg x (funext fun a => Fin.ext ?_)
  match a with
  | ⟨0, _⟩ => show r + 1 * i = r + i; omega
  | ⟨1, _⟩ => show c + 1 * j = c + j; omega

section pieces
variable {F : FTy → Type} [FloatOps F]

/-- Eight rows, twice. -/
def dup (a : Vec F S8x128 .bf16) : Vec F S16x128 .bf16 :=
  concatenate S16x128 0 [⟨S8x128, a⟩, ⟨S8x128, a⟩] concatenates_S8x128_S8x128_S16x128_d0

/-- What is stored of sixteen rows of scales: the even rows', the even and the odd columns apart. -/
def piece0 (a b : Vec F S16x128 .bf16) : Vec F S1x8x2x128 .bf16 := k0_pay187 (k0_pay181 (iota Kind.tc S16x128 32 [1] iota_S16x128_d1_w32) (k0_pay174 a) (k0_pay175 b) k0_pay176 k0_pay177 k0_pay178) (k0_pay184 (iota Kind.tc S16x128 32 [1] iota_S16x128_d1_w32) (k0_pay174 a) (k0_pay175 b) k0_pay176 k0_pay177)
/-- The odd rows'. -/
def piece1 (a b : Vec F S16x128 .bf16) : Vec F S1x8x2x128 .bf16 := k0_pay188 (k0_pay182 (iota Kind.tc S16x128 32 [1] iota_S16x128_d1_w32) (k0_pay174 a) (k0_pay175 b) k0_pay176 k0_pay177 k0_pay178) (k0_pay185 (iota Kind.tc S16x128 32 [1] iota_S16x128_d1_w32) (k0_pay174 a) (k0_pay175 b) k0_pay176 k0_pay177)

/-- The first buffer of scales after its stores. -/
theorem HS1_eq (c : Dev nD) (arg5 : Memref sig .tc .vmem S40x512 .bf16) (harg5 : arg5.IsWhole) (x4 : Vec F S40x512 .bf16) :
    kernelRun0_A.sl.HS1_6 (F := F) c arg5 harg5 x4 = [⟨(Rect.unit (s := S2x24x2x128) ![1, 16, 0, 0] S1x8x2x128.size inb_S2x24x2x128_S1x8x2x128_1_16_0_0), piece0 (dup (View.readAt (Elt F) arg5.view (Rect.unit (s := S40x512) ![32, 256] S8x128.size inb_S40x512_S8x128_32_256).toLoadRect (harg5.unread x4))) (dup (View.readAt (Elt F) arg5.view (Rect.unit (s := S40x512) ![32, 384] S8x128.size inb_S40x512_S8x128_32_384).toLoadRect (harg5.unread x4)))⟩,
      ⟨(Rect.unit (s := S2x24x2x128) ![1, 8, 0, 0] S1x8x2x128.size inb_S2x24x2x128_S1x8x2x128_1_8_0_0), piece0 (View.readAt (Elt F) arg5.view (Rect.unit (s := S40x512) ![16, 256] S16x128.size inb_S40x512_S16x128_16_256).toLoadRect (harg5.unread x4)) (View.readAt (Elt F) arg5.view (Rect.unit (s := S40x512) ![16, 384] S16x128.size inb_S40x512_S16x128_16_384).toLoadRect (harg5.unread x4))⟩,
      ⟨(Rect.unit (s := S2x24x2x128) ![1, 0, 0, 0] S1x8x2x128.size inb_S2x24x2x128_S1x8x2x128_1_0_0_0), piece0 (View.readAt (Elt F) arg5.view (Rect.unit (s := S40x512) ![0, 256] S16x128.size inb_S40x512_S16x128_0_256).toLoadRect (harg5.unread x4)) (View.readAt (Elt F) arg5.view (Rect.unit (s := S40x512) ![0, 384] S16x128.size inb_S40x512_S16x128_0_384).toLoadRect (harg5.unread x4))⟩,
      ⟨(Rect.unit (s := S2x24x2x128) ![0, 16, 0, 0] S1x8x2x128.size inb_S2x24x2x128_S1x8x2x128_0_16_0_0), piece0 (dup (View.readAt (Elt F) arg5.view (Rect.unit (s := S40x512) ![32, 0] S8x128.size inb_S40x512_S8x128_32_0).toLoadRect (harg5.unread x4))) (dup (View.readAt (Elt F) arg5.view (Rect.unit (s := S40x512) ![32, 128] S8x128.size inb_S40x512_S8x128_32_128).toLoadRect (harg5.unread x4)))⟩,
      ⟨(Rect.unit (s := S2x24x2x128) ![0, 8, 0, 0] S1x8x2x128.size inb_S2x24x2x128_S1x8x2x128_0_8_0_0), piece0 (View.readAt (Elt F) arg5.view (Rect.unit (s := S40x512) ![16, 0] S16x128.size inb_S40x512_S16x128_16_0).toLoadRect (harg5.unread x4)) (View.readAt (Elt F) arg5.view (Rect.unit (s := S40x512) ![16, 128] S16x128.size inb_S40x512_S16x128_16_128).toLoadRect (harg5.unread x4))⟩,
      ⟨(Rect.unit (s := S2x24x2x128) ![0, 0, 0, 0] S1x8x2x128.size inb_S2x24x2x128_S1x8x2x128_0_0_0_0), piece0 (View.readAt (Elt F) arg5.view (Rect.unit (s := S40x512) ![0, 0] S16x128.size inb_S40x512_S16x128_0_0).toLoadRect (harg5.unread x4)) (View.readAt (Elt F) arg5.view (Rect.unit (s := S40x512) ![0, 128] S16x128.size inb_S40x512_S16x128_0_128).toLoadRect (harg5.unread x4))⟩] := by
  sl_unfold_run_names
  rfl

/-- The second buffer of scales after its stores. -/
theorem HS2_eq (c : Dev nD) (arg5 : Memref sig .tc .vmem S40x512 .bf16) (harg5 : arg5.IsWhole) (x4 : Vec F S40x512 .bf16) :
    kernelRun0_A.sl.HS2_6 (F := F) c arg5 harg5 x4 = [⟨(Rect.unit (s := S2x24x2x128) ![1, 16, 0, 0] S1x8x2x128.size inb_S2x24x2x128_S1x8x2x128_1_16_0_0), piece1 (dup (View.readAt (Elt F) arg5.view (Rect.unit (s := S40x512) ![32, 256] S8x128.size inb_S40x512_S8x128_32_256).toLoadRect (harg5.unread x4))) (dup (View.readAt (Elt F) arg5.view (Rect.unit (s := S40x512) ![32, 384] S8x128.size inb_S40x512_S8x128_32_384).toLoadRect (harg5.unread x4)))⟩,
      ⟨(Rect.unit (s := S2x24x2x128) ![1, 8, 0, 0] S1x8x2x128.size inb_S2x24x2x128_S1x8x2x128_1_8_0_0), piece1 (View.readAt (Elt F) arg5.view (Rect.unit (s := S40x512) ![16, 256] S16x128.size inb_S40x512_S16x128_16_256).toLoadRect (harg5.unread x4)) (View.readAt (Elt F) arg5.view (Rect.unit (s := S40x512) ![16, 384] S16x128.size inb_S40x512_S16x128_16_384).toLoadRect (harg5.unread x4))⟩,
      ⟨(Rect.unit (s := S2x24x2x128) ![1, 0, 0, 0] S1x8x2x128.size inb_S2x24x2x128_S1x8x2x128_1_0_0_0), piece1 (View.readAt (Elt F) arg5.view (Rect.unit (s := S40x512) ![0, 256] S16x128.size inb_S40x512_S16x128_0_256).toLoadRect (harg5.unread x4)) (View.readAt (Elt F) arg5.view (Rect.unit (s := S40x512) ![0, 384] S16x128.size inb_S40x512_S16x128_0_384).toLoadRect (harg5.unread x4))⟩,
      ⟨(Rect.unit (s := S2x24x2x128) ![0, 16, 0, 0] S1x8x2x128.size inb_S2x24x2x128_S1x8x2x128_0_16_0_0), piece1 (dup (View.readAt (Elt F) arg5.view (Rect.unit (s := S40x512) ![32, 0] S8x128.size inb_S40x512_S8x128_32_0).toLoadRect (harg5.unread x4))) (dup (View.readAt (Elt F) arg5.view (Rect.unit (s := S40x512) ![32, 128] S8x128.size inb_S40x512_S8x128_32_128).toLoadRect (harg5.unread x4)))⟩,
      ⟨(Rect.unit (s := S2x24x2x128) ![0, 8, 0, 0] S1x8x2x128.size inb_S2x24x2x128_S1x8x2x128_0_8_0_0), piece1 (View.readAt (Elt F) arg5.view (Rect.unit (s := S40x512) ![16, 0] S16x128.size inb_S40x512_S16x128_16_0).toLoadRect (harg5.unread x4)) (View.readAt (Elt F) arg5.view (Rect.unit (s := S40x512) ![16, 128] S16x128.size inb_S40x512_S16x128_16_128).toLoadRect (harg5.unread x4))⟩,
      ⟨(Rect.unit (s := S2x24x2x128) ![0, 0, 0, 0] S1x8x2x128.size inb_S2x24x2x128_S1x8x2x128_0_0_0_0), piece1 (View.readAt (Elt F) arg5.view (Rect.unit (s := S40x512) ![0, 0] S16x128.size inb_S40x512_S16x128_0_0).toLoadRect (harg5.unread x4)) (View.readAt (Elt F) arg5.view (Rect.unit (s := S40x512) ![0, 128] S16x128.size inb_S40x512_S16x128_0_128).toLoadRect (harg5.unread x4))⟩] := by
  sl_unfold_run_names
  rfl

end pieces

/-! ### The even and the odd columns -/

/-- The lane the even columns are gathered from. -/
def evb (l : Nat) : BitVec 32 :=
  Scalar.select (IntOp.cmpi .slt (BitVec.ofNat 32 l) 64#32) (IntOp.muli 2#32 (BitVec.ofNat 32 l))
    (IntOp.addi (IntOp.subi (IntOp.muli 2#32 (BitVec.ofNat 32 l)) 128#32) 1#32)
/-- The lane the odd columns are gathered from. -/
def odb (l : Nat) : BitVec 32 :=
  Scalar.select (IntOp.cmpi .slt (BitVec.ofNat 32 l) 64#32) (IntOp.addi (IntOp.muli 2#32 (BitVec.ofNat 32 l)) 1#32)
    (IntOp.subi (IntOp.muli 2#32 (BitVec.ofNat 32 l)) 128#32)
/-- A negative lane counted from the end. -/
def wrap (x : BitVec 32) : Nat := (Scalar.select (IntOp.cmpi .slt x 0#32) (IntOp.addi x 128#32) x).toNat % 128

/-- The lanes the two gathers take: even below the middle and odd above, and the other way round. -/
theorem lanes : ∀ l : Fin 128,
    (l.val < 64 → IntOp.cmpi .slt (BitVec.ofNat 32 l.val) 64#32 = 1#1 ∧ wrap (evb l.val) = 2 * l.val ∧ wrap (odb l.val) = 2 * l.val + 1)
    ∧ (¬ l.val < 64 → IntOp.cmpi .slt (BitVec.ofNat 32 l.val) 64#32 = 0#1 ∧ wrap (odb l.val) = 2 * l.val - 128
        ∧ wrap (evb l.val) = 2 * l.val + 1 - 128) := by
  unfold wrap evb odb
  decide +kernel

/-- A wrapped lane is below 128. -/
theorem wrap_lt (x : BitVec 32) : wrap x < 128 := Nat.mod_lt _ (by decide)

/-- The even columns of `a` and `b` side by side. -/
theorem pick_even {α : Type} {m : Nat} [NeZero m] (a b : (⟨2, ![m, 128]⟩ : Shape).Idx → α) (r : Fin m) (l : Fin 128) :
    Scalar.select (IntOp.cmpi .slt (BitVec.ofNat 32 l.val) 64#32) (a (ix2 r ⟨wrap (evb l.val), wrap_lt _⟩)) (b (ix2 r ⟨wrap (odb l.val), wrap_lt _⟩))
      = if l.val < 64 then rd a r.val (2 * l.val) else rd b r.val (2 * l.val - 128) := by
  by_cases h : l.val < 64
  · obtain ⟨h1, h2, _⟩ := (lanes l).1 h
    rw [h1, if_pos h]
    show a _ = _
    rw [rd_of a]; simp only [h2]
  · obtain ⟨h1, h2, _⟩ := (lanes l).2 h
    rw [h1, if_neg h]
    show b _ = _
    rw [rd_of b]; simp only [h2]

/-- The odd columns. -/
theorem pick_odd {α : Type} {m : Nat} [NeZero m] (a b : (⟨2, ![m, 128]⟩ : Shape).Idx → α) (r : Fin m) (l : Fin 128) :
    Scalar.select (IntOp.cmpi .slt (BitVec.ofNat 32 l.val) 64#32) (a (ix2 r ⟨wrap (odb l.val), wrap_lt _⟩)) (b (ix2 r ⟨wrap (evb l.val), wrap_lt _⟩))
      = if l.val < 64 then rd a r.val (2 * l.val + 1) else rd b r.val (2 * l.val + 1 - 128) := by
  by_cases h : l.val < 64
  · obtain ⟨h1, _, h2⟩ := (lanes l).1 h
    rw [h1, if_pos h]
    show a _ = _
    rw [rd_of a]; simp only [h2]
  · obtain ⟨h1, _, h2⟩ := (lanes l).2 h
    rw [h1, if_neg h]
    show b _ = _
    rw [rd_of b]; simp only [h2]

/-- The even columns of two blocks of scales, entry by entry. -/
theorem pay180_at (a b : Vec Ideal S16x128 .bf16) (r : Fin 16) (l : Fin 128) :
    k0_pay180 (iota Kind.tc S16x128 32 [1] iota_S16x128_d1_w32) (k0_pay174 (F := Ideal) a) (k0_pay175 (F := Ideal) b) k0_pay176 k0_pay177 k0_pay178 (ix2 r l)
      = if l.val < 64 then rd a r.val (2 * l.val) else rd b r.val (2 * l.val - 128) := by
  rw [← pick_even a b r l]
  pointwise [k0_pay180, k0_pay174, k0_pay175, k0_pay176, k0_pay177, k0_pay178, k0_pay179]
  rfl

/-- The odd columns of two blocks of scales, entry by entry. -/
theorem pay183_at (a b : Vec Ideal S16x128 .bf16) (r : Fin 16) (l : Fin 128) :
    k0_pay183 (iota Kind.tc S16x128 32 [1] iota_S16x128_d1_w32) (k0_pay174 (F := Ideal) a) (k0_pay175 (F := Ideal) b) k0_pay176 k0_pay177 (ix2 r l)
      = if l.val < 64 then rd a r.val (2 * l.val + 1) else rd b r.val (2 * l.val + 1 - 128) := by
  rw [← pick_odd a b r l]
  pointwise [k0_pay183, k0_pay174, k0_pay175, k0_pay176, k0_pay177, k0_pay179]
  rfl

/-- A piece of the first buffer, by its halves: the scales of the even groups. -/
theorem piece0_at (a b : Vec Ideal S16x128 .bf16) (z : Fin 1) (r : Fin 8) (c : Fin 2) (l : Fin 128) :
    piece0 (F := Ideal) a b (ix4 z r c l)
      = if l.val < 64 then rd a (2 * r.val) (2 * l.val + c.val) else rd b (2 * r.val) (2 * l.val + c.val - 128) := by
  match c with
  | 0 =>
    unfold piece0
    pointwise [k0_pay187, k0_pay181, k0_pay184]
    exact pay180_at a b ⟨2 * r.val, by omega⟩ l
  | 1 =>
    unfold piece0
    pointwise [k0_pay187, k0_pay181, k0_pay184]
    exact pay183_at a b ⟨2 * r.val, by omega⟩ l

/-- A piece of the second buffer, by its halves: the scales of the odd groups. -/
theorem piece1_at (a b : Vec Ideal S16x128 .bf16) (z : Fin 1) (r : Fin 8) (c : Fin 2) (l : Fin 128) :
    piece1 (F := Ideal) a b (ix4 z r c l)
      = if l.val < 64 then rd a (2 * r.val + 1) (2 * l.val + c.val) else rd b (2 * r.val + 1) (2 * l.val + c.val - 128) := by
  match c with
  | 0 =>
    unfold piece1
    pointwise [k0_pay188, k0_pay182, k0_pay185]
    exact pay180_at a b ⟨2 * r.val + 1, by omega⟩ l
  | 1 =>
    unfold piece1
    pointwise [k0_pay188, k0_pay182, k0_pay185]
    exact pay183_at a b ⟨2 * r.val + 1, by omega⟩ l

/-- Eight rows repeated, entry by entry. -/
theorem dup_at (a : Vec Ideal S8x128 .bf16) (r l : Nat) (hr : r < 16) (hl : l < 128) : rd (dup (F := Ideal) a) r l = rd a (r % 8) l := by
  rw [rd_eq _ r l hr hl, rd_eq _ (r % 8) l (by omega) hl]
  pointwise [dup]
  split
  · exact congrArg a (congrArg₂ ix2 (Fin.ext (by show r = r % 8; omega)) rfl)
  · exact congrArg a (congrArg₂ ix2 (Fin.ext (by show r - 8 = r % 8; omega)) rfl)

/-- What the two scale buffers hold, entry by entry: row `row` holds the scales of the two groups `2 row`, `2 row + 1`. -/
def scaleG (x4 : Vec Ideal S40x512 .bf16) (par : Nat) (j : S2x24x2x128.Idx) : Ideal .bf16 :=
  rd x4 (par + if (j 1).val < 20 then 2 * (j 1).val else 2 * (j 1).val - 8) (256 * (j 0).val + 2 * (j 3).val + (j 2).val)

/-- A piece of the first buffer agrees with the scales where it is stored. -/
theorem piece0_G (x4 : Vec Ideal S40x512 .bf16) (a b : Vec Ideal S16x128 .bf16) (blk k8 : Nat) (off : Fin 4 → Nat)
    (inb : ∀ i, off i + S1x8x2x128.size i ≤ S2x24x2x128.size i) (hoff : off = ![blk, k8, 0, 0]) (src : Nat → Nat)
    (ha : ∀ i j, i < 16 → j < 128 → rd a i j = rd x4 (src i) (256 * blk + j))
    (hb : ∀ i j, i < 16 → j < 128 → rd b i j = rd x4 (src i) (256 * blk + 128 + j))
    (hs : ∀ r, r < 8 → src (2 * r + 0) = 0 + if k8 + r < 20 then 2 * (k8 + r) else 2 * (k8 + r) - 8)
    (x : S1x8x2x128.Idx) :
    piece0 (F := Ideal) a b x = scaleG x4 0 ((Rect.unit (s := S2x24x2x128) off S1x8x2x128.size inb).emb x) := by
  subst hoff
  obtain ⟨z, r, c, l, rfl⟩ : ∃ (z : Fin 1) (r : Fin 8) (c : Fin 2) (l : Fin 128), x = ix4 z r c l := ⟨x 0, x 1, x 2, x 3, eq_ix4 x⟩
  rw [piece0_at]
  have hz := z.isLt
  have hr := r.isLt
  have hc := c.isLt
  have hl := l.isLt
  show _ = rd x4 (0 + if k8 + 1 * r.val < 20 then 2 * (k8 + 1 * r.val) else 2 * (k8 + 1 * r.val) - 8) (256 * (blk + 1 * z.val) + 2 * (0 + 1 * l.val) + (0 + 1 * c.val))
  have e1 : k8 + 1 * r.val = k8 + r.val := by omega
  rw [e1, ← hs r.val hr]
  split
  · rw [ha _ _ (by omega) (by omega)]
    exact congrArg₂ (rd x4) rfl (by omega)
  · rw [hb _ _ (by omega) (by omega)]
    exact congrArg₂ (rd x4) rfl (by omega)

/-- A piece of the second buffer agrees with the scales where it is stored. -/
theorem piece1_G (x4 : Vec Ideal S40x512 .bf16) (a b : Vec Ideal S16x128 .bf16) (blk k8 : Nat) (off : Fin 4 → Nat)
    (inb : ∀ i, off i + S1x8x2x128.size i ≤ S2x24x2x128.size i) (hoff : off = ![blk, k8, 0, 0]) (src : Nat → Nat)
    (ha : ∀ i j, i < 16 → j < 128 → rd a i j = rd x4 (src i) (256 * blk + j))
    (hb : ∀ i j, i < 16 → j < 128 → rd b i j = rd x4 (src i) (256 * blk + 128 + j))
    (hs : ∀ r, r < 8 → src (2 * r + 1) = 1 + if k8 + r < 20 then 2 * (k8 + r) else 2 * (k8 + r) - 8)
    (x : S1x8x2x128.Idx) :
    piece1 (F := Ideal) a b x = scaleG x4 1 ((Rect.unit (s := S2x24x2x128) off S1x8x2x128.size inb).emb x) := by
  subst hoff
  obtain ⟨z, r, c, l, rfl⟩ : ∃ (z : Fin 1) (r : Fin 8) (c : Fin 2) (l : Fin 128), x = ix4 z r c l := ⟨x 0, x 1, x 2, x 3, eq_ix4 x⟩
  rw [piece1_at]
  have hz := z.isLt
  have hr := r.isLt
  have hc := c.isLt
  have hl := l.isLt
  show _ = rd x4 (1 + if k8 + 1 * r.val < 20 then 2 * (k8 + 1 * r.val) else 2 * (k8 + 1 * r.val) - 8) (256 * (blk + 1 * z.val) + 2 * (0 + 1 * l.val) + (0 + 1 * c.val))
  have e1 : k8 + 1 * r.val = k8 + r.val := by omega
  rw [e1, ← hs r.val hr]
  split
  · rw [ha _ _ (by omega) (by omega)]
    exact congrArg₂ (rd x4) rfl (by omega)
  · rw [hb _ _ (by omega) (by omega)]
    exact congrArg₂ (rd x4) rfl (by omega)

/-- The first buffer holds the scales of the even groups, on the rows the loop reads. -/
theorem scale0_canon (c : Dev nD) (arg5 : Memref sig .tc .vmem S40x512 .bf16) (harg5 : arg5.IsWhole) (x4 : Vec Ideal S40x512 .bf16) (y : S2x24x2x128.Idx) :
    View.canon (kernelRun0_A.sl.HS1_6 (F := Ideal) c arg5 harg5 x4) y = scaleG x4 0 y := by
  rw [HS1_eq]
  simp only [View.readAt_eq_ld, harg5.read_unread]
  apply View.canon_apply_of_pieces
  · intro p hp x
    simp only [List.mem_cons, List.not_mem_nil, or_false] at hp
    rcases hp with rfl | rfl | rfl | rfl | rfl | rfl
    · exact piece0_G x4 _ _ 1 16 ![1, 16, 0, 0] inb_S2x24x2x128_S1x8x2x128_1_16_0_0 rfl (fun i => 32 + i % 8)
        (fun i j hi hj => by rw [dup_at _ i j hi hj]; exact ld_rd (α := Elt Ideal) (e := .bf16) (m := 40) (n := 512) (m' := 8) (n' := 128) x4 _ _ 32 256 rfl (i % 8) j (by omega) hj)
        (fun i j hi hj => by rw [dup_at _ i j hi hj]; exact ld_rd (α := Elt Ideal) (e := .bf16) (m := 40) (n := 512) (m' := 8) (n' := 128) x4 _ _ 32 384 rfl (i % 8) j (by omega) hj)
        (fun r hr => by show 32 + (2 * r + 0) % 8 = _; split <;> omega) x
    · exact piece0_G x4 _ _ 1 8 ![1, 8, 0, 0] inb_S2x24x2x128_S1x8x2x128_1_8_0_0 rfl (fun i => 16 + i)
        (fun i j hi hj => by exact ld_rd (α := Elt Ideal) (e := .bf16) (m := 40) (n := 512) (m' := 16) (n' := 128) x4 _ _ 16 256 rfl i j hi hj)
        (fun i j hi hj => by exact ld_rd (α := Elt Ideal) (e := .bf16) (m := 40) (n := 512) (m' := 16) (n' := 128) x4 _ _ 16 384 rfl i j hi hj)
        (fun r hr => by show 16 + (2 * r + 0) = _; split <;> omega) x
    · exact piece0_G x4 _ _ 1 0 ![1, 0, 0, 0] inb_S2x24x2x128_S1x8x2x128_1_0_0_0 rfl (fun i => 0 + i)
        (fun i j hi hj => by exact ld_rd (α := Elt Ideal) (e := .bf16) (m := 40) (n := 512) (m' := 16) (n' := 128) x4 _ _ 0 256 rfl i j hi hj)
        (fun i j hi hj => by exact ld_rd (α := Elt Ideal) (e := .bf16) (m := 40) (n := 512) (m' := 16) (n' := 128) x4 _ _ 0 384 rfl i j hi hj)
        (fun r hr => by show 0 + (2 * r + 0) = _; split <;> omega) x
    · exact piece0_G x4 _ _ 0 16 ![0, 16, 0, 0] inb_S2x24x2x128_S1x8x2x128_0_16_0_0 rfl (fun i => 32 + i % 8)
        (fun i j hi hj => by rw [dup_at _ i j hi hj]; exact ld_rd (α := Elt Ideal) (e := .bf16) (m := 40) (n := 512) (m' := 8) (n' := 128) x4 _ _ 32 0 rfl (i % 8) j (by omega) hj)
        (fun i j hi hj => by rw [dup_at _ i j hi hj]; exact ld_rd (α := Elt Ideal) (e := .bf16) (m := 40) (n := 512) (m' := 8) (n' := 128) x4 _ _ 32 128 rfl (i % 8) j (by omega) hj)
        (fun r hr => by show 32 + (2 * r + 0) % 8 = _; split <;> omega) x
    · exact piece0_G x4 _ _ 0 8 ![0, 8, 0, 0] inb_S2x24x2x128_S1x8x2x128_0_8_0_0 rfl (fun i => 16 + i)
        (fun i j hi hj => by exact ld_rd (α := Elt Ideal) (e := .bf16) (m := 40) (n := 512) (m' := 16) (n' := 128) x4 _ _ 16 0 rfl i j hi hj)
        (fun i j hi hj => by exact ld_rd (α := Elt Ideal) (e := .bf16) (m := 40) (n := 512) (m' := 16) (n' := 128) x4 _ _ 16 128 rfl i j hi hj)
        (fun r hr => by show 16 + (2 * r + 0) = _; split <;> omega) x
    · exact piece0_G x4 _ _ 0 0 ![0, 0, 0, 0] inb_S2x24x2x128_S1x8x2x128_0_0_0_0 rfl (fun i => 0 + i)
        (fun i j hi hj => by exact ld_rd (α := Elt Ideal) (e := .bf16) (m := 40) (n := 512) (m' := 16) (n' := 128) x4 _ _ 0 0 rfl i j hi hj)
        (fun i j hi hj => by exact ld_rd (α := Elt Ideal) (e := .bf16) (m := 40) (n := 512) (m' := 16) (n' := 128) x4 _ _ 0 128 rfl i j hi hj)
        (fun r hr => by show 0 + (2 * r + 0) = _; split <;> omega) x
  · exact View.cover_of_tiledL _ ![1, 8, 2, 128] (by sl_kernel_rfl) y

/-- The second buffer holds the scales of the odd groups, on the rows the loop reads. -/
theorem scale1_canon (c : Dev nD) (arg5 : Memref sig .tc .vmem S40x512 .bf16) (harg5 : arg5.IsWhole) (x4 : Vec Ideal S40x512 .bf16) (y : S2x24x2x128.Idx) :
    View.canon (kernelRun0_A.sl.HS2_6 (F := Ideal) c arg5 harg5 x4) y = scaleG x4 1 y := by
  rw [HS2_eq]
  simp only [View.readAt_eq_ld, harg5.read_unread]
  apply View.canon_apply_of_pieces
  · intro p hp x
    simp only [List.mem_cons, List.not_mem_nil, or_false] at hp
    rcases hp with rfl | rfl | rfl | rfl | rfl | rfl
    · exact piece1_G x4 _ _ 1 16 ![1, 16, 0, 0] inb_S2x24x2x128_S1x8x2x128_1_16_0_0 rfl (fun i => 32 + i % 8)
        (fun i j hi hj => by rw [dup_at _ i j hi hj]; exact ld_rd (α := Elt Ideal) (e := .bf16) (m := 40) (n := 512) (m' := 8) (n' := 128) x4 _ _ 32 256 rfl (i % 8) j (by omega) hj)
        (fun i j hi hj => by rw [dup_at _ i j hi hj]; exact ld_rd (α := Elt Ideal) (e := .bf16) (m := 40) (n := 512) (m' := 8) (n' := 128) x4 _ _ 32 384 rfl (i % 8) j (by omega) hj)
        (fun r hr => by show 32 + (2 * r + 1) % 8 = _; split <;> omega) x
    · exact piece1_G x4 _ _ 1 8 ![1, 8, 0, 0] inb_S2x24x2x128_S1x8x2x128_1_8_0_0 rfl (fun i => 16 + i)
        (fun i j hi hj => by exact ld_rd (α := Elt Ideal) (e := .bf16) (m := 40) (n := 512) (m' := 16) (n' := 128) x4 _ _ 16 256 rfl i j hi hj)
        (fun i j hi hj => by exact ld_rd (α := Elt Ideal) (e := .bf16) (m := 40) (n := 512) (m' := 16) (n' := 128) x4 _ _ 16 384 rfl i j hi hj)
        (fun r hr => by show 16 + (2 * r + 1) = _; split <;> omega) x
    · exact piece1_G x4 _ _ 1 0 ![1, 0, 0, 0] inb_S2x24x2x128_S1x8x2x128_1_0_0_0 rfl (fun i => 0 + i)
        (fun i j hi hj => by exact ld_rd (α := Elt Ideal) (e := .bf16) (m := 40) (n := 512) (m' := 16) (n' := 128) x4 _ _ 0 256 rfl i j hi hj)
        (fun i j hi hj => by exact ld_rd (α := Elt Ideal) (e := .bf16) (m := 40) (n := 512) (m' := 16) (n' := 128) x4 _ _ 0 384 rfl i j hi hj)
        (fun r hr => by show 0 + (2 * r + 1) = _; split <;> omega) x
    · exact piece1_G x4 _ _ 0 16 ![0, 16, 0, 0] inb_S2x24x2x128_S1x8x2x128_0_16_0_0 rfl (fun i => 32 + i % 8)
        (fun i j hi hj => by rw [dup_at _ i j hi hj]; exact ld_rd (α := Elt Ideal) (e := .bf16) (m := 40) (n := 512) (m' := 8) (n' := 128) x4 _ _ 32 0 rfl (i % 8) j (by omega) hj)
        (fun i j hi hj => by rw [dup_at _ i j hi hj]; exact ld_rd (α := Elt Ideal) (e := .bf16) (m := 40) (n := 512) (m' := 8) (n' := 128) x4 _ _ 32 128 rfl (i % 8) j (by omega) hj)
        (fun r hr => by show 32 + (2 * r + 1) % 8 = _; split <;> omega) x
    · exact piece1_G x4 _ _ 0 8 ![0, 8, 0, 0] inb_S2x24x2x128_S1x8x2x128_0_8_0_0 rfl (fun i => 16 + i)
        (fun i j hi hj => by exact ld_rd (α := Elt Ideal) (e := .bf16) (m := 40) (n := 512) (m' := 16) (n' := 128) x4 _ _ 16 0 rfl i j hi hj)
        (fun i j hi hj => by exact ld_rd (α := Elt Ideal) (e := .bf16) (m := 40) (n := 512) (m' := 16) (n' := 128) x4 _ _ 16 128 rfl i j hi hj)
        (fun r hr => by show 16 + (2 * r + 1) = _; split <;> omega) x
    · exact piece1_G x4 _ _ 0 0 ![0, 0, 0, 0] inb_S2x24x2x128_S1x8x2x128_0_0_0_0 rfl (fun i => 0 + i)
        (fun i j hi hj => by exact ld_rd (α := Elt Ideal) (e := .bf16) (m := 40) (n := 512) (m' := 16) (n' := 128) x4 _ _ 0 0 rfl i j hi hj)
        (fun i j hi hj => by exact ld_rd (α := Elt Ideal) (e := .bf16) (m := 40) (n := 512) (m' := 16) (n' := 128) x4 _ _ 0 128 rfl i j hi hj)
        (fun r hr => by show 0 + (2 * r + 1) = _; split <;> omega) x
  · exact View.cover_of_tiledL _ ![1, 8, 2, 128] (by sl_kernel_rfl) y

end Cert.KernelIdeal.KV

end
-- ==== Proof.Bits.lean ====
module

public import proofs.«01_k».proof.Proof.Trip
public import Mathlib.Tactic.IntervalCases
public import Mathlib.Tactic.FinCases

@[expose] public section

set_option maxRecDepth 16384

noncomputable section

open Idealize.ShloMosaic

namespace Cert.KernelIdeal.KV

/-! ### Bits of the scalar words -/

/-- A shift left by a literal below 32 is the shift of bit vectors. -/
theorem shli_lit (x : BitVec 32) (n : Nat) (h : n < 32) : IntOp.shli .vector x (BitVec.ofNat 32 n) = x <<< n := by
  have hn : (BitVec.ofNat 32 n).toNat = n := by rw [BitVec.toNat_ofNat]; exact Nat.mod_eq_of_lt (by omega)
  show (if (BitVec.ofNat 32 n).toNat < 32 then x <<< (BitVec.ofNat 32 n) else _) = _
  rw [hn, if_pos h, BitVec.shiftLeft_eq', hn]

/-- A logical shift right by a literal below 32 is the shift of bit vectors. -/
theorem shrui_lit (x : BitVec 32) (n : Nat) (h : n < 32) : IntOp.shrui .vector x (BitVec.ofNat 32 n) = x >>> n := by
  have hn : (BitVec.ofNat 32 n).toNat = n := by rw [BitVec.toNat_ofNat]; exact Nat.mod_eq_of_lt (by omega)
  show (if (BitVec.ofNat 32 n).toNat < 32 then x >>> (BitVec.ofNat 32 n) else _) = _
  rw [hn, if_pos h, BitVec.ushiftRight_eq', hn]

/-- Eight bits spread to the low bits of eight nibbles. -/
def spread (b0 b1 b2 b3 b4 b5 b6 b7 : Bool) : BitVec 32 :=
  BitVec.ofNat 32 (b0.toNat + 16 * (b1.toNat + 16 * (b2.toNat + 16 * (b3.toNat + 16 * (b4.toNat + 16 * (b5.toNat + 16 *
    (b6.toNat + 16 * b7.toNat)))))))

/-- The bits of the word that holds eight given bits, one in each nibble. -/
theorem spread_bits : ∀ b0 b1 b2 b3 b4 b5 b6 b7 : Bool, ∀ i : Fin 32,
    (spread b0 b1 b2 b3 b4 b5 b6 b7).getLsbD i.val
      = (decide (i.val % 4 = 0) && [b0, b1, b2, b3, b4, b5, b6, b7].getD (i.val / 4) false) := by
  decide +kernel

/-- That word times 15 has every bit of a nibble equal to its lowest one. -/
theorem spread_mul : ∀ b0 b1 b2 b3 b4 b5 b6 b7 : Bool, ∀ i : Fin 32,
    (spread b0 b1 b2 b3 b4 b5 b6 b7 * 15#32).getLsbD i.val
      = [b0, b1, b2, b3, b4, b5, b6, b7].getD (i.val / 4) false := by
  decide +kernel

/-- The mask of the lowest bits of the nibbles, as the word of those eight bits. -/
theorem mask_eq (y : BitVec 32) : y &&& 286331153#32
    = spread (y.getLsbD 0) (y.getLsbD 4) (y.getLsbD 8) (y.getLsbD 12) (y.getLsbD 16) (y.getLsbD 20) (y.getLsbD 24) (y.getLsbD 28) := by
  apply BitVec.eq_of_getLsbD_eq
  intro i hi
  rw [spread_bits _ _ _ _ _ _ _ _ ⟨i, hi⟩, BitVec.getLsbD_and]
  interval_cases i <;> simp

/-- A bit at the bottom of every nibble, fifteen times: the bit throughout its nibble. -/
theorem fill_bit (y : BitVec 32) (n j : Nat) (hn : n < 8) (hj : j < 4) :
    (IntOp.muli (IntOp.andi y 286331153#32) 15#32).getLsbD (4 * n + j) = y.getLsbD (4 * n) := by
  show ((y &&& 286331153#32) * 15#32).getLsbD (4 * n + j) = _
  rw [mask_eq, spread_mul _ _ _ _ _ _ _ _ ⟨4 * n + j, by omega⟩]
  have e : (4 * n + j) / 4 = n := by omega
  show [_, _, _, _, _, _, _, _].getD ((4 * n + j) / 4) false = _
  rw [e]
  interval_cases n <;> rfl

/-- A bit of an exclusive or. -/
theorem bits_xor (x y : BitVec 32) (i : Nat) : (IntOp.xori x y).getLsbD i = ((x.getLsbD i) ^^ (y.getLsbD i)) := BitVec.getLsbD_xor
/-- A bit of an and. -/
theorem bits_and (x y : BitVec 32) (i : Nat) : (IntOp.andi x y).getLsbD i = ((x.getLsbD i) && (y.getLsbD i)) := BitVec.getLsbD_and
/-- A bit of an or. -/
theorem bits_or (x y : BitVec 32) (i : Nat) : (IntOp.ori x y).getLsbD i = ((x.getLsbD i) || (y.getLsbD i)) := BitVec.getLsbD_or
/-- A bit of a logical shift right. -/
theorem bits_shr (x : BitVec 32) (n : Nat) (h : n < 32) (i : Nat) :
    (IntOp.shrui .vector x (BitVec.ofNat 32 n)).getLsbD i = x.getLsbD (n + i) := by
  rw [shrui_lit x n h, BitVec.getLsbD_ushiftRight]
/-- A bit of a shift left. -/
theorem bits_shl (x : BitVec 32) (n : Nat) (h : n < 32) (i : Nat) :
    (IntOp.shli .vector x (BitVec.ofNat 32 n)).getLsbD i = (decide (i < 32) && (!decide (i < n) && x.getLsbD (i - n))) := by
  rw [shli_lit x n h, BitVec.getLsbD_shiftLeft, Bool.and_assoc]

/-- The bits of the mask of the even bytes. -/
theorem m00ff : ∀ i : Fin 32, (16711935#32).getLsbD i.val = decide (i.val / 8 % 2 = 0) := by decide +kernel
/-- The bits of the mask of the odd bytes. -/
theorem mff00 : ∀ i : Fin 32, (4278255360#32).getLsbD i.val = decide (i.val / 8 % 2 = 1) := by decide +kernel
/-- The bits of the mask of the low nibbles. -/
theorem m0f0f : ∀ i : Fin 32, (252645135#32).getLsbD i.val = decide (i.val / 4 % 2 = 0) := by decide +kernel
/-- The bits of the mask of the low half. -/
theorem m0000ffff : ∀ i : Fin 32, (65535#32).getLsbD i.val = decide (i.val < 16) := by decide +kernel
/-- The bits of the mask of the high half. -/
theorem mffff0000 : ∀ i : Fin 32, (4294901760#32).getLsbD i.val = decide (16 ≤ i.val) := by decide +kernel
/-- Every bit of the word of ones is set. -/
theorem mffffffff : ∀ i : Fin 32, (4294967295#32).getLsbD i.val = true := by decide +kernel

/-- A bit of the word that pairs the even bytes of two words. -/
theorem bw0_bit (a b : BitVec 32) (i : Nat) (hi : i < 32) :
    (bw0 a b).getLsbD i = if i / 8 % 2 = 0 then a.getLsbD i else b.getLsbD (i - 8) := by
  unfold bw0
  rw [bits_or, bits_and, bits_shl _ 8 (by decide), bits_and, m00ff ⟨i, hi⟩]
  by_cases h8 : i < 8
  · have h : i / 8 % 2 = 0 := by omega
    simp [h8, h]
  · rw [m00ff ⟨i - 8, by omega⟩]
    by_cases h : i / 8 % 2 = 0
    · have h' : ¬ (i - 8) / 8 % 2 = 0 := by omega
      simp [h, h']
    · have h' : (i - 8) / 8 % 2 = 0 := by omega
      simp [h, h', h8, hi]

/-- A bit of the word that pairs the odd bytes of two words. -/
theorem bw1_bit (a b : BitVec 32) (i : Nat) (hi : i < 32) :
    (bw1 a b).getLsbD i = if i / 8 % 2 = 0 then a.getLsbD (8 + i) else b.getLsbD i := by
  unfold bw1
  rw [bits_or, bits_and, bits_shr _ 8 (by decide), bits_and, m00ff ⟨i, hi⟩, mff00 ⟨i, hi⟩]
  by_cases h : i / 8 % 2 = 0
  · have h' : ¬ i / 8 % 2 = 1 := by omega
    simp [h]
  · have h' : i / 8 % 2 = 1 := by omega
    simp [h']

/-- A bit of the exchange word of the positions. -/
theorem tw_bit (e o : BitVec 32) (i : Nat) (hi : i < 32) :
    (tw e o).getLsbD i = (decide (i / 4 % 2 = 0) && (e.getLsbD (4 + i) ^^ o.getLsbD i)) := by
  unfold tw
  rw [bits_and, bits_xor, bits_shr _ 4 (by decide), m0f0f ⟨i, hi⟩, Bool.and_comm]

/-- A bit of the positions of the upper halves, even and odd columns joined. -/
theorem f1_bit (e o : BitVec 32) (i : Nat) (hi : i < 32) :
    (f1w e o).getLsbD i = if i / 4 % 2 = 0 then e.getLsbD (4 + i) else o.getLsbD i := by
  unfold f1w
  rw [bits_xor, tw_bit e o i hi]
  by_cases h : i / 4 % 2 = 0
  · simp only [h, decide_true, Bool.true_and, if_true]
    cases e.getLsbD (4 + i) <;> cases o.getLsbD i <;> rfl
  · simp [h]

/-- A bit of the positions of the lower halves, even and odd columns joined. -/
theorem f0_bit (e o : BitVec 32) (i : Nat) (hi : i < 32) :
    (f0w e o).getLsbD i = if i / 4 % 2 = 0 then e.getLsbD i else o.getLsbD (i - 4) := by
  unfold f0w
  rw [bits_xor, bits_shl _ 4 (by decide), tw_bit e o (i - 4) (by omega)]
  by_cases h : i / 4 % 2 = 0
  · by_cases h4 : i < 4
    · simp [h, h4]
    · have h' : ¬ (i - 4) / 4 % 2 = 0 := by omega
      simp [h, h']
  · have h4 : ¬ i < 4 := by omega
    have h' : (i - 4) / 4 % 2 = 0 := by omega
    have e4 : 4 + (i - 4) = i := by omega
    simp only [h, h4, h', hi, e4, decide_true, decide_false, Bool.true_and, Bool.not_false, if_false]
    cases e.getLsbD i <;> cases o.getLsbD (i - 4) <;> rfl

/-- The positions of the first half of the words, nibble by nibble. -/
theorem st0_bit (e o : BitVec 32) (m c j : Nat) (hm : m < 4) (hc : c < 2) (hj : j < 4) :
    (st0 e o).getLsbD (8 * m + 4 * c + j)
      = (if c = 0 then e else o).getLsbD (8 * (m % 2) + 4 * (m / 2) + j) := by
  unfold st0
  rw [bits_or, bits_and, bits_shl _ 16 (by decide), m0000ffff ⟨8 * m + 4 * c + j, by omega⟩,
    f0_bit e o _ (by omega), f1_bit e o _ (by omega)]
  interval_cases m <;> interval_cases c <;> interval_cases j <;> simp

/-- The positions of the second half of the words, nibble by nibble. -/
theorem st1_bit (e o : BitVec 32) (m c j : Nat) (hm : m < 4) (hc : c < 2) (hj : j < 4) :
    (st1 e o).getLsbD (8 * m + 4 * c + j)
      = (if c = 0 then e else o).getLsbD (8 * (2 + m % 2) + 4 * (m / 2) + j) := by
  unfold st1
  rw [bits_or, bits_and, bits_shr _ 16 (by decide), mffff0000 ⟨8 * m + 4 * c + j, by omega⟩, f1_bit e o _ (by omega)]
  by_cases h : m < 2
  · rw [f0_bit e o _ (by omega)]
    interval_cases m <;> interval_cases c <;> interval_cases j <;> simp
  · rw [BitVec.getLsbD_of_ge (f0w e o) _ (by omega)]
    interval_cases m <;> interval_cases c <;> interval_cases j <;> simp

/-! ### The dense nibbles -/

/-- A bit of the fill that is set where the first position is not 0. -/
theorem n0_bit (x : BitVec 32) (n j : Nat) (hn : n < 8) (hj : j < 4) :
    (n0w x).getLsbD (4 * n + j) = (x.getLsbD (4 * n) || x.getLsbD (4 * n + 1)) := by
  unfold n0w
  rw [fill_bit _ n j hn hj, bits_or, bits_shr _ 1 (by decide), Nat.add_comm 1]

/-- A bit of the fill that is set where the second position is 3. -/
theorem k3_bit (x : BitVec 32) (n j : Nat) (hn : n < 8) (hj : j < 4) :
    (k3w x).getLsbD (4 * n + j) = (x.getLsbD (4 * n + 2) && x.getLsbD (4 * n + 3)) := by
  unfold k3w
  rw [fill_bit _ n j hn hj, bits_shr _ 2 (by decide), bits_and, bits_shr _ 1 (by decide)]
  have e2 : 2 + 4 * n = 4 * n + 2 := by omega
  have e3 : 1 + (2 + 4 * n) = 4 * n + 3 := by omega
  rw [e3, e2]

/-- A bit of the fill that is clear where the first position is below 2 and the second is not. -/
theorem sw_bit (x : BitVec 32) (n j : Nat) (hn : n < 8) (hj : j < 4) :
    (sww x).getLsbD (4 * n + j) = !(!x.getLsbD (4 * n + 1) && x.getLsbD (4 * n + 3)) := by
  unfold sww
  rw [bits_xor, fill_bit _ n j hn hj, bits_shr _ 1 (by decide), bits_and, bits_xor, bits_shr _ 2 (by decide),
    mffffffff ⟨4 * n + j, by omega⟩, mffffffff ⟨1 + 4 * n, by omega⟩]
  have e2 : 1 + 4 * n = 4 * n + 1 := by omega
  have e3 : 2 + (1 + 4 * n) = 4 * n + 3 := by omega
  rw [e3, e2]
  simp

/-- The decode of one nibble, a bit of it: `u`, `w` the bits of the two kept values, `x0 x1`, `x2 x3` the positions. -/
def dec (p : Fin 4) (u w x0 x1 x2 x3 : Bool) : Bool :=
  if 2 * x1.toNat + x0.toNat = p.val then u else if 2 * x3.toNat + x2.toNat = p.val then w else false

/-- The four dense words by their number. -/
def dw (p : Fin 4) (a b x : BitVec 32) : BitVec 32 := four (dw0 a b x) (dw1 a b x) (dw2 a b x) (dw3 a b x) p

/-- A bit of the dense word of row p, from the bits of the two values and of the two positions. -/
theorem dw_bit (p : Fin 4) (a b x : BitVec 32) (n j : Nat) (hn : n < 8) (hj : j < 4)
    (hx : 2 * (x.getLsbD (4 * n + 1)).toNat + (x.getLsbD (4 * n)).toNat
      < 2 * (x.getLsbD (4 * n + 3)).toNat + (x.getLsbD (4 * n + 2)).toNat) :
    (dw p a b x).getLsbD (4 * n + j) = dec p ((bw0 a b).getLsbD (4 * n + j)) ((bw1 a b).getLsbD (4 * n + j))
      (x.getLsbD (4 * n)) (x.getLsbD (4 * n + 1)) (x.getLsbD (4 * n + 2)) (x.getLsbD (4 * n + 3)) := by
  have hn0 := n0_bit x n j hn hj
  have hk3 := k3_bit x n j hn hj
  have hsw := sw_bit x n j hn hj
  have key : ∀ (p : Fin 4) (u w x0 x1 x2 x3 : Bool), 2 * x1.toNat + x0.toNat < 2 * x3.toNat + x2.toNat →
      four (u ^^ (u && (x0 || x1)))
        ((u && (x0 || x1)) ^^ (((u && (x0 || x1)) ^^ (w ^^ (w && (x2 && x3)))) && !(!x1 && x3)))
        ((w ^^ (w && (x2 && x3))) ^^ (((u && (x0 || x1)) ^^ (w ^^ (w && (x2 && x3)))) && !(!x1 && x3)))
        (w && (x2 && x3)) p = dec p u w x0 x1 x2 x3 := by decide +kernel
  rw [← key p _ _ _ _ _ _ hx]
  unfold dw
  match p with
  | 0 => show (dw0 a b x).getLsbD _ = _; unfold dw0; rw [bits_xor, bits_and, hn0]; rfl
  | 1 => show (dw1 a b x).getLsbD _ = _; unfold dw1 dx; simp only [bits_xor, bits_and, hn0, hk3, hsw]; rfl
  | 2 => show (dw2 a b x).getLsbD _ = _; unfold dw2 dx; simp only [bits_xor, bits_and, hn0, hk3, hsw]; rfl
  | 3 => show (dw3 a b x).getLsbD _ = _; unfold dw3; rw [bits_and, hk3]; rfl

/-! ### A signed nibble -/

/-- The kernel's unpacking of nibble `n`: shifted up against the sign, and back. -/
def unpack (w : BitVec 32) (n : Nat) : BitVec 32 :=
  IntOp.shrsi .vector (IntOp.shli .vector w (IntOp.subi 28#32 (IntOp.muli 4#32 (BitVec.ofNat 32 n)))) 28#32

/-- Nibble `n` of a word. -/
def nib (w : BitVec 32) (n : Nat) : BitVec 4 := w.extractLsb' (4 * n) 4

/-- The number of an unpacked, sign-extended nibble is that of the nibble. -/
theorem unpack_toInt (w : BitVec 32) (n : Nat) (hn : n < 8) : (unpack w n).toInt = (nib w n).toInt := by
  have h28 : ∀ n : Fin 8, IntOp.subi 28#32 (IntOp.muli 4#32 (BitVec.ofNat 32 n.val)) = BitVec.ofNat 32 (28 - 4 * n.val) := by
    decide +kernel
  unfold unpack
  rw [h28 ⟨n, hn⟩, shli_lit _ _ (by show 28 - 4 * n < 32; omega)]
  show (if (28#32 : BitVec 32).toNat < 32 then (w <<< (28 - 4 * n)).sshiftRight' 28#32 else _ : BitVec 32).toInt = _
  rw [if_pos (by decide)]
  have e : (w <<< (28 - 4 * n)).sshiftRight' 28#32 = (nib w n).signExtend 32 := by
    apply BitVec.eq_of_getLsbD_eq
    intro i hi
    show ((w <<< (28 - 4 * n)).sshiftRight 28).getLsbD i = _
    rw [BitVec.getLsbD_sshiftRight, BitVec.getLsbD_signExtend]
    unfold nib
    interval_cases n <;> interval_cases i <;> simp [BitVec.msb_eq_getLsbD_last]
  rw [e, BitVec.toInt_signExtend_of_le (by decide)]

end Cert.KernelIdeal.KV

end
-- ==== Proof.Tile.lean ====
module

public import proofs.«01_k».proof.Proof.Scale
public import proofs.«01_k».proof.Proof.Bits
public import Idealize.ShloMosaic.Lib.BitcastFour

@[expose] public section

set_option maxRecDepth 16384

noncomputable section

open Idealize.ShloMosaic Idealize.ShloMosaic.TcCoe Idealize.SL Idealize.SL.RA Idealize.SL.Sem

namespace Cert.KernelIdeal.KV

open Cert.KernelIdeal Cert.KernelIdeal.Gen

/-- Entry of a word's nibbles: nibble `m % 8` of sublane `m / 8`, signed. -/
theorem nibbles_at (w : IVec S8x128 32) (m : Fin 64) (l : Fin 128) :
    nibbles (F := Ideal) k0_pay172 w (ix2 m l) = ((((nib (w (ix2 ⟨m.val / 8, by omega⟩ l)) (m.val % 8)).toInt : ℝ)) : EReal) := by
  have e := unpack_toInt (w (ix2 ⟨m.val / 8, by omega⟩ l)) (m.val % 8) (by omega)
  pointwise [nibbles, k0_pay48, k0_pay47, k0_pay172]
  show (((BitVec.toInt _ : ℝ)) : EReal) = _
  rw [← e]
  rfl

/-- One of sixteen pieces set one under the other. -/
theorem conc_piece {α : Type} (xs : List ((s : Shape) × (s.Idx → α))) (h : Shape.Concatenates (xs.map (·.1)) S256x128 0) (m : Nat) (hm : m < 16)
    (x₁ : S16x128.Idx → α) (hk : m < xs.length) (hxk : xs[m] = ⟨S16x128, x₁⟩)
    (hpre : (((xs.take m).map (·.1)).map fun s => if h : s.rank = S256x128.rank then s.size ((0 : Fin S256x128.rank).cast h.symm) else 0).sum = 16 * m)
    (t : Fin 16) (l : Fin 128) : concatenate S256x128 0 xs h (ix2 ⟨16 * m + t.val, by omega⟩ l) = x₁ (ix2 t l) := by
  refine concatenate_apply_piece 0 xs h _ m hk S16x128 x₁ hxk rfl (16 * m) hpre (ix2 t l) (fun b hb => ?_) rfl
  match b, hb with
  | ⟨0, _⟩, hb => exact absurd rfl hb
  | ⟨1, _⟩, _ => rfl

/-- A strip of a matrix times another matrix, at an entry. -/
theorem strip_at (N : Fin 2 → Fin 4 → FVec Ideal S64x128 .bf16) (s : FVec Ideal S16x128 .bf16) (q q' : Fin 2) (p p' : Fin 4) (off off' : Nat)
    (h : Shape.Slices S64x128 ![off, 0] S16x128) (t : Fin 16) (l : Fin 128) (h' : off' + t.val < 64) (hq : q.val = q'.val) (hp : p.val = p'.val) (ho : off = off') :
    mulf (extractStridedSlice S16x128 ![off, 0] (N q p) h) s (ix2 t l) = N q' p' (ix2 ⟨off' + t.val, h'⟩ l) * s (ix2 t l) := by
  obtain rfl := Fin.ext hq
  obtain rfl := Fin.ext hp
  subst ho
  have e : extractStridedSlice S16x128 ![off, 0] (N q p) h (ix2 t l) = N q p (ix2 ⟨off + t.val, h'⟩ l) := by
    unfold extractStridedSlice
    congr 1
    funext a
    match a with
    | ⟨0, _⟩ => rfl
    | ⟨1, _⟩ => exact Fin.ext (Nat.zero_add _)
  show extractStridedSlice S16x128 ![off, 0] (N q p) h (ix2 t l) * s (ix2 t l) = _
  rw [e]

set_option maxHeartbeats 4000000 in
/-- The strips of the first tile, one after the other, by strip. -/
theorem strips0 (N : Fin 2 → Fin 4 → FVec Ideal S64x128 .bf16) (s : FVec Ideal S16x128 .bf16) (h) (m : Fin 16) (t : Fin 16) (l : Fin 128) :
    concatenate S256x128 0 [⟨S16x128, mulf (extractStridedSlice S16x128 ![0, 0] (N 0 0) slices_S64x128_o0_0_S16x128) s⟩, ⟨S16x128, mulf (extractStridedSlice S16x128 ![16, 0] (N 0 0) slices_S64x128_o16_0_S16x128) s⟩, ⟨S16x128, mulf (extractStridedSlice S16x128 ![0, 0] (N 0 1) slices_S64x128_o0_0_S16x128) s⟩, ⟨S16x128, mulf (extractStridedSlice S16x128 ![16, 0] (N 0 1) slices_S64x128_o16_0_S16x128) s⟩, ⟨S16x128, mulf (extractStridedSlice S16x128 ![0, 0] (N 0 2) slices_S64x128_o0_0_S16x128) s⟩, ⟨S16x128, mulf (extractStridedSlice S16x128 ![16, 0] (N 0 2) slices_S64x128_o16_0_S16x128) s⟩, ⟨S16x128, mulf (extractStridedSlice S16x128 ![0, 0] (N 0 3) slices_S64x128_o0_0_S16x128) s⟩, ⟨S16x128, mulf (extractStridedSlice S16x128 ![16, 0] (N 0 3) slices_S64x128_o16_0_S16x128) s⟩, ⟨S16x128, mulf (extractStridedSlice S16x128 ![0, 0] (N 1 0) slices_S64x128_o0_0_S16x128) s⟩, ⟨S16x128, mulf (extractStridedSlice S16x128 ![16, 0] (N 1 0) slices_S64x128_o16_0_S16x128) s⟩, ⟨S16x128, mulf (extractStridedSlice S16x128 ![0, 0] (N 1 1) slices_S64x128_o0_0_S16x128) s⟩, ⟨S16x128, mulf (extractStridedSlice S16x128 ![16, 0] (N 1 1) slices_S64x128_o16_0_S16x128) s⟩, ⟨S16x128, mulf (extractStridedSlice S16x128 ![0, 0] (N 1 2) slices_S64x128_o0_0_S16x128) s⟩, ⟨S16x128, mulf (extractStridedSlice S16x128 ![16, 0] (N 1 2) slices_S64x128_o16_0_S16x128) s⟩, ⟨S16x128, mulf (extractStridedSlice S16x128 ![0, 0] (N 1 3) slices_S64x128_o0_0_S16x128) s⟩, ⟨S16x128, mulf (extractStridedSlice S16x128 ![16, 0] (N 1 3) slices_S64x128_o16_0_S16x128) s⟩] h (ix2 ⟨16 * m.val + t.val, by omega⟩ l)
      = N ⟨m.val / 8, by omega⟩ ⟨m.val / 2 % 4, by omega⟩ (ix2 ⟨0 + 16 * (m.val % 2) + t.val, by omega⟩ l)
        * s (ix2 t l) := by
  match m with
  | ⟨0, _⟩ =>
    exact Eq.trans (conc_piece _ _ 0 (by decide) _ (by exact (by decide : 0 < 16)) rfl rfl t l) (strip_at N s 0 _ 0 _ 0 _ slices_S64x128_o0_0_S16x128 t l _ (by exact (by decide : 0 = 0 / 8)) (by exact (by decide : 0 = 0 / 2 % 4)) (by exact (by decide : 0 = 0 + 16 * (0 % 2))))
  | ⟨1, _⟩ =>
    exact Eq.trans (conc_piece _ _ 1 (by decide) _ (by exact (by decide : 1 < 16)) rfl rfl t l) (strip_at N s 0 _ 0 _ 16 _ slices_S64x128_o16_0_S16x128 t l _ (by exact (by decide : 0 = 1 / 8)) (by exact (by decide : 0 = 1 / 2 % 4)) (by exact (by decide : 16 = 0 + 16 * (1 % 2))))
  | ⟨2, _⟩ =>
    exact Eq.trans (conc_piece _ _ 2 (by decide) _ (by exact (by decide : 2 < 16)) rfl rfl t l) (strip_at N s 0 _ 1 _ 0 _ slices_S64x128_o0_0_S16x128 t l _ (by exact (by decide : 0 = 2 / 8)) (by exact (by decide : 1 = 2 / 2 % 4)) (by exact (by decide : 0 = 0 + 16 * (2 % 2))))
  | ⟨3, _⟩ =>
    exact Eq.trans (conc_piece _ _ 3 (by decide) _ (by exact (by decide : 3 < 16)) rfl rfl t l) (strip_at N s 0 _ 1 _ 16 _ slices_S64x128_o16_0_S16x128 t l _ (by exact (by decide : 0 = 3 / 8)) (by exact (by decide : 1 = 3 / 2 % 4)) (by exact (by decide : 16 = 0 + 16 * (3 % 2))))
  | ⟨4, _⟩ =>
    exact Eq.trans (conc_piece _ _ 4 (by decide) _ (by exact (by decide : 4 < 16)) rfl rfl t l) (strip_at N s 0 _ 2 _ 0 _ slices_S64x128_o0_0_S16x128 t l _ (by exact (by decide : 0 = 4 / 8)) (by exact (by decide : 2 = 4 / 2 % 4)) (by exact (by decide : 0 = 0 + 16 * (4 % 2))))
  | ⟨5, _⟩ =>
    exact Eq.trans (conc_piece _ _ 5 (by decide) _ (by exact (by decide : 5 < 16)) rfl rfl t l) (strip_at N s 0 _ 2 _ 16 _ slices_S64x128_o16_0_S16x128 t l _ (by exact (by decide : 0 = 5 / 8)) (by exact (by decide : 2 = 5 / 2 % 4)) (by exact (by decide : 16 = 0 + 16 * (5 % 2))))
  | ⟨6, _⟩ =>
    exact Eq.trans (conc_piece _ _ 6 (by decide) _ (by exact (by decide : 6 < 16)) rfl rfl t l) (strip_at N s 0 _ 3 _ 0 _ slices_S64x128_o0_0_S16x128 t l _ (by exact (by decide : 0 = 6 / 8)) (by exact (by decide : 3 = 6 / 2 % 4)) (by exact (by decide : 0 = 0 + 16 * (6 % 2))))
  | ⟨7, _⟩ =>
    exact Eq.trans (conc_piece _ _ 7 (by decide) _ (by exact (by decide : 7 < 16)) rfl rfl t l) (strip_at N s 0 _ 3 _ 16 _ slices_S64x128_o16_0_S16x128 t l _ (by exact (by decide : 0 = 7 / 8)) (by exact (by decide : 3 = 7 / 2 % 4)) (by exact (by decide : 16 = 0 + 16 * (7 % 2))))
  | ⟨8, _⟩ =>
    exact Eq.trans (conc_piece _ _ 8 (by decide) _ (by exact (by decide : 8 < 16)) rfl rfl t l) (strip_at N s 1 _ 0 _ 0 _ slices_S64x128_o0_0_S16x128 t l _ (by exact (by decide : 1 = 8 / 8)) (by exact (by decide : 0 = 8 / 2 % 4)) (by exact (by decide : 0 = 0 + 16 * (8 % 2))))
  | ⟨9, _⟩ =>
    exact Eq.trans (conc_piece _ _ 9 (by decide) _ (by exact (by decide : 9 < 16)) rfl rfl t l) (strip_at N s 1 _ 0 _ 16 _ slices_S64x128_o16_0_S16x128 t l _ (by exact (by decide : 1 = 9 / 8)) (by exact (by decide : 0 = 9 / 2 % 4)) (by exact (by decide : 16 = 0 + 16 * (9 % 2))))
  | ⟨10, _⟩ =>
    exact Eq.trans (conc_piece _ _ 10 (by decide) _ (by exact (by decide : 10 < 16)) rfl rfl t l) (strip_at N s 1 _ 1 _ 0 _ slices_S64x128_o0_0_S16x128 t l _ (by exact (by decide : 1 = 10 / 8)) (by exact (by decide : 1 = 10 / 2 % 4)) (by exact (by decide : 0 = 0 + 16 * (10 % 2))))
  | ⟨11, _⟩ =>
    exact Eq.trans (conc_piece _ _ 11 (by decide) _ (by exact (by decide : 11 < 16)) rfl rfl t l) (strip_at N s 1 _ 1 _ 16 _ slices_S64x128_o16_0_S16x128 t l _ (by exact (by decide : 1 = 11 / 8)) (by exact (by decide : 1 = 11 / 2 % 4)) (by exact (by decide : 16 = 0 + 16 * (11 % 2))))
  | ⟨12, _⟩ =>
    exact Eq.trans (conc_piece _ _ 12 (by decide) _ (by exact (by decide : 12 < 16)) rfl rfl t l) (strip_at N s 1 _ 2 _ 0 _ slices_S64x128_o0_0_S16x128 t l _ (by exact (by decide : 1 = 12 / 8)) (by exact (by decide : 2 = 12 / 2 % 4)) (by exact (by decide : 0 = 0 + 16 * (12 % 2))))
  | ⟨13, _⟩ =>
    exact Eq.trans (conc_piece _ _ 13 (by decide) _ (by exact (by decide : 13 < 16)) rfl rfl t l) (strip_at N s 1 _ 2 _ 16 _ slices_S64x128_o16_0_S16x128 t l _ (by exact (by decide : 1 = 13 / 8)) (by exact (by decide : 2 = 13 / 2 % 4)) (by exact (by decide : 16 = 0 + 16 * (13 % 2))))
  | ⟨14, _⟩ =>
    exact Eq.trans (conc_piece _ _ 14 (by decide) _ (by exact (by decide : 14 < 16)) rfl rfl t l) (strip_at N s 1 _ 3 _ 0 _ slices_S64x128_o0_0_S16x128 t l _ (by exact (by decide : 1 = 14 / 8)) (by exact (by decide : 3 = 14 / 2 % 4)) (by exact (by decide : 0 = 0 + 16 * (14 % 2))))
  | ⟨15, _⟩ =>
    exact Eq.trans (conc_piece _ _ 15 (by decide) _ (by exact (by decide : 15 < 16)) rfl rfl t l) (strip_at N s 1 _ 3 _ 16 _ slices_S64x128_o16_0_S16x128 t l _ (by exact (by decide : 1 = 15 / 8)) (by exact (by decide : 3 = 15 / 2 % 4)) (by exact (by decide : 16 = 0 + 16 * (15 % 2))))
  | ⟨n + 16, h⟩ => exact absurd h (by omega)

/-- An entry of the tile: one level times one scale. -/
theorem tile0_piece (w : Fin 2 → Fin 4 → IVec S8x128 32) (s : FVec Ideal S16x128 .bf16) (m : Fin 16) (t : Fin 16) (l : Fin 128) :
    tile0 (F := Ideal) k0_pay172 w s (ix2 ⟨16 * m.val + t.val, by omega⟩ l)
      = nibbles (F := Ideal) k0_pay172 (w ⟨m.val / 8, by omega⟩ ⟨m.val / 2 % 4, by omega⟩) (ix2 ⟨0 + 16 * (m.val % 2) + t.val, by omega⟩ l)
        * s (ix2 t l) :=
  strips0 (fun q p => nibbles (F := Ideal) k0_pay172 (w q p)) s _ m t l

set_option maxHeartbeats 4000000 in
/-- The strips of the second tile, one after the other, by strip. -/
theorem strips1 (N : Fin 2 → Fin 4 → FVec Ideal S64x128 .bf16) (s : FVec Ideal S16x128 .bf16) (h) (m : Fin 16) (t : Fin 16) (l : Fin 128) :
    concatenate S256x128 0 [⟨S16x128, mulf (extractStridedSlice S16x128 ![32, 0] (N 0 0) slices_S64x128_o32_0_S16x128) s⟩, ⟨S16x128, mulf (extractStridedSlice S16x128 ![48, 0] (N 0 0) slices_S64x128_o48_0_S16x128) s⟩, ⟨S16x128, mulf (extractStridedSlice S16x128 ![32, 0] (N 0 1) slices_S64x128_o32_0_S16x128) s⟩, ⟨S16x128, mulf (extractStridedSlice S16x128 ![48, 0] (N 0 1) slices_S64x128_o48_0_S16x128) s⟩, ⟨S16x128, mulf (extractStridedSlice S16x128 ![32, 0] (N 0 2) slices_S64x128_o32_0_S16x128) s⟩, ⟨S16x128, mulf (extractStridedSlice S16x128 ![48, 0] (N 0 2) slices_S64x128_o48_0_S16x128) s⟩, ⟨S16x128, mulf (extractStridedSlice S16x128 ![32, 0] (N 0 3) slices_S64x128_o32_0_S16x128) s⟩, ⟨S16x128, mulf (extractStridedSlice S16x128 ![48, 0] (N 0 3) slices_S64x128_o48_0_S16x128) s⟩, ⟨S16x128, mulf (extractStridedSlice S16x128 ![32, 0] (N 1 0) slices_S64x128_o32_0_S16x128) s⟩, ⟨S16x128, mulf (extractStridedSlice S16x128 ![48, 0] (N 1 0) slices_S64x128_o48_0_S16x128) s⟩, ⟨S16x128, mulf (extractStridedSlice S16x128 ![32, 0] (N 1 1) slices_S64x128_o32_0_S16x128) s⟩, ⟨S16x128, mulf (extractStridedSlice S16x128 ![48, 0] (N 1 1) slices_S64x128_o48_0_S16x128) s⟩, ⟨S16x128, mulf (extractStridedSlice S16x128 ![32, 0] (N 1 2) slices_S64x128_o32_0_S16x128) s⟩, ⟨S16x128, mulf (extractStridedSlice S16x128 ![48, 0] (N 1 2) slices_S64x128_o48_0_S16x128) s⟩, ⟨S16x128, mulf (extractStridedSlice S16x128 ![32, 0] (N 1 3) slices_S64x128_o32_0_S16x128) s⟩, ⟨S16x128, mulf (extractStridedSlice S16x128 ![48, 0] (N 1 3) slices_S64x128_o48_0_S16x128) s⟩] h (ix2 ⟨16 * m.val + t.val, by omega⟩ l)
      = N ⟨m.val / 8, by omega⟩ ⟨m.val / 2 % 4, by omega⟩ (ix2 ⟨32 + 16 * (m.val % 2) + t.val, by omega⟩ l)
        * s (ix2 t l) := by
  match m with
  | ⟨0, _⟩ =>
    exact Eq.trans (conc_piece _ _ 0 (by decide) _ (by exact (by decide : 0 < 16)) rfl rfl t l) (strip_at N s 0 _ 0 _ 32 _ slices_S64x128_o32_0_S16x128 t l _ (by exact (by decide : 0 = 0 / 8)) (by exact (by decide : 0 = 0 / 2 % 4)) (by exact (by decide : 32 = 32 + 16 * (0 % 2))))
  | ⟨1, _⟩ =>
    exact Eq.trans (conc_piece _ _ 1 (by decide) _ (by exact (by decide : 1 < 16)) rfl rfl t l) (strip_at N s 0 _ 0 _ 48 _ slices_S64x128_o48_0_S16x128 t l _ (by exact (by decide : 0 = 1 / 8)) (by exact (by decide : 0 = 1 / 2 % 4)) (by exact (by decide : 48 = 32 + 16 * (1 % 2))))
  | ⟨2, _⟩ =>
    exact Eq.trans (conc_piece _ _ 2 (by decide) _ (by exact (by decide : 2 < 16)) rfl rfl t l) (strip_at N s 0 _ 1 _ 32 _ slices_S64x128_o32_0_S16x128 t l _ (by exact (by decide : 0 = 2 / 8)) (by exact (by decide : 1 = 2 / 2 % 4)) (by exact (by decide : 32 = 32 + 16 * (2 % 2))))
  | ⟨3, _⟩ =>
    exact Eq.trans (conc_piece _ _ 3 (by decide) _ (by exact (by decide : 3 < 16)) rfl rfl t l) (strip_at N s 0 _ 1 _ 48 _ slices_S64x128_o48_0_S16x128 t l _ (by exact (by decide : 0 = 3 / 8)) (by exact (by decide : 1 = 3 / 2 % 4)) (by exact (by decide : 48 = 32 + 16 * (3 % 2))))
  | ⟨4, _⟩ =>
    exact Eq.trans (conc_piece _ _ 4 (by decide) _ (by exact (by decide : 4 < 16)) rfl rfl t l) (strip_at N s 0 _ 2 _ 32 _ slices_S64x128_o32_0_S16x128 t l _ (by exact (by decide : 0 = 4 / 8)) (by exact (by decide : 2 = 4 / 2 % 4)) (by exact (by decide : 32 = 32 + 16 * (4 % 2))))
  | ⟨5, _⟩ =>
    exact Eq.trans (conc_piece _ _ 5 (by decide) _ (by exact (by decide : 5 < 16)) rfl rfl t l) (strip_at N s 0 _ 2 _ 48 _ slices_S64x128_o48_0_S16x128 t l _ (by exact (by decide : 0 = 5 / 8)) (by exact (by decide : 2 = 5 / 2 % 4)) (by exact (by decide : 48 = 32 + 16 * (5 % 2))))
  | ⟨6, _⟩ =>
    exact Eq.trans (conc_piece _ _ 6 (by decide) _ (by exact (by decide : 6 < 16)) rfl rfl t l) (strip_at N s 0 _ 3 _ 32 _ slices_S64x128_o32_0_S16x128 t l _ (by exact (by decide : 0 = 6 / 8)) (by exact (by decide : 3 = 6 / 2 % 4)) (by exact (by decide : 32 = 32 + 16 * (6 % 2))))
  | ⟨7, _⟩ =>
    exact Eq.trans (conc_piece _ _ 7 (by decide) _ (by exact (by decide : 7 < 16)) rfl rfl t l) (strip_at N s 0 _ 3 _ 48 _ slices_S64x128_o48_0_S16x128 t l _ (by exact (by decide : 0 = 7 / 8)) (by exact (by decide : 3 = 7 / 2 % 4)) (by exact (by decide : 48 = 32 + 16 * (7 % 2))))
  | ⟨8, _⟩ =>
    exact Eq.trans (conc_piece _ _ 8 (by decide) _ (by exact (by decide : 8 < 16)) rfl rfl t l) (strip_at N s 1 _ 0 _ 32 _ slices_S64x128_o32_0_S16x128 t l _ (by exact (by decide : 1 = 8 / 8)) (by exact (by decide : 0 = 8 / 2 % 4)) (by exact (by decide : 32 = 32 + 16 * (8 % 2))))
  | ⟨9, _⟩ =>
    exact Eq.trans (conc_piece _ _ 9 (by decide) _ (by exact (by decide : 9 < 16)) rfl rfl t l) (strip_at N s 1 _ 0 _ 48 _ slices_S64x128_o48_0_S16x128 t l _ (by exact (by decide : 1 = 9 / 8)) (by exact (by decide : 0 = 9 / 2 % 4)) (by exact (by decide : 48 = 32 + 16 * (9 % 2))))
  | ⟨10, _⟩ =>
    exact Eq.trans (conc_piece _ _ 10 (by decide) _ (by exact (by decide : 10 < 16)) rfl rfl t l) (strip_at N s 1 _ 1 _ 32 _ slices_S64x128_o32_0_S16x128 t l _ (by exact (by decide : 1 = 10 / 8)) (by exact (by decide : 1 = 10 / 2 % 4)) (by exact (by decide : 32 = 32 + 16 * (10 % 2))))
  | ⟨11, _⟩ =>
    exact Eq.trans (conc_piece _ _ 11 (by decide) _ (by exact (by decide : 11 < 16)) rfl rfl t l) (strip_at N s 1 _ 1 _ 48 _ slices_S64x128_o48_0_S16x128 t l _ (by exact (by decide : 1 = 11 / 8)) (by exact (by decide : 1 = 11 / 2 % 4)) (by exact (by decide : 48 = 32 + 16 * (11 % 2))))
  | ⟨12, _⟩ =>
    exact Eq.trans (conc_piece _ _ 12 (by decide) _ (by exact (by decide : 12 < 16)) rfl rfl t l) (strip_at N s 1 _ 2 _ 32 _ slices_S64x128_o32_0_S16x128 t l _ (by exact (by decide : 1 = 12 / 8)) (by exact (by decide : 2 = 12 / 2 % 4)) (by exact (by decide : 32 = 32 + 16 * (12 % 2))))
  | ⟨13, _⟩ =>
    exact Eq.trans (conc_piece _ _ 13 (by decide) _ (by exact (by decide : 13 < 16)) rfl rfl t l) (strip_at N s 1 _ 2 _ 48 _ slices_S64x128_o48_0_S16x128 t l _ (by exact (by decide : 1 = 13 / 8)) (by exact (by decide : 2 = 13 / 2 % 4)) (by exact (by decide : 48 = 32 + 16 * (13 % 2))))
  | ⟨14, _⟩ =>
    exact Eq.trans (conc_piece _ _ 14 (by decide) _ (by exact (by decide : 14 < 16)) rfl rfl t l) (strip_at N s 1 _ 3 _ 32 _ slices_S64x128_o32_0_S16x128 t l _ (by exact (by decide : 1 = 14 / 8)) (by exact (by decide : 3 = 14 / 2 % 4)) (by exact (by decide : 32 = 32 + 16 * (14 % 2))))
  | ⟨15, _⟩ =>
    exact Eq.trans (conc_piece _ _ 15 (by decide) _ (by exact (by decide : 15 < 16)) rfl rfl t l) (strip_at N s 1 _ 3 _ 48 _ slices_S64x128_o48_0_S16x128 t l _ (by exact (by decide : 1 = 15 / 8)) (by exact (by decide : 3 = 15 / 2 % 4)) (by exact (by decide : 48 = 32 + 16 * (15 % 2))))
  | ⟨n + 16, h⟩ => exact absurd h (by omega)

/-- An entry of the tile: one level times one scale. -/
theorem tile1_piece (w : Fin 2 → Fin 4 → IVec S8x128 32) (s : FVec Ideal S16x128 .bf16) (m : Fin 16) (t : Fin 16) (l : Fin 128) :
    tile1 (F := Ideal) k0_pay172 w s (ix2 ⟨16 * m.val + t.val, by omega⟩ l)
      = nibbles (F := Ideal) k0_pay172 (w ⟨m.val / 8, by omega⟩ ⟨m.val / 2 % 4, by omega⟩) (ix2 ⟨32 + 16 * (m.val % 2) + t.val, by omega⟩ l)
        * s (ix2 t l) :=
  strips1 (fun q p => nibbles (F := Ideal) k0_pay172 (w q p)) s _ m t l

end Cert.KernelIdeal.KV

end
-- ==== Proof.Entry.lean ====
module

public import proofs.«01_k».proof.Proof.Tile

@[expose] public section

set_option maxRecDepth 16384

noncomputable section

open Idealize.ShloMosaic Idealize.ShloMosaic.TcCoe Idealize.SL Idealize.SL.RA Idealize.SL.Sem

namespace Cert.KernelIdeal.KV

open Cert.KernelIdeal Cert.KernelIdeal.Gen

/-! ### A byte's positions and codes -/

/-- The two bits of a byte from bit `s` on. -/
def pos (b : BitVec 8) (s : Nat) : Nat := b.toNat / 2 ^ s % 4

/-- The low (`c = 0`) or the high (`c = 1`) nibble of a byte. -/
def code (b : BitVec 8) (c : Nat) : Nat := b.toNat / 16 ^ c % 16

/-- The level at position `p` of a group of four: the first value's where its position is `p`, else the second's
where its is, else none. -/
def dval (b0 b1 ib : BitVec 8) (h c p : Nat) : Int :=
  if pos ib (4 * h) = p then (code b0 c : Int) - 8 else if pos ib (4 * h + 2) = p then (code b1 c : Int) - 8 else 0

/-- A nibble with its top bit flipped, as the signed level. -/
def flip4 (b : BitVec 8) (c : Nat) : BitVec 4 := b.extractLsb' (4 * c) 4 ^^^ 8#4

/-- A code with its top bit flipped, read with a sign, is the code less 8: all bytes tried. -/
theorem flip4_fin : ∀ k : Fin 256, ∀ c : Fin 2, (flip4 (BitVec.ofFin k) c.val).toInt = (code (BitVec.ofFin k) c.val : Int) - 8 := by decide +kernel
/-- A code with its top bit flipped, read with a sign, is the code less 8. -/
theorem flip4_toInt (b : BitVec 8) (c : Nat) (hc : c < 2) : (flip4 b c).toInt = (code b c : Int) - 8 := flip4_fin b.toFin ⟨c, hc⟩

/-- A position from its two bits: all bytes tried. -/
theorem pos_fin : ∀ k : Fin 256, ∀ s : Fin 4, 2 * ((BitVec.ofFin k : BitVec 8).getLsbD (2 * s.val + 1)).toNat + ((BitVec.ofFin k : BitVec 8).getLsbD (2 * s.val)).toNat = pos (BitVec.ofFin k) (2 * s.val) := by decide +kernel
/-- A position from its two bits. -/
theorem pos_bits (b : BitVec 8) (s : Nat) (hs : s < 4) :
    2 * (b.getLsbD (2 * s + 1)).toNat + (b.getLsbD (2 * s)).toNat = pos b (2 * s) := pos_fin b.toFin ⟨s, hs⟩

/-- The bits of 8 in a nibble. -/
theorem eight_bit : ∀ j : Fin 4, (8#4).getLsbD j.val = decide (j.val = 3) := by decide

/-- A bit of a code with its top bit flipped. -/
theorem flip4_bit (b : BitVec 8) (c j : Nat) (hj : j < 4) : (flip4 b c).getLsbD j = ((b.getLsbD (4 * c + j)) ^^ decide (j = 3)) := by
  unfold flip4
  rw [BitVec.getLsbD_xor, BitVec.getLsbD_extractLsb', eight_bit ⟨j, hj⟩]
  simp [hj]

/-- A bit of a nibble of a word. -/
theorem nib_bit (w : BitVec 32) (n j : Nat) (hj : j < 4) : (nib w n).getLsbD j = w.getLsbD (4 * n + j) := by
  unfold nib
  rw [BitVec.getLsbD_extractLsb']
  simp [hj]

/-- A dense word's nibble, from the bytes its bits come from. -/
theorem nib_dw (p : Fin 4) (a b x : BitVec 32) (n h c : Nat) (hn : n < 8) (hh : h < 2) (hc : c < 2) (b0 b1 ib : BitVec 8)
    (h0 : ∀ j, j < 4 → (bw0 a b).getLsbD (4 * n + j) = ((b0.getLsbD (4 * c + j)) ^^ decide (j = 3)))
    (h1 : ∀ j, j < 4 → (bw1 a b).getLsbD (4 * n + j) = ((b1.getLsbD (4 * c + j)) ^^ decide (j = 3)))
    (hi : ∀ j, j < 4 → x.getLsbD (4 * n + j) = ib.getLsbD (4 * h + j))
    (hp : pos ib (4 * h) < pos ib (4 * h + 2)) :
    (nib (dw p a b x) n).toInt = dval b0 b1 ib h c p.val := by
  have i0 := hi 0 (by omega)
  have i1 := hi 1 (by omega)
  have i2 := hi 2 (by omega)
  have i3 := hi 3 (by omega)
  have e0 := pos_bits ib (2 * h) (by omega)
  have e1 := pos_bits ib (2 * h + 1) (by omega)
  simp only [show 2 * (2 * h) = 4 * h by omega, show 2 * (2 * h + 1) = 4 * h + 2 by omega] at e0 e1
  simp only [Nat.add_zero] at i0
  have hx : 2 * (x.getLsbD (4 * n + 1)).toNat + (x.getLsbD (4 * n)).toNat < 2 * (x.getLsbD (4 * n + 3)).toNat + (x.getLsbD (4 * n + 2)).toNat := by
    rw [i0, i1, i2, i3, e0, show 4 * h + 3 = 4 * h + 2 + 1 by omega, e1]
    exact hp
  have hd : ∀ j, j < 4 → (nib (dw p a b x) n).getLsbD j = if pos ib (4 * h) = p.val then (flip4 b0 c).getLsbD j else if pos ib (4 * h + 2) = p.val then (flip4 b1 c).getLsbD j else false := by
    intro j hj
    rw [nib_bit _ _ _ hj, dw_bit p a b x n j hn hj hx, h0 j hj, h1 j hj, i0, i1, i2, i3, flip4_bit _ _ _ hj, flip4_bit _ _ _ hj]
    unfold dec
    rw [e0, show 4 * h + 3 = 4 * h + 2 + 1 by omega, e1]
  unfold dval
  by_cases q0 : pos ib (4 * h) = p.val
  · rw [if_pos q0, ← flip4_toInt b0 c hc]
    refine congrArg BitVec.toInt (BitVec.eq_of_getLsbD_eq fun j hj => ?_)
    rw [hd j hj, if_pos q0]
  · rw [if_neg q0]
    by_cases q1 : pos ib (4 * h + 2) = p.val
    · rw [if_pos q1, ← flip4_toInt b1 c hc]
      refine congrArg BitVec.toInt (BitVec.eq_of_getLsbD_eq fun j hj => ?_)
      rw [hd j hj, if_neg q0, if_pos q1]
    · rw [if_neg q1, show (0 : Int) = (0#4).toInt from rfl]
      refine congrArg BitVec.toInt (BitVec.eq_of_getLsbD_eq fun j hj => ?_)
      rw [hd j hj, if_neg q0, if_neg q1, BitVec.getLsbD_zero]

/-! ### The words' bits -/

/-- The bits of the word with 8 in each nibble. -/
theorem m8888 : ∀ i : Fin 32, (2290649224#32).getLsbD i.val = decide (i.val % 4 = 3) := by decide +kernel

/-- The bits of a word of the value bytes. -/
theorem pay1_bit (v : Vec Ideal S128x128 .i8) (s : Nat) (hs : s < 32) (l : Fin 128) (i : Nat) (hi : i < 32) :
    (k0_pay1 (F := Ideal) v (ix2 ⟨s, hs⟩ l)).getLsbD i = BitVec.getLsbD (rd v (4 * s + i / 8) l.val : BitVec 8) (i % 8) := by
  have hs := hs
  show (bitcast S32x128 32 v bitcasts_S128x128_w8_S32x128_w32 (ix2 ⟨s, hs⟩ l)).getLsbD i = _
  rw [rd_eq v (4 * s + i / 8) l.val (show 4 * s + i / 8 < 128 by omega) l.isLt]
  exact bitcast_8_32_getLsbD_ix2 (r := 32) (n := 128) (R := 128) v bitcasts_S128x128_w8_S32x128_w32 ⟨s, hs⟩ l i hi ⟨4 * s + i / 8, by omega⟩ rfl

/-- The bits of the words made of every fourth group of four rows, from the first on. -/
theorem pay2_bit (v : Vec Ideal S128x128 .i8) (s : Fin 8) (l : Fin 128) (i : Nat) (hi : i < 32) :
    (k0_pay2 (F := Ideal) v (ix2 s l)).getLsbD i = (BitVec.getLsbD (rd v (16 * s.val + 0 + i / 8) l.val : BitVec 8) (i % 8) ^^ decide (i % 4 = 3)) := by
  have hs := s.isLt
  have e : k0_pay2 (F := Ideal) v (ix2 s l) = IntOp.xori (k0_pay1 (F := Ideal) v (ix2 (⟨s.val * 4 + 0, by omega⟩ : Fin 32) l)) 2290649224#32 := by
    pointwise [k0_pay2]
  rw [e, bits_xor, m8888 ⟨i, hi⟩, pay1_bit v _ _ l i hi, show 4 * (s.val * 4 + 0) = 16 * s.val + 0 by omega]

/-- The bits of the words made of every fourth group of four rows, from the second on. -/
theorem pay3_bit (v : Vec Ideal S128x128 .i8) (s : Fin 8) (l : Fin 128) (i : Nat) (hi : i < 32) :
    (k0_pay3 (F := Ideal) v (ix2 s l)).getLsbD i = (BitVec.getLsbD (rd v (16 * s.val + 4 + i / 8) l.val : BitVec 8) (i % 8) ^^ decide (i % 4 = 3)) := by
  have hs := s.isLt
  have e : k0_pay3 (F := Ideal) v (ix2 s l) = IntOp.xori (k0_pay1 (F := Ideal) v (ix2 (⟨s.val * 4 + 1, by omega⟩ : Fin 32) l)) 2290649224#32 := by
    pointwise [k0_pay3]
  rw [e, bits_xor, m8888 ⟨i, hi⟩, pay1_bit v _ _ l i hi, show 4 * (s.val * 4 + 1) = 16 * s.val + 4 by omega]

/-- The bits of the words made of every fourth group of four rows, from the third on. -/
theorem pay4_bit (v : Vec Ideal S128x128 .i8) (s : Fin 8) (l : Fin 128) (i : Nat) (hi : i < 32) :
    (k0_pay4 (F := Ideal) v (ix2 s l)).getLsbD i = (BitVec.getLsbD (rd v (16 * s.val + 8 + i / 8) l.val : BitVec 8) (i % 8) ^^ decide (i % 4 = 3)) := by
  have hs := s.isLt
  have e : k0_pay4 (F := Ideal) v (ix2 s l) = IntOp.xori (k0_pay1 (F := Ideal) v (ix2 (⟨s.val * 4 + 2, by omega⟩ : Fin 32) l)) 2290649224#32 := by
    pointwise [k0_pay4]
  rw [e, bits_xor, m8888 ⟨i, hi⟩, pay1_bit v _ _ l i hi, show 4 * (s.val * 4 + 2) = 16 * s.val + 8 by omega]

/-- The bits of the words made of every fourth group of four rows, from the fourth on. -/
theorem pay5_bit (v : Vec Ideal S128x128 .i8) (s : Fin 8) (l : Fin 128) (i : Nat) (hi : i < 32) :
    (k0_pay5 (F := Ideal) v (ix2 s l)).getLsbD i = (BitVec.getLsbD (rd v (16 * s.val + 12 + i / 8) l.val : BitVec 8) (i % 8) ^^ decide (i % 4 = 3)) := by
  have hs := s.isLt
  have e : k0_pay5 (F := Ideal) v (ix2 s l) = IntOp.xori (k0_pay1 (F := Ideal) v (ix2 (⟨s.val * 4 + 3, by omega⟩ : Fin 32) l)) 2290649224#32 := by
    pointwise [k0_pay5]
  rw [e, bits_xor, m8888 ⟨i, hi⟩, pay1_bit v _ _ l i hi, show 4 * (s.val * 4 + 3) = 16 * s.val + 12 by omega]

/-- The bits of a word of the position bytes. -/
theorem bc_bit {r R : Nat} [NeZero R] (v : (⟨2, ![R, 128]⟩ : Shape).Idx → BitVec 8) (h) (s : Fin r) (l : Fin 128) (hR : R = 4 * r) (i : Nat) (hi : i < 32) :
    (bitcast ⟨2, ![r, 128]⟩ 32 v h (ix2 s l)).getLsbD i = (rd v (4 * s.val + i / 8) l.val).getLsbD (i % 8) := by
  have hs := s.isLt
  rw [rd_eq v _ _ (show 4 * s.val + i / 8 < R by omega) l.isLt]
  exact bitcast_8_32_getLsbD_ix2 v h s l i hi _ rfl

/-- A bit of a word of four bytes of positions. -/
theorem pay6_bit (v : Vec Ideal S32x128 .i8) (s : Nat) (hs : s < 8) (l : Nat) (hl : l < 128) (i : Nat) (hi : i < 32) :
    (rd (k0_pay6 (F := Ideal) v) s l).getLsbD i = BitVec.getLsbD (rd v (4 * s + i / 8) l : BitVec 8) (i % 8) := by
  rw [rd_eq _ s l hs hl]
  exact bc_bit (r := 8) (R := 32) v bitcasts_S32x128_w8_S8x128_w32 ⟨s, hs⟩ ⟨l, hl⟩ rfl i hi

/-- The same of the other such word. -/
theorem pay7_bit (v : Vec Ideal S32x128 .i8) (s : Nat) (hs : s < 8) (l : Nat) (hl : l < 128) (i : Nat) (hi : i < 32) :
    (rd (k0_pay7 (F := Ideal) v) s l).getLsbD i = BitVec.getLsbD (rd v (4 * s + i / 8) l : BitVec 8) (i % 8) :=
  pay6_bit v s hs l hl i hi

/-- The even columns' position bytes, a lane's bits. -/
theorem eV_bit (i0 i1 : Vec Ideal S32x128 .i8) (s : Fin 8) (l : Fin 128) (i : Nat) (hi : i < 32) :
    (eV (F := Ideal) (iota Kind.tc S8x128 32 [1] iota_S8x128_d1_w32) i0 i1 (ix2 s l)).getLsbD i
      = BitVec.getLsbD (if l.val < 64 then (rd i0 (4 * s.val + i / 8) (2 * l.val) : BitVec 8) else (rd i1 (4 * s.val + i / 8) (2 * l.val - 128) : BitVec 8)) (i % 8) := by
  have hs := s.isLt
  have hl := l.isLt
  have e : eV (F := Ideal) (iota Kind.tc S8x128 32 [1] iota_S8x128_d1_w32) i0 i1 (ix2 s l)
      = if l.val < 64 then rd (k0_pay6 (F := Ideal) i0) s.val (2 * l.val) else rd (k0_pay7 (F := Ideal) i1) s.val (2 * l.val - 128) := by
    rw [← pick_even (k0_pay6 (F := Ideal) i0) (k0_pay7 (F := Ideal) i1) s l]
    pointwise [eV, k0_pay11, k0_pay8, k0_pay9, k0_pay10]
    rfl
  rw [e]
  split
  · exact pay6_bit i0 s.val s.isLt (2 * l.val) (by omega) i hi
  · exact pay7_bit i1 s.val s.isLt (2 * l.val - 128) (by omega) i hi

/-- The odd columns'. -/
theorem oV_bit (i0 i1 : Vec Ideal S32x128 .i8) (s : Fin 8) (l : Fin 128) (i : Nat) (hi : i < 32) :
    (oV (F := Ideal) (iota Kind.tc S8x128 32 [1] iota_S8x128_d1_w32) i0 i1 (ix2 s l)).getLsbD i
      = BitVec.getLsbD (if l.val < 64 then (rd i0 (4 * s.val + i / 8) (2 * l.val + 1) : BitVec 8) else (rd i1 (4 * s.val + i / 8) (2 * l.val + 1 - 128) : BitVec 8)) (i % 8) := by
  have hs := s.isLt
  have hl := l.isLt
  have e : oV (F := Ideal) (iota Kind.tc S8x128 32 [1] iota_S8x128_d1_w32) i0 i1 (ix2 s l)
      = if l.val < 64 then rd (k0_pay6 (F := Ideal) i0) s.val (2 * l.val + 1) else rd (k0_pay7 (F := Ideal) i1) s.val (2 * l.val + 1 - 128) := by
    rw [← pick_odd (k0_pay6 (F := Ideal) i0) (k0_pay7 (F := Ideal) i1) s l]
    pointwise [oV, k0_pay12, k0_pay8, k0_pay9, k0_pay10]
    rfl
  rw [e]
  split
  · exact pay6_bit i0 s.val s.isLt (2 * l.val + 1) (by omega) i hi
  · exact pay7_bit i1 s.val s.isLt (2 * l.val + 1 - 128) (by omega) i hi

/-- A dense word's nibble, from the block's bytes and the position bytes. -/
theorem word_nib (v : Vec Ideal S128x128 .i8) (v0 : IVec S8x128 32) (i0 i1 : Vec Ideal S32x128 .i8) (q : Fin 2) (p : Fin 4) (s : Fin 8) (l : Fin 128) (n : Nat) (hn : n < 8)
    (ie : Nat → Nat → BitVec 8)
    (he : ∀ i, i < 32 → (eV (F := Ideal) v0 i0 i1 (ix2 s l)).getLsbD i = (ie (i / 8) 0).getLsbD (i % 8))
    (ho : ∀ i, i < 32 → (oV (F := Ideal) v0 i0 i1 (ix2 s l)).getLsbD i = (ie (i / 8) 1).getLsbD (i % 8))
    (hp : pos (ie (2 * q.val + n / 2 % 2) (n % 2)) (4 * (n / 4)) < pos (ie (2 * q.val + n / 2 % 2) (n % 2)) (4 * (n / 4) + 2)) :
    (nib (wordsOf (F := Ideal) v0 v i0 i1 q p (ix2 s l)) n).toInt
      = dval (rd v (16 * s.val + 8 * q.val + 4 * (n / 2 % 2) + 2 * (n / 4)) l.val) (rd v (16 * s.val + 8 * q.val + 4 * (n / 2 % 2) + 2 * (n / 4) + 1) l.val)
          (ie (2 * q.val + n / 2 % 2) (n % 2)) (n / 4) (n % 2) p.val := by
  have hsel : ∀ j, j < 4 → (if n % 2 = 0 then eV (F := Ideal) v0 i0 i1 (ix2 s l) else oV (F := Ideal) v0 i0 i1 (ix2 s l)).getLsbD (8 * (2 * q.val + n / 2 % 2) + 4 * (n / 4) + j)
      = (ie (2 * q.val + n / 2 % 2) (n % 2)).getLsbD (4 * (n / 4) + j) := by
    intro j hj
    have hq := q.isLt
    have hlt : 8 * (2 * q.val + n / 2 % 2) + 4 * (n / 4) + j < 32 := by omega
    have hd : (8 * (2 * q.val + n / 2 % 2) + 4 * (n / 4) + j) / 8 = 2 * q.val + n / 2 % 2 := by omega
    have hm : (8 * (2 * q.val + n / 2 % 2) + 4 * (n / 4) + j) % 8 = 4 * (n / 4) + j := by omega
    by_cases hc : n % 2 = 0
    · rw [if_pos hc, he _ hlt, hd, hm, hc]
    · rw [if_neg hc, ho _ hlt, hd, hm, show n % 2 = 1 by omega]
  have key : ∀ (P Q : IVec S8x128 32) (st : BitVec 32) (B : Nat)
      (hP : ∀ i, i < 32 → (P (ix2 s l)).getLsbD i = (BitVec.getLsbD (rd v (16 * s.val + B + i / 8) l.val : BitVec 8) (i % 8) ^^ decide (i % 4 = 3)))
      (hQ : ∀ i, i < 32 → (Q (ix2 s l)).getLsbD i = (BitVec.getLsbD (rd v (16 * s.val + (B + 4) + i / 8) l.val : BitVec 8) (i % 8) ^^ decide (i % 4 = 3)))
      (hst : ∀ j, j < 4 → st.getLsbD (4 * n + j) = (ie (2 * q.val + n / 2 % 2) (n % 2)).getLsbD (4 * (n / 4) + j)),
      (nib (dw p (P (ix2 s l)) (Q (ix2 s l)) st) n).toInt
        = dval (rd v (16 * s.val + B + 4 * (n / 2 % 2) + 2 * (n / 4)) l.val) (rd v (16 * s.val + B + 4 * (n / 2 % 2) + 2 * (n / 4) + 1) l.val)
          (ie (2 * q.val + n / 2 % 2) (n % 2)) (n / 4) (n % 2) p.val := by
    intro P Q st B hP hQ hst
    refine nib_dw p _ _ st n (n / 4) (n % 2) hn (by omega) (by omega) _ _ _ (fun j hj => ?_) (fun j hj => ?_) hst hp
    · rw [bw0_bit _ _ _ (by omega)]
      have hj3 : decide ((4 * n + j) % 4 = 3) = decide (j = 3) := by congr 1; apply propext; omega
      split
      · rw [hP _ (by omega), hj3, show 16 * s.val + B + (4 * n + j) / 8 = 16 * s.val + B + 4 * (n / 2 % 2) + 2 * (n / 4) by omega, show (4 * n + j) % 8 = 4 * (n % 2) + j by omega]
      · have hj3' : decide ((4 * n + j - 8) % 4 = 3) = decide (j = 3) := by congr 1; apply propext; omega
        rw [hQ _ (by omega), hj3', show 16 * s.val + (B + 4) + (4 * n + j - 8) / 8 = 16 * s.val + B + 4 * (n / 2 % 2) + 2 * (n / 4) by omega, show (4 * n + j - 8) % 8 = 4 * (n % 2) + j by omega]
    · rw [bw1_bit _ _ _ (by omega)]
      have hj3 : decide ((4 * n + j) % 4 = 3) = decide (j = 3) := by congr 1; apply propext; omega
      split
      · have hj3' : decide ((8 + (4 * n + j)) % 4 = 3) = decide (j = 3) := by congr 1; apply propext; omega
        rw [hP _ (by omega), hj3', show 16 * s.val + B + (8 + (4 * n + j)) / 8 = 16 * s.val + B + 4 * (n / 2 % 2) + 2 * (n / 4) + 1 by omega, show (8 + (4 * n + j)) % 8 = 4 * (n % 2) + j by omega]
      · rw [hQ _ (by omega), hj3, show 16 * s.val + (B + 4) + (4 * n + j) / 8 = 16 * s.val + B + 4 * (n / 2 % 2) + 2 * (n / 4) + 1 by omega, show (4 * n + j) % 8 = 4 * (n % 2) + j by omega]
  have hw : ∀ (P Q X : IVec S8x128 32), words P Q X p (ix2 s l) = dw p (P (ix2 s l)) (Q (ix2 s l)) (X (ix2 s l)) := by
    intro P Q X
    match p with
    | ⟨0, _⟩ => rfl
    | ⟨1, _⟩ => rfl
    | ⟨2, _⟩ => rfl
    | ⟨3, _⟩ => rfl
  match q, hsel, key, hp with
  | ⟨0, _⟩, hsel, key, hp =>
    show (nib (words (k0_pay2 v) (k0_pay3 v) (fun j => st0 (eV (F := Ideal) v0 i0 i1 j) (oV (F := Ideal) v0 i0 i1 j)) p (ix2 s l)) n).toInt = _
    rw [hw]
    refine key (k0_pay2 (F := Ideal) v) (k0_pay3 (F := Ideal) v) _ 0 (fun i hi => pay2_bit v s l i hi) (fun i hi => pay3_bit v s l i hi) (fun j hj => ?_)
    rw [show 4 * n + j = 8 * (n / 2) + 4 * (n % 2) + j by omega, st0_bit _ _ (n / 2) (n % 2) j (by omega) (by omega) hj]
    rw [← hsel j hj]
    exact congrArg _ (by show _ = 8 * (2 * 0 + n / 2 % 2) + 4 * (n / 4) + j; omega)
  | ⟨1, _⟩, hsel, key, hp =>
    show (nib (words (k0_pay4 v) (k0_pay5 v) (fun j => st1 (eV (F := Ideal) v0 i0 i1 j) (oV (F := Ideal) v0 i0 i1 j)) p (ix2 s l)) n).toInt = _
    rw [hw]
    refine key (k0_pay4 (F := Ideal) v) (k0_pay5 (F := Ideal) v) _ 8 (fun i hi => pay4_bit v s l i hi) (fun i hi => pay5_bit v s l i hi) (fun j hj => ?_)
    rw [show 4 * n + j = 8 * (n / 2) + 4 * (n % 2) + j by omega, st1_bit _ _ (n / 2) (n % 2) j (by omega) (by omega) hj]
    rw [← hsel j hj]
    exact congrArg _ (by show _ = 8 * (2 * 1 + n / 2 % 2) + 4 * (n / 4) + j; omega)

end Cert.KernelIdeal.KV

end
-- ==== Proof.RefRead.lean ====
module

public import proofs.«01_k».proof.Proof.Entry
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL Idealize.SL.RA Idealize.SL.Sem

/-! ### What both sides are compared with -/

namespace Cert.KernelIdeal.KV

/-- Entry `i` of row `b` of the activations, by numbers. -/
def rx (x : (⟨3, ![2, 1, 5120]⟩ : Shape).Idx → EReal) (b : Fin 2) (i : Nat) : EReal := x (ix3 b 0 (Fin.ofNat 5120 i))

/-- A row of x by its number. -/
theorem rx_of (x : (⟨3, ![2, 1, 5120]⟩ : Shape).Idx → EReal) (b : Fin 2) (i : Nat) (hi : i < 5120) : x (ix3 b 0 ⟨i, hi⟩) = rx x b i :=
  congrArg (fun q => x (ix3 b 0 q)) (Fin.ext (Nat.mod_eq_of_lt hi).symm)

/-- What octet `t`, half `h`, place `p` adds to the result of row `b` at column `2 * j + c`. -/
def fterm (A0 : (⟨3, ![2, 1, 5120]⟩ : Shape).Idx → EReal) (A1 : (⟨2, ![2560, 13824]⟩ : Shape).Idx → BitVec 8) (A2 : (⟨2, ![640, 27648]⟩ : Shape).Idx → BitVec 8)
    (A3 : (⟨2, ![40, 27648]⟩ : Shape).Idx → EReal) (b : Fin 2) (c j t h p : Nat) : EReal :=
  rx A0 b (8 * t + 4 * h + p) *
    ((((dval (rd A1 (4 * t + 2 * h) j) (rd A1 (4 * t + 2 * h + 1) j) (rd A2 t (2 * j + c)) h c p : Int) : ℝ) : EReal) * rd A3 (t / 16) (2 * j + c))

end Cert.KernelIdeal.KV

namespace Cert.ReferenceIdeal.RV

open Cert.ReferenceIdeal Cert.ReferenceIdeal.Gen Cert.ReferenceIdeal.Value
open Cert.KernelIdeal.KV (pos code dval rd rd_eq rx rx_of fterm)

/-! ### The bytes -/

/-- The literal 8 in bf16 is the number 8. -/
theorem eight_bf16 : Ideal.ofBits .bf16 16640#16 = ((8 : ℝ) : EReal) := by
  simp [Ideal.ofBits, Ideal.ieee, -EReal.coe_mul]; norm_num

/-- The bits of a byte from 0 on, as a position: all bytes tried. -/
theorem pos_bits0 : ∀ k : Fin 256, IntOp.andi (IntOp.shrsi ArithUnit.host (BitVec.setWidth 32 (BitVec.ofFin k : BitVec 8)) 0#32) 3#32 = BitVec.ofNat 32 (pos (BitVec.ofFin k) 0) := by
  decide +kernel

/-- The bits of a byte from 2 on, as a position: all bytes tried. -/
theorem pos_bits2 : ∀ k : Fin 256, IntOp.andi (IntOp.shrsi ArithUnit.host (BitVec.setWidth 32 (BitVec.ofFin k : BitVec 8)) 2#32) 3#32 = BitVec.ofNat 32 (pos (BitVec.ofFin k) 2) := by
  decide +kernel

/-- The bits of a byte from 4 on, as a position: all bytes tried. -/
theorem pos_bits4 : ∀ k : Fin 256, IntOp.andi (IntOp.shrsi ArithUnit.host (BitVec.setWidth 32 (BitVec.ofFin k : BitVec 8)) 4#32) 3#32 = BitVec.ofNat 32 (pos (BitVec.ofFin k) 4) := by
  decide +kernel

/-- The bits of a byte from 6 on, as a position: all bytes tried. -/
theorem pos_bits6 : ∀ k : Fin 256, IntOp.andi (IntOp.shrsi ArithUnit.host (BitVec.setWidth 32 (BitVec.ofFin k : BitVec 8)) 6#32) 3#32 = BitVec.ofNat 32 (pos (BitVec.ofFin k) 6) := by
  decide +kernel

/-- Code 0 of a byte: all bytes tried. -/
theorem code_bits0 : ∀ k : Fin 256, (IntOp.andi (IntOp.shrsi ArithUnit.host (BitVec.setWidth 32 (BitVec.ofFin k : BitVec 8)) 0#32) 15#32).toInt = (code (BitVec.ofFin k) 0 : Int) := by
  decide +kernel

/-- A code less eight. -/
theorem code_val0 (b : BitVec 8) : (FloatOps.sitofp FTy.bf16 (IntOp.andi (IntOp.shrsi ArithUnit.host (BitVec.setWidth 32 b) 0#32) 15#32) : Ideal .bf16) - Ideal.ofBits .bf16 16640#16 =
    ((((code b 0 : Int) - 8 : Int) : ℝ) : EReal) := by
  show (((IntOp.andi (IntOp.shrsi ArithUnit.host (BitVec.setWidth 32 b) 0#32) 15#32).toInt : ℝ) : EReal) - _ = _
  rw [code_bits0 b.toFin, eight_bf16, ← EReal.coe_sub]
  norm_cast

/-- Code 1 of a byte: all bytes tried. -/
theorem code_bits1 : ∀ k : Fin 256, (IntOp.andi (IntOp.shrsi ArithUnit.host (BitVec.setWidth 32 (BitVec.ofFin k : BitVec 8)) 4#32) 15#32).toInt = (code (BitVec.ofFin k) 1 : Int) := by
  decide +kernel

/-- A code less eight. -/
theorem code_val1 (b : BitVec 8) : (FloatOps.sitofp FTy.bf16 (IntOp.andi (IntOp.shrsi ArithUnit.host (BitVec.setWidth 32 b) 4#32) 15#32) : Ideal .bf16) - Ideal.ofBits .bf16 16640#16 =
    ((((code b 1 : Int) - 8 : Int) : ℝ) : EReal) := by
  show (((IntOp.andi (IntOp.shrsi ArithUnit.host (BitVec.setWidth 32 b) 4#32) 15#32).toInt : ℝ) : EReal) - _ = _
  rw [code_bits1 b.toFin, eight_bf16, ← EReal.coe_sub]
  norm_cast

/-! ### One product -/

/-- One product of the reference, entry by entry, from its positions and values. -/
theorem prod_ref (X : FVec Ideal S2x1x640 .bf16) (P0 P1 : IVec S640x13824 32) (v0 v1 : FVec Ideal S640x13824 .bf16) (q : BitVec 32) (b : Fin 2) (n : Fin 13824) (p : Nat) (hp : p < 4) (hq : q = BitVec.ofNat 32 p)
    (i0 i1 : Fin 640 → Nat) (d0 d1 : Fin 640 → Int) (s xs : Fin 640 → EReal) (hi0 : ∀ t, i0 t < 4) (hi1 : ∀ t, i1 t < 4)
    (hX : ∀ t, X (ix3 b 0 t) = xs t) (hP0 : ∀ t, P0 (ix2 t n) = BitVec.ofNat 32 (i0 t)) (hP1 : ∀ t, P1 (ix2 t n) = BitVec.ofNat 32 (i1 t))
    (hv0 : ∀ t, v0 (ix2 t n) = ((d0 t : ℝ) : EReal) * s t) (hv1 : ∀ t, v1 (ix2 t n) = ((d1 t : ℝ) : EReal) * s t) :
    Host.dotGeneral dot_S2x1x640_S640x13824_S2x1x13824_2_0_01_1_n_n none X (select (cmpi .eq P0 (broadcastInDim S640x13824 ![] bcast_S_S640x13824 (constantI S_ 32 q))) v0 (select (cmpi .eq P1 (broadcastInDim S640x13824 ![] bcast_S_S640x13824 (constantI S_ 32 q))) v1 (broadcastInDim S640x13824 ![] bcast_S_S640x13824 (constant S_ .bf16 0x0000#16)))) (ix3 b 0 n) =
      (∑ t : Fin 640, xs t * ((((if i0 t = p then d0 t else if i1 t = p then d1 t else 0 : Int) : ℝ) : EReal) * s t) : EReal) := by
  have hsel : ∀ (i : Nat), i < 4 → IntOp.cmpi .eq (BitVec.ofNat 32 i) q = if i = p then 1#1 else 0#1 := by
    subst hq
    intro i hi
    interval_cases i <;> interval_cases p <;> decide
  have main : Host.dotGeneral dot_S2x1x640_S640x13824_S2x1x13824_2_0_01_1_n_n none X (select (cmpi .eq P0 (broadcastInDim S640x13824 ![] bcast_S_S640x13824 (constantI S_ 32 q))) v0 (select (cmpi .eq P1 (broadcastInDim S640x13824 ![] bcast_S_S640x13824 (constantI S_ 32 q))) v1 (broadcastInDim S640x13824 ![] bcast_S_S640x13824 (constant S_ .bf16 0x0000#16)))) (ix3 b 0 n) =
      (∑ t : Fin 640, X (ix3 b 0 t) * Scalar.select (IntOp.cmpi .eq (P0 (ix2 t n)) q) (v0 (ix2 t n)) (Scalar.select (IntOp.cmpi .eq (P1 (ix2 t n)) q) (v1 (ix2 t n)) 0) : EReal) := by
    pointwise
  rw [main]
  refine Finset.sum_congr rfl fun t _ => ?_
  rw [hX, hP0, hP1, hv0, hv1, hsel _ (hi0 t), hsel _ (hi1 t)]
  refine congrArg (xs t * ·) ?_
  by_cases h0 : i0 t = p
  · rw [if_pos h0, if_pos h0]; rfl
  · rw [if_neg h0, if_neg h0]
    by_cases h1 : i1 t = p
    · rw [if_pos h1, if_pos h1]; rfl
    · rw [if_neg h1, if_neg h1]
      show (0 : EReal) = ((((0 : Int) : ℝ)) : EReal) * s t
      rw [Int.cast_zero, EReal.coe_zero, zero_mul]

/-! ### The reference's pieces -/

variable (V0 : Valuation τ sig (Elt Ideal))

/-- The arguments' arrays. -/
def A0 : (⟨3, ![2, 1, 5120]⟩ : Shape).Idx → EReal := V0 (Proc.devRef .tc main_arg0)
def A1 : (⟨2, ![2560, 13824]⟩ : Shape).Idx → BitVec 8 := V0 (Proc.devRef .tc main_arg1)
def A2 : (⟨2, ![640, 27648]⟩ : Shape).Idx → BitVec 8 := V0 (Proc.devRef .tc main_arg2)
def A3 : (⟨2, ![40, 27648]⟩ : Shape).Idx → EReal := V0 (Proc.devRef .tc main_arg3)

/-- The entries of x that meet row 0 of half 0 of each octet. -/
theorem x00 (b : Fin 2) (t : Fin 640) : shapeCast S2x1x640 (extractStridedSlice S2x1x640x1x1 ![0, 0, 0, 0, 0] (res_main_v0 V0) slices_S2x1x640x2x4_S2x1x640x1x1_0_0_0_0_0) shapeCasts_S2x1x640x1x1_S2x1x640 (ix3 b 0 t) =
    rx (A0 V0) b (8 * t.val + 4 * 0 + 0) := by
  rw [← rx_of (A0 V0) b (8 * t.val + 4 * 0 + 0) (by omega)]
  have e : shapeCast S2x1x640 (extractStridedSlice S2x1x640x1x1 ![0, 0, 0, 0, 0] (res_main_v0 V0) slices_S2x1x640x2x4_S2x1x640x1x1_0_0_0_0_0) shapeCasts_S2x1x640x1x1_S2x1x640 (ix3 b 0 t) =
      (V0 (Proc.devRef .tc main_arg0) : S2x1x5120.Idx → EReal) (ix3 b 0 ⟨8 * t.val + 4 * 0 + 0, by omega⟩) := by
    pointwise [res_main_v0]
    try exact congrArg (fun q => (V0 (Proc.devRef .tc main_arg0) : S2x1x5120.Idx → EReal) (ix3 b 0 q)) (Fin.ext (by simp only []; omega))
  exact e

/-- The entries of x that meet row 1 of half 0 of each octet. -/
theorem x01 (b : Fin 2) (t : Fin 640) : shapeCast S2x1x640 (extractStridedSlice S2x1x640x1x1 ![0, 0, 0, 0, 1] (res_main_v0 V0) slices_S2x1x640x2x4_S2x1x640x1x1_0_0_0_0_1) shapeCasts_S2x1x640x1x1_S2x1x640 (ix3 b 0 t) =
    rx (A0 V0) b (8 * t.val + 4 * 0 + 1) := by
  rw [← rx_of (A0 V0) b (8 * t.val + 4 * 0 + 1) (by omega)]
  have e : shapeCast S2x1x640 (extractStridedSlice S2x1x640x1x1 ![0, 0, 0, 0, 1] (res_main_v0 V0) slices_S2x1x640x2x4_S2x1x640x1x1_0_0_0_0_1) shapeCasts_S2x1x640x1x1_S2x1x640 (ix3 b 0 t) =
      (V0 (Proc.devRef .tc main_arg0) : S2x1x5120.Idx → EReal) (ix3 b 0 ⟨8 * t.val + 4 * 0 + 1, by omega⟩) := by
    pointwise [res_main_v0]
    try exact congrArg (fun q => (V0 (Proc.devRef .tc main_arg0) : S2x1x5120.Idx → EReal) (ix3 b 0 q)) (Fin.ext (by simp only []; omega))
  exact e

/-- The entries of x that meet row 2 of half 0 of each octet. -/
theorem x02 (b : Fin 2) (t : Fin 640) : shapeCast S2x1x640 (extractStridedSlice S2x1x640x1x1 ![0, 0, 0, 0, 2] (res_main_v0 V0) slices_S2x1x640x2x4_S2x1x640x1x1_0_0_0_0_2) shapeCasts_S2x1x640x1x1_S2x1x640 (ix3 b 0 t) =
    rx (A0 V0) b (8 * t.val + 4 * 0 + 2) := by
  rw [← rx_of (A0 V0) b (8 * t.val + 4 * 0 + 2) (by omega)]
  have e : shapeCast S2x1x640 (extractStridedSlice S2x1x640x1x1 ![0, 0, 0, 0, 2] (res_main_v0 V0) slices_S2x1x640x2x4_S2x1x640x1x1_0_0_0_0_2) shapeCasts_S2x1x640x1x1_S2x1x640 (ix3 b 0 t) =
      (V0 (Proc.devRef .tc main_arg0) : S2x1x5120.Idx → EReal) (ix3 b 0 ⟨8 * t.val + 4 * 0 + 2, by omega⟩) := by
    pointwise [res_main_v0]
    try exact congrArg (fun q => (V0 (Proc.devRef .tc main_arg0) : S2x1x5120.Idx → EReal) (ix3 b 0 q)) (Fin.ext (by simp only []; omega))
  exact e

/-- The entries of x that meet row 3 of half 0 of each octet. -/
theorem x03 (b : Fin 2) (t : Fin 640) : shapeCast S2x1x640 (extractStridedSlice S2x1x640x1x1 ![0, 0, 0, 0, 3] (res_main_v0 V0) slices_S2x1x640x2x4_S2x1x640x1x1_0_0_0_0_3) shapeCasts_S2x1x640x1x1_S2x1x640 (ix3 b 0 t) =
    rx (A0 V0) b (8 * t.val + 4 * 0 + 3) := by
  rw [← rx_of (A0 V0) b (8 * t.val + 4 * 0 + 3) (by omega)]
  have e : shapeCast S2x1x640 (extractStridedSlice S2x1x640x1x1 ![0, 0, 0, 0, 3] (res_main_v0 V0) slices_S2x1x640x2x4_S2x1x640x1x1_0_0_0_0_3) shapeCasts_S2x1x640x1x1_S2x1x640 (ix3 b 0 t) =
      (V0 (Proc.devRef .tc main_arg0) : S2x1x5120.Idx → EReal) (ix3 b 0 ⟨8 * t.val + 4 * 0 + 3, by omega⟩) := by
    pointwise [res_main_v0]
    try exact congrArg (fun q => (V0 (Proc.devRef .tc main_arg0) : S2x1x5120.Idx → EReal) (ix3 b 0 q)) (Fin.ext (by simp only []; omega))
  exact e

/-- The entries of x that meet row 0 of half 1 of each octet. -/
theorem x10 (b : Fin 2) (t : Fin 640) : shapeCast S2x1x640 (extractStridedSlice S2x1x640x1x1 ![0, 0, 0, 1, 0] (res_main_v0 V0) slices_S2x1x640x2x4_S2x1x640x1x1_0_0_0_1_0) shapeCasts_S2x1x640x1x1_S2x1x640 (ix3 b 0 t) =
    rx (A0 V0) b (8 * t.val + 4 * 1 + 0) := by
  rw [← rx_of (A0 V0) b (8 * t.val + 4 * 1 + 0) (by omega)]
  have e : shapeCast S2x1x640 (extractStridedSlice S2x1x640x1x1 ![0, 0, 0, 1, 0] (res_main_v0 V0) slices_S2x1x640x2x4_S2x1x640x1x1_0_0_0_1_0) shapeCasts_S2x1x640x1x1_S2x1x640 (ix3 b 0 t) =
      (V0 (Proc.devRef .tc main_arg0) : S2x1x5120.Idx → EReal) (ix3 b 0 ⟨8 * t.val + 4 * 1 + 0, by omega⟩) := by
    pointwise [res_main_v0]
    try exact congrArg (fun q => (V0 (Proc.devRef .tc main_arg0) : S2x1x5120.Idx → EReal) (ix3 b 0 q)) (Fin.ext (by simp only []; omega))
  exact e

/-- The entries of x that meet row 1 of half 1 of each octet. -/
theorem x11 (b : Fin 2) (t : Fin 640) : shapeCast S2x1x640 (extractStridedSlice S2x1x640x1x1 ![0, 0, 0, 1, 1] (res_main_v0 V0) slices_S2x1x640x2x4_S2x1x640x1x1_0_0_0_1_1) shapeCasts_S2x1x640x1x1_S2x1x640 (ix3 b 0 t) =
    rx (A0 V0) b (8 * t.val + 4 * 1 + 1) := by
  rw [← rx_of (A0 V0) b (8 * t.val + 4 * 1 + 1) (by omega)]
  have e : shapeCast S2x1x640 (extractStridedSlice S2x1x640x1x1 ![0, 0, 0, 1, 1] (res_main_v0 V0) slices_S2x1x640x2x4_S2x1x640x1x1_0_0_0_1_1) shapeCasts_S2x1x640x1x1_S2x1x640 (ix3 b 0 t) =
      (V0 (Proc.devRef .tc main_arg0) : S2x1x5120.Idx → EReal) (ix3 b 0 ⟨8 * t.val + 4 * 1 + 1, by omega⟩) := by
    pointwise [res_main_v0]
    try exact congrArg (fun q => (V0 (Proc.devRef .tc main_arg0) : S2x1x5120.Idx → EReal) (ix3 b 0 q)) (Fin.ext (by simp only []; omega))
  exact e

/-- The entries of x that meet row 2 of half 1 of each octet. -/
theorem x12 (b : Fin 2) (t : Fin 640) : shapeCast S2x1x640 (extractStridedSlice S2x1x640x1x1 ![0, 0, 0, 1, 2] (res_main_v0 V0) slices_S2x1x640x2x4_S2x1x640x1x1_0_0_0_1_2) shapeCasts_S2x1x640x1x1_S2x1x640 (ix3 b 0 t) =
    rx (A0 V0) b (8 * t.val + 4 * 1 + 2) := by
  rw [← rx_of (A0 V0) b (8 * t.val + 4 * 1 + 2) (by omega)]
  have e : shapeCast S2x1x640 (extractStridedSlice S2x1x640x1x1 ![0, 0, 0, 1, 2] (res_main_v0 V0) slices_S2x1x640x2x4_S2x1x640x1x1_0_0_0_1_2) shapeCasts_S2x1x640x1x1_S2x1x640 (ix3 b 0 t) =
      (V0 (Proc.devRef .tc main_arg0) : S2x1x5120.Idx → EReal) (ix3 b 0 ⟨8 * t.val + 4 * 1 + 2, by omega⟩) := by
    pointwise [res_main_v0]
    try exact congrArg (fun q => (V0 (Proc.devRef .tc main_arg0) : S2x1x5120.Idx → EReal) (ix3 b 0 q)) (Fin.ext (by simp only []; omega))
  exact e

/-- The entries of x that meet row 3 of half 1 of each octet. -/
theorem x13 (b : Fin 2) (t : Fin 640) : shapeCast S2x1x640 (extractStridedSlice S2x1x640x1x1 ![0, 0, 0, 1, 3] (res_main_v0 V0) slices_S2x1x640x2x4_S2x1x640x1x1_0_0_0_1_3) shapeCasts_S2x1x640x1x1_S2x1x640 (ix3 b 0 t) =
    rx (A0 V0) b (8 * t.val + 4 * 1 + 3) := by
  rw [← rx_of (A0 V0) b (8 * t.val + 4 * 1 + 3) (by omega)]
  have e : shapeCast S2x1x640 (extractStridedSlice S2x1x640x1x1 ![0, 0, 0, 1, 3] (res_main_v0 V0) slices_S2x1x640x2x4_S2x1x640x1x1_0_0_0_1_3) shapeCasts_S2x1x640x1x1_S2x1x640 (ix3 b 0 t) =
      (V0 (Proc.devRef .tc main_arg0) : S2x1x5120.Idx → EReal) (ix3 b 0 ⟨8 * t.val + 4 * 1 + 3, by omega⟩) := by
    pointwise [res_main_v0]
    try exact congrArg (fun q => (V0 (Proc.devRef .tc main_arg0) : S2x1x5120.Idx → EReal) (ix3 b 0 q)) (Fin.ext (by simp only []; omega))
  exact e

/-- The positions the reference decodes at v21, entry by entry. -/
theorem pos_v21 (t : Fin 640) (n : Fin 13824) : res_main_v21 V0 (ix2 t n) = BitVec.ofNat 32 (pos (rd (A2 V0) t.val (2 * n.val + 0)) 0) := by
  rw [rd_eq (A2 V0) t.val (2 * n.val + 0) t.isLt (by omega)]
  have e : res_main_v21 V0 (ix2 t n) = IntOp.andi (IntOp.shrsi ArithUnit.host (BitVec.setWidth 32 ((V0 (Proc.devRef .tc main_arg2) : S640x27648.Idx → BitVec 8) (ix2 t ⟨2 * n.val + 0, by omega⟩))) 0#32) 3#32 := by
    pointwise [res_main_v21, res_main_v17, res_main_v3]
    try exact congrArg (fun q => IntOp.andi (IntOp.shrsi ArithUnit.host (BitVec.setWidth 32 ((V0 (Proc.devRef .tc main_arg2) : S640x27648.Idx → BitVec 8) (ix2 t q))) 0#32) 3#32) (Fin.ext (by simp only []; omega))
  exact e.trans (pos_bits0 _)

/-- The scaled values the reference decodes at v27, entry by entry. -/
theorem val_v27 (t : Fin 640) (n : Fin 13824) : res_main_v27 V0 (ix2 t n) =
    ((((code (rd (A1 V0) (4 * t.val + 2 * 0 + 0) n.val) 0 : Int) - 8 : Int) : ℝ) : EReal) * rd (A3 V0) (t.val / 16) (2 * n.val + 0) := by
  rw [rd_eq (A1 V0) (4 * t.val + 2 * 0 + 0) n.val (by omega) n.isLt, rd_eq (A3 V0) (t.val / 16) (2 * n.val + 0) (by omega) (by omega), ← code_val0]
  have e : res_main_v27 V0 (ix2 t n) = ((FloatOps.sitofp FTy.bf16 (IntOp.andi (IntOp.shrsi ArithUnit.host (BitVec.setWidth 32 ((V0 (Proc.devRef .tc main_arg1) : S2560x13824.Idx → BitVec 8) (ix2 ⟨4 * t.val + 2 * 0 + 0, by omega⟩ n))) 0#32) 15#32) : Ideal .bf16) - Ideal.ofBits .bf16 16640#16 : EReal) *
      (V0 (Proc.devRef .tc main_arg3) : S40x27648.Idx → EReal) (ix2 ⟨t.val / 16, by omega⟩ ⟨2 * n.val + 0, by omega⟩) := by
    pointwise [res_main_v27, res_main_v16, res_main_v2]
    try exact congrArg₂ (fun q r => ((FloatOps.sitofp FTy.bf16 (IntOp.andi (IntOp.shrsi ArithUnit.host (BitVec.setWidth 32 ((V0 (Proc.devRef .tc main_arg1) : S2560x13824.Idx → BitVec 8) (ix2 q n))) 0#32) 15#32) : Ideal .bf16) - Ideal.ofBits .bf16 16640#16 : EReal) *
      (V0 (Proc.devRef .tc main_arg3) : S40x27648.Idx → EReal) (ix2 ⟨t.val / 16, by omega⟩ r)) (Fin.ext (by simp only []; omega)) (Fin.ext (by simp only []; omega))
    try simp only [Nat.mul_comm t.val 4]
  exact e

/-- The positions the reference decodes at v25, entry by entry. -/
theorem pos_v25 (t : Fin 640) (n : Fin 13824) : res_main_v25 V0 (ix2 t n) = BitVec.ofNat 32 (pos (rd (A2 V0) t.val (2 * n.val + 0)) 2) := by
  rw [rd_eq (A2 V0) t.val (2 * n.val + 0) t.isLt (by omega)]
  have e : res_main_v25 V0 (ix2 t n) = IntOp.andi (IntOp.shrsi ArithUnit.host (BitVec.setWidth 32 ((V0 (Proc.devRef .tc main_arg2) : S640x27648.Idx → BitVec 8) (ix2 t ⟨2 * n.val + 0, by omega⟩))) 2#32) 3#32 := by
    pointwise [res_main_v25, res_main_v17, res_main_v3]
    try exact congrArg (fun q => IntOp.andi (IntOp.shrsi ArithUnit.host (BitVec.setWidth 32 ((V0 (Proc.devRef .tc main_arg2) : S640x27648.Idx → BitVec 8) (ix2 t q))) 2#32) 3#32) (Fin.ext (by simp only []; omega))
  exact e.trans (pos_bits2 _)

/-- The scaled values the reference decodes at v29, entry by entry. -/
theorem val_v29 (t : Fin 640) (n : Fin 13824) : res_main_v29 V0 (ix2 t n) =
    ((((code (rd (A1 V0) (4 * t.val + 2 * 0 + 1) n.val) 0 : Int) - 8 : Int) : ℝ) : EReal) * rd (A3 V0) (t.val / 16) (2 * n.val + 0) := by
  rw [rd_eq (A1 V0) (4 * t.val + 2 * 0 + 1) n.val (by omega) n.isLt, rd_eq (A3 V0) (t.val / 16) (2 * n.val + 0) (by omega) (by omega), ← code_val0]
  have e : res_main_v29 V0 (ix2 t n) = ((FloatOps.sitofp FTy.bf16 (IntOp.andi (IntOp.shrsi ArithUnit.host (BitVec.setWidth 32 ((V0 (Proc.devRef .tc main_arg1) : S2560x13824.Idx → BitVec 8) (ix2 ⟨4 * t.val + 2 * 0 + 1, by omega⟩ n))) 0#32) 15#32) : Ideal .bf16) - Ideal.ofBits .bf16 16640#16 : EReal) *
      (V0 (Proc.devRef .tc main_arg3) : S40x27648.Idx → EReal) (ix2 ⟨t.val / 16, by omega⟩ ⟨2 * n.val + 0, by omega⟩) := by
    pointwise [res_main_v29, res_main_v16, res_main_v2]
    try exact congrArg₂ (fun q r => ((FloatOps.sitofp FTy.bf16 (IntOp.andi (IntOp.shrsi ArithUnit.host (BitVec.setWidth 32 ((V0 (Proc.devRef .tc main_arg1) : S2560x13824.Idx → BitVec 8) (ix2 q n))) 0#32) 15#32) : Ideal .bf16) - Ideal.ofBits .bf16 16640#16 : EReal) *
      (V0 (Proc.devRef .tc main_arg3) : S40x27648.Idx → EReal) (ix2 ⟨t.val / 16, by omega⟩ r)) (Fin.ext (by simp only []; omega)) (Fin.ext (by simp only []; omega))
    try simp only [Nat.mul_comm t.val 4]
  exact e

/-- The positions the reference decodes at v72, entry by entry. -/
theorem pos_v72 (t : Fin 640) (n : Fin 13824) : res_main_v72 V0 (ix2 t n) = BitVec.ofNat 32 (pos (rd (A2 V0) t.val (2 * n.val + 0)) 4) := by
  rw [rd_eq (A2 V0) t.val (2 * n.val + 0) t.isLt (by omega)]
  have e : res_main_v72 V0 (ix2 t n) = IntOp.andi (IntOp.shrsi ArithUnit.host (BitVec.setWidth 32 ((V0 (Proc.devRef .tc main_arg2) : S640x27648.Idx → BitVec 8) (ix2 t ⟨2 * n.val + 0, by omega⟩))) 4#32) 3#32 := by
    pointwise [res_main_v72, res_main_v17, res_main_v3]
    try exact congrArg (fun q => IntOp.andi (IntOp.shrsi ArithUnit.host (BitVec.setWidth 32 ((V0 (Proc.devRef .tc main_arg2) : S640x27648.Idx → BitVec 8) (ix2 t q))) 4#32) 3#32) (Fin.ext (by simp only []; omega))
  exact e.trans (pos_bits4 _)

/-- The scaled values the reference decodes at v78, entry by entry. -/
theorem val_v78 (t : Fin 640) (n : Fin 13824) : res_main_v78 V0 (ix2 t n) =
    ((((code (rd (A1 V0) (4 * t.val + 2 * 1 + 0) n.val) 0 : Int) - 8 : Int) : ℝ) : EReal) * rd (A3 V0) (t.val / 16) (2 * n.val + 0) := by
  rw [rd_eq (A1 V0) (4 * t.val + 2 * 1 + 0) n.val (by omega) n.isLt, rd_eq (A3 V0) (t.val / 16) (2 * n.val + 0) (by omega) (by omega), ← code_val0]
  have e : res_main_v78 V0 (ix2 t n) = ((FloatOps.sitofp FTy.bf16 (IntOp.andi (IntOp.shrsi ArithUnit.host (BitVec.setWidth 32 ((V0 (Proc.devRef .tc main_arg1) : S2560x13824.Idx → BitVec 8) (ix2 ⟨4 * t.val + 2 * 1 + 0, by omega⟩ n))) 0#32) 15#32) : Ideal .bf16) - Ideal.ofBits .bf16 16640#16 : EReal) *
      (V0 (Proc.devRef .tc main_arg3) : S40x27648.Idx → EReal) (ix2 ⟨t.val / 16, by omega⟩ ⟨2 * n.val + 0, by omega⟩) := by
    pointwise [res_main_v78, res_main_v16, res_main_v2]
    try exact congrArg₂ (fun q r => ((FloatOps.sitofp FTy.bf16 (IntOp.andi (IntOp.shrsi ArithUnit.host (BitVec.setWidth 32 ((V0 (Proc.devRef .tc main_arg1) : S2560x13824.Idx → BitVec 8) (ix2 q n))) 0#32) 15#32) : Ideal .bf16) - Ideal.ofBits .bf16 16640#16 : EReal) *
      (V0 (Proc.devRef .tc main_arg3) : S40x27648.Idx → EReal) (ix2 ⟨t.val / 16, by omega⟩ r)) (Fin.ext (by simp only []; omega)) (Fin.ext (by simp only []; omega))
    try simp only [Nat.mul_comm t.val 4]
  exact e

/-- The positions the reference decodes at v76, entry by entry. -/
theorem pos_v76 (t : Fin 640) (n : Fin 13824) : res_main_v76 V0 (ix2 t n) = BitVec.ofNat 32 (pos (rd (A2 V0) t.val (2 * n.val + 0)) 6) := by
  rw [rd_eq (A2 V0) t.val (2 * n.val + 0) t.isLt (by omega)]
  have e : res_main_v76 V0 (ix2 t n) = IntOp.andi (IntOp.shrsi ArithUnit.host (BitVec.setWidth 32 ((V0 (Proc.devRef .tc main_arg2) : S640x27648.Idx → BitVec 8) (ix2 t ⟨2 * n.val + 0, by omega⟩))) 6#32) 3#32 := by
    pointwise [res_main_v76, res_main_v17, res_main_v3]
    try exact congrArg (fun q => IntOp.andi (IntOp.shrsi ArithUnit.host (BitVec.setWidth 32 ((V0 (Proc.devRef .tc main_arg2) : S640x27648.Idx → BitVec 8) (ix2 t q))) 6#32) 3#32) (Fin.ext (by simp only []; omega))
  exact e.trans (pos_bits6 _)

/-- The scaled values the reference decodes at v80, entry by entry. -/
theorem val_v80 (t : Fin 640) (n : Fin 13824) : res_main_v80 V0 (ix2 t n) =
    ((((code (rd (A1 V0) (4 * t.val + 2 * 1 + 1) n.val) 0 : Int) - 8 : Int) : ℝ) : EReal) * rd (A3 V0) (t.val / 16) (2 * n.val + 0) := by
  rw [rd_eq (A1 V0) (4 * t.val + 2 * 1 + 1) n.val (by omega) n.isLt, rd_eq (A3 V0) (t.val / 16) (2 * n.val + 0) (by omega) (by omega), ← code_val0]
  have e : res_main_v80 V0 (ix2 t n) = ((FloatOps.sitofp FTy.bf16 (IntOp.andi (IntOp.shrsi ArithUnit.host (BitVec.setWidth 32 ((V0 (Proc.devRef .tc main_arg1) : S2560x13824.Idx → BitVec 8) (ix2 ⟨4 * t.val + 2 * 1 + 1, by omega⟩ n))) 0#32) 15#32) : Ideal .bf16) - Ideal.ofBits .bf16 16640#16 : EReal) *
      (V0 (Proc.devRef .tc main_arg3) : S40x27648.Idx → EReal) (ix2 ⟨t.val / 16, by omega⟩ ⟨2 * n.val + 0, by omega⟩) := by
    pointwise [res_main_v80, res_main_v16, res_main_v2]
    try exact congrArg₂ (fun q r => ((FloatOps.sitofp FTy.bf16 (IntOp.andi (IntOp.shrsi ArithUnit.host (BitVec.setWidth 32 ((V0 (Proc.devRef .tc main_arg1) : S2560x13824.Idx → BitVec 8) (ix2 q n))) 0#32) 15#32) : Ideal .bf16) - Ideal.ofBits .bf16 16640#16 : EReal) *
      (V0 (Proc.devRef .tc main_arg3) : S40x27648.Idx → EReal) (ix2 ⟨t.val / 16, by omega⟩ r)) (Fin.ext (by simp only []; omega)) (Fin.ext (by simp only []; omega))
    try simp only [Nat.mul_comm t.val 4]
  exact e

/-- The positions the reference decodes at v138, entry by entry. -/
theorem pos_v138 (t : Fin 640) (n : Fin 13824) : res_main_v138 V0 (ix2 t n) = BitVec.ofNat 32 (pos (rd (A2 V0) t.val (2 * n.val + 1)) 0) := by
  rw [rd_eq (A2 V0) t.val (2 * n.val + 1) t.isLt (by omega)]
  have e : res_main_v138 V0 (ix2 t n) = IntOp.andi (IntOp.shrsi ArithUnit.host (BitVec.setWidth 32 ((V0 (Proc.devRef .tc main_arg2) : S640x27648.Idx → BitVec 8) (ix2 t ⟨2 * n.val + 1, by omega⟩))) 0#32) 3#32 := by
    pointwise [res_main_v138, res_main_v134, res_main_v3]
    try exact congrArg (fun q => IntOp.andi (IntOp.shrsi ArithUnit.host (BitVec.setWidth 32 ((V0 (Proc.devRef .tc main_arg2) : S640x27648.Idx → BitVec 8) (ix2 t q))) 0#32) 3#32) (Fin.ext (by simp only []; omega))
  exact e.trans (pos_bits0 _)

/-- The scaled values the reference decodes at v144, entry by entry. -/
theorem val_v144 (t : Fin 640) (n : Fin 13824) : res_main_v144 V0 (ix2 t n) =
    ((((code (rd (A1 V0) (4 * t.val + 2 * 0 + 0) n.val) 1 : Int) - 8 : Int) : ℝ) : EReal) * rd (A3 V0) (t.val / 16) (2 * n.val + 1) := by
  rw [rd_eq (A1 V0) (4 * t.val + 2 * 0 + 0) n.val (by omega) n.isLt, rd_eq (A3 V0) (t.val / 16) (2 * n.val + 1) (by omega) (by omega), ← code_val1]
  have e : res_main_v144 V0 (ix2 t n) = ((FloatOps.sitofp FTy.bf16 (IntOp.andi (IntOp.shrsi ArithUnit.host (BitVec.setWidth 32 ((V0 (Proc.devRef .tc main_arg1) : S2560x13824.Idx → BitVec 8) (ix2 ⟨4 * t.val + 2 * 0 + 0, by omega⟩ n))) 4#32) 15#32) : Ideal .bf16) - Ideal.ofBits .bf16 16640#16 : EReal) *
      (V0 (Proc.devRef .tc main_arg3) : S40x27648.Idx → EReal) (ix2 ⟨t.val / 16, by omega⟩ ⟨2 * n.val + 1, by omega⟩) := by
    pointwise [res_main_v144, res_main_v133, res_main_v2]
    try exact congrArg₂ (fun q r => ((FloatOps.sitofp FTy.bf16 (IntOp.andi (IntOp.shrsi ArithUnit.host (BitVec.setWidth 32 ((V0 (Proc.devRef .tc main_arg1) : S2560x13824.Idx → BitVec 8) (ix2 q n))) 4#32) 15#32) : Ideal .bf16) - Ideal.ofBits .bf16 16640#16 : EReal) *
      (V0 (Proc.devRef .tc main_arg3) : S40x27648.Idx → EReal) (ix2 ⟨t.val / 16, by omega⟩ r)) (Fin.ext (by simp only []; omega)) (Fin.ext (by simp only []; omega))
    try simp only [Nat.mul_comm t.val 4]
  exact e

/-- The positions the reference decodes at v142, entry by entry. -/
theorem pos_v142 (t : Fin 640) (n : Fin 13824) : res_main_v142 V0 (ix2 t n) = BitVec.ofNat 32 (pos (rd (A2 V0) t.val (2 * n.val + 1)) 2) := by
  rw [rd_eq (A2 V0) t.val (2 * n.val + 1) t.isLt (by omega)]
  have e : res_main_v142 V0 (ix2 t n) = IntOp.andi (IntOp.shrsi ArithUnit.host (BitVec.setWidth 32 ((V0 (Proc.devRef .tc main_arg2) : S640x27648.Idx → BitVec 8) (ix2 t ⟨2 * n.val + 1, by omega⟩))) 2#32) 3#32 := by
    pointwise [res_main_v142, res_main_v134, res_main_v3]
    try exact congrArg (fun q => IntOp.andi (IntOp.shrsi ArithUnit.host (BitVec.setWidth 32 ((V0 (Proc.devRef .tc main_arg2) : S640x27648.Idx → BitVec 8) (ix2 t q))) 2#32) 3#32) (Fin.ext (by simp only []; omega))
  exact e.trans (pos_bits2 _)

/-- The scaled values the reference decodes at v146, entry by entry. -/
theorem val_v146 (t : Fin 640) (n : Fin 13824) : res_main_v146 V0 (ix2 t n) =
    ((((code (rd (A1 V0) (4 * t.val + 2 * 0 + 1) n.val) 1 : Int) - 8 : Int) : ℝ) : EReal) * rd (A3 V0) (t.val / 16) (2 * n.val + 1) := by
  rw [rd_eq (A1 V0) (4 * t.val + 2 * 0 + 1) n.val (by omega) n.isLt, rd_eq (A3 V0) (t.val / 16) (2 * n.val + 1) (by omega) (by omega), ← code_val1]
  have e : res_main_v146 V0 (ix2 t n) = ((FloatOps.sitofp FTy.bf16 (IntOp.andi (IntOp.shrsi ArithUnit.host (BitVec.setWidth 32 ((V0 (Proc.devRef .tc main_arg1) : S2560x13824.Idx → BitVec 8) (ix2 ⟨4 * t.val + 2 * 0 + 1, by omega⟩ n))) 4#32) 15#32) : Ideal .bf16) - Ideal.ofBits .bf16 16640#16 : EReal) *
      (V0 (Proc.devRef .tc main_arg3) : S40x27648.Idx → EReal) (ix2 ⟨t.val / 16, by omega⟩ ⟨2 * n.val + 1, by omega⟩) := by
    pointwise [res_main_v146, res_main_v133, res_main_v2]
    try exact congrArg₂ (fun q r => ((FloatOps.sitofp FTy.bf16 (IntOp.andi (IntOp.shrsi ArithUnit.host (BitVec.setWidth 32 ((V0 (Proc.devRef .tc main_arg1) : S2560x13824.Idx → BitVec 8) (ix2 q n))) 4#32) 15#32) : Ideal .bf16) - Ideal.ofBits .bf16 16640#16 : EReal) *
      (V0 (Proc.devRef .tc main_arg3) : S40x27648.Idx → EReal) (ix2 ⟨t.val / 16, by omega⟩ r)) (Fin.ext (by simp only []; omega)) (Fin.ext (by simp only []; omega))
    try simp only [Nat.mul_comm t.val 4]
  exact e

/-- The positions the reference decodes at v189, entry by entry. -/
theorem pos_v189 (t : Fin 640) (n : Fin 13824) : res_main_v189 V0 (ix2 t n) = BitVec.ofNat 32 (pos (rd (A2 V0) t.val (2 * n.val + 1)) 4) := by
  rw [rd_eq (A2 V0) t.val (2 * n.val + 1) t.isLt (by omega)]
  have e : res_main_v189 V0 (ix2 t n) = IntOp.andi (IntOp.shrsi ArithUnit.host (BitVec.setWidth 32 ((V0 (Proc.devRef .tc main_arg2) : S640x27648.Idx → BitVec 8) (ix2 t ⟨2 * n.val + 1, by omega⟩))) 4#32) 3#32 := by
    pointwise [res_main_v189, res_main_v134, res_main_v3]
    try exact congrArg (fun q => IntOp.andi (IntOp.shrsi ArithUnit.host (BitVec.setWidth 32 ((V0 (Proc.devRef .tc main_arg2) : S640x27648.Idx → BitVec 8) (ix2 t q))) 4#32) 3#32) (Fin.ext (by simp only []; omega))
  exact e.trans (pos_bits4 _)

/-- The scaled values the reference decodes at v195, entry by entry. -/
theorem val_v195 (t : Fin 640) (n : Fin 13824) : res_main_v195 V0 (ix2 t n) =
    ((((code (rd (A1 V0) (4 * t.val + 2 * 1 + 0) n.val) 1 : Int) - 8 : Int) : ℝ) : EReal) * rd (A3 V0) (t.val / 16) (2 * n.val + 1) := by
  rw [rd_eq (A1 V0) (4 * t.val + 2 * 1 + 0) n.val (by omega) n.isLt, rd_eq (A3 V0) (t.val / 16) (2 * n.val + 1) (by omega) (by omega), ← code_val1]
  have e : res_main_v195 V0 (ix2 t n) = ((FloatOps.sitofp FTy.bf16 (IntOp.andi (IntOp.shrsi ArithUnit.host (BitVec.setWidth 32 ((V0 (Proc.devRef .tc main_arg1) : S2560x13824.Idx → BitVec 8) (ix2 ⟨4 * t.val + 2 * 1 + 0, by omega⟩ n))) 4#32) 15#32) : Ideal .bf16) - Ideal.ofBits .bf16 16640#16 : EReal) *
      (V0 (Proc.devRef .tc main_arg3) : S40x27648.Idx → EReal) (ix2 ⟨t.val / 16, by omega⟩ ⟨2 * n.val + 1, by omega⟩) := by
    pointwise [res_main_v195, res_main_v133, res_main_v2]
    try exact congrArg₂ (fun q r => ((FloatOps.sitofp FTy.bf16 (IntOp.andi (IntOp.shrsi ArithUnit.host (BitVec.setWidth 32 ((V0 (Proc.devRef .tc main_arg1) : S2560x13824.Idx → BitVec 8) (ix2 q n))) 4#32) 15#32) : Ideal .bf16) - Ideal.ofBits .bf16 16640#16 : EReal) *
      (V0 (Proc.devRef .tc main_arg3) : S40x27648.Idx → EReal) (ix2 ⟨t.val / 16, by omega⟩ r)) (Fin.ext (by simp only []; omega)) (Fin.ext (by simp only []; omega))
    try simp only [Nat.mul_comm t.val 4]
  exact e

/-- The positions the reference decodes at v193, entry by entry. -/
theorem pos_v193 (t : Fin 640) (n : Fin 13824) : res_main_v193 V0 (ix2 t n) = BitVec.ofNat 32 (pos (rd (A2 V0) t.val (2 * n.val + 1)) 6) := by
  rw [rd_eq (A2 V0) t.val (2 * n.val + 1) t.isLt (by omega)]
  have e : res_main_v193 V0 (ix2 t n) = IntOp.andi (IntOp.shrsi ArithUnit.host (BitVec.setWidth 32 ((V0 (Proc.devRef .tc main_arg2) : S640x27648.Idx → BitVec 8) (ix2 t ⟨2 * n.val + 1, by omega⟩))) 6#32) 3#32 := by
    pointwise [res_main_v193, res_main_v134, res_main_v3]
    try exact congrArg (fun q => IntOp.andi (IntOp.shrsi ArithUnit.host (BitVec.setWidth 32 ((V0 (Proc.devRef .tc main_arg2) : S640x27648.Idx → BitVec 8) (ix2 t q))) 6#32) 3#32) (Fin.ext (by simp only []; omega))
  exact e.trans (pos_bits6 _)

/-- The scaled values the reference decodes at v197, entry by entry. -/
theorem val_v197 (t : Fin 640) (n : Fin 13824) : res_main_v197 V0 (ix2 t n) =
    ((((code (rd (A1 V0) (4 * t.val + 2 * 1 + 1) n.val) 1 : Int) - 8 : Int) : ℝ) : EReal) * rd (A3 V0) (t.val / 16) (2 * n.val + 1) := by
  rw [rd_eq (A1 V0) (4 * t.val + 2 * 1 + 1) n.val (by omega) n.isLt, rd_eq (A3 V0) (t.val / 16) (2 * n.val + 1) (by omega) (by omega), ← code_val1]
  have e : res_main_v197 V0 (ix2 t n) = ((FloatOps.sitofp FTy.bf16 (IntOp.andi (IntOp.shrsi ArithUnit.host (BitVec.setWidth 32 ((V0 (Proc.devRef .tc main_arg1) : S2560x13824.Idx → BitVec 8) (ix2 ⟨4 * t.val + 2 * 1 + 1, by omega⟩ n))) 4#32) 15#32) : Ideal .bf16) - Ideal.ofBits .bf16 16640#16 : EReal) *
      (V0 (Proc.devRef .tc main_arg3) : S40x27648.Idx → EReal) (ix2 ⟨t.val / 16, by omega⟩ ⟨2 * n.val + 1, by omega⟩) := by
    pointwise [res_main_v197, res_main_v133, res_main_v2]
    try exact congrArg₂ (fun q r => ((FloatOps.sitofp FTy.bf16 (IntOp.andi (IntOp.shrsi ArithUnit.host (BitVec.setWidth 32 ((V0 (Proc.devRef .tc main_arg1) : S2560x13824.Idx → BitVec 8) (ix2 q n))) 4#32) 15#32) : Ideal .bf16) - Ideal.ofBits .bf16 16640#16 : EReal) *
      (V0 (Proc.devRef .tc main_arg3) : S40x27648.Idx → EReal) (ix2 ⟨t.val / 16, by omega⟩ r)) (Fin.ext (by simp only []; omega)) (Fin.ext (by simp only []; omega))
    try simp only [Nat.mul_comm t.val 4]
  exact e

/-- A position is below 4. -/
theorem pos_lt (b : BitVec 8) (s : Nat) : pos b s < 4 := Nat.mod_lt _ (by decide)

/-- The product of half `h`, place `p`, for the columns of parity `c`. -/
def S (b : Fin 2) (c j h p : Nat) : EReal := ∑ t : Fin 640, fterm (A0 V0) (A1 V0) (A2 V0) (A3 V0) b c j t.val h p

/-- The product of the even columns for half 0 and row 0, entry by entry. -/
theorem dot000 (b : Fin 2) (n : Fin 13824) : Host.dotGeneral (φ₁ := .bf16) dot_S2x1x640_S640x13824_S2x1x13824_2_0_01_1_n_n none (shapeCast _ (extractStridedSlice S2x1x640x1x1 ![0, 0, 0, 0, 0] (res_main_v0 V0) slices_S2x1x640x2x4_S2x1x640x1x1_0_0_0_0_0) shapeCasts_S2x1x640x1x1_S2x1x640) (select (cmpi .eq (res_main_v21 V0) (broadcastInDim S640x13824 ![] bcast_S_S640x13824 (constantI S_ 32 0#32))) (res_main_v27 V0) (select (cmpi .eq (res_main_v25 V0) (broadcastInDim S640x13824 ![] bcast_S_S640x13824 (constantI S_ 32 0#32))) (res_main_v29 V0) (broadcastInDim S640x13824 ![] bcast_S_S640x13824 (constant S_ .bf16 0x0000#16)))) (ix3 b 0 n) = S V0 b 0 n.val 0 0 :=
  prod_ref _ _ _ _ _ 0#32 b n 0 (by decide) rfl _ _ _ _ _ _ (fun t => pos_lt _ _) (fun t => pos_lt _ _) (x00 V0 b) (pos_v21 V0 · n) (pos_v25 V0 · n) (val_v27 V0 · n) (val_v29 V0 · n)

/-- The product of the even columns for half 0 and row 1, entry by entry. -/
theorem dot001 (b : Fin 2) (n : Fin 13824) : Host.dotGeneral (φ₁ := .bf16) dot_S2x1x640_S640x13824_S2x1x13824_2_0_01_1_n_n none (shapeCast _ (extractStridedSlice S2x1x640x1x1 ![0, 0, 0, 0, 1] (res_main_v0 V0) slices_S2x1x640x2x4_S2x1x640x1x1_0_0_0_0_1) shapeCasts_S2x1x640x1x1_S2x1x640) (select (cmpi .eq (res_main_v21 V0) (broadcastInDim S640x13824 ![] bcast_S_S640x13824 (constantI S_ 32 1#32))) (res_main_v27 V0) (select (cmpi .eq (res_main_v25 V0) (broadcastInDim S640x13824 ![] bcast_S_S640x13824 (constantI S_ 32 1#32))) (res_main_v29 V0) (broadcastInDim S640x13824 ![] bcast_S_S640x13824 (constant S_ .bf16 0x0000#16)))) (ix3 b 0 n) = S V0 b 0 n.val 0 1 :=
  prod_ref _ _ _ _ _ 1#32 b n 1 (by decide) rfl _ _ _ _ _ _ (fun t => pos_lt _ _) (fun t => pos_lt _ _) (x01 V0 b) (pos_v21 V0 · n) (pos_v25 V0 · n) (val_v27 V0 · n) (val_v29 V0 · n)

/-- The product of the even columns for half 0 and row 2, entry by entry. -/
theorem dot002 (b : Fin 2) (n : Fin 13824) : Host.dotGeneral (φ₁ := .bf16) dot_S2x1x640_S640x13824_S2x1x13824_2_0_01_1_n_n none (shapeCast _ (extractStridedSlice S2x1x640x1x1 ![0, 0, 0, 0, 2] (res_main_v0 V0) slices_S2x1x640x2x4_S2x1x640x1x1_0_0_0_0_2) shapeCasts_S2x1x640x1x1_S2x1x640) (select (cmpi .eq (res_main_v21 V0) (broadcastInDim S640x13824 ![] bcast_S_S640x13824 (constantI S_ 32 2#32))) (res_main_v27 V0) (select (cmpi .eq (res_main_v25 V0) (broadcastInDim S640x13824 ![] bcast_S_S640x13824 (constantI S_ 32 2#32))) (res_main_v29 V0) (broadcastInDim S640x13824 ![] bcast_S_S640x13824 (constant S_ .bf16 0x0000#16)))) (ix3 b 0 n) = S V0 b 0 n.val 0 2 :=
  prod_ref _ _ _ _ _ 2#32 b n 2 (by decide) rfl _ _ _ _ _ _ (fun t => pos_lt _ _) (fun t => pos_lt _ _) (x02 V0 b) (pos_v21 V0 · n) (pos_v25 V0 · n) (val_v27 V0 · n) (val_v29 V0 · n)

/-- The product of the even columns for half 0 and row 3, entry by entry. -/
theorem dot003 (b : Fin 2) (n : Fin 13824) : Host.dotGeneral (φ₁ := .bf16) dot_S2x1x640_S640x13824_S2x1x13824_2_0_01_1_n_n none (shapeCast _ (extractStridedSlice S2x1x640x1x1 ![0, 0, 0, 0, 3] (res_main_v0 V0) slices_S2x1x640x2x4_S2x1x640x1x1_0_0_0_0_3) shapeCasts_S2x1x640x1x1_S2x1x640) (select (cmpi .eq (res_main_v21 V0) (broadcastInDim S640x13824 ![] bcast_S_S640x13824 (constantI S_ 32 3#32))) (res_main_v27 V0) (select (cmpi .eq (res_main_v25 V0) (broadcastInDim S640x13824 ![] bcast_S_S640x13824 (constantI S_ 32 3#32))) (res_main_v29 V0) (broadcastInDim S640x13824 ![] bcast_S_S640x13824 (constant S_ .bf16 0x0000#16)))) (ix3 b 0 n) = S V0 b 0 n.val 0 3 :=
  prod_ref _ _ _ _ _ 3#32 b n 3 (by decide) rfl _ _ _ _ _ _ (fun t => pos_lt _ _) (fun t => pos_lt _ _) (x03 V0 b) (pos_v21 V0 · n) (pos_v25 V0 · n) (val_v27 V0 · n) (val_v29 V0 · n)

/-- The product of the even columns for half 1 and row 0, entry by entry. -/
theorem dot010 (b : Fin 2) (n : Fin 13824) : Host.dotGeneral (φ₁ := .bf16) dot_S2x1x640_S640x13824_S2x1x13824_2_0_01_1_n_n none (shapeCast _ (extractStridedSlice S2x1x640x1x1 ![0, 0, 0, 1, 0] (res_main_v0 V0) slices_S2x1x640x2x4_S2x1x640x1x1_0_0_0_1_0) shapeCasts_S2x1x640x1x1_S2x1x640) (select (cmpi .eq (res_main_v72 V0) (broadcastInDim S640x13824 ![] bcast_S_S640x13824 (constantI S_ 32 0#32))) (res_main_v78 V0) (select (cmpi .eq (res_main_v76 V0) (broadcastInDim S640x13824 ![] bcast_S_S640x13824 (constantI S_ 32 0#32))) (res_main_v80 V0) (broadcastInDim S640x13824 ![] bcast_S_S640x13824 (constant S_ .bf16 0x0000#16)))) (ix3 b 0 n) = S V0 b 0 n.val 1 0 :=
  prod_ref _ _ _ _ _ 0#32 b n 0 (by decide) rfl _ _ _ _ _ _ (fun t => pos_lt _ _) (fun t => pos_lt _ _) (x10 V0 b) (pos_v72 V0 · n) (pos_v76 V0 · n) (val_v78 V0 · n) (val_v80 V0 · n)

/-- The product of the even columns for half 1 and row 1, entry by entry. -/
theorem dot011 (b : Fin 2) (n : Fin 13824) : Host.dotGeneral (φ₁ := .bf16) dot_S2x1x640_S640x13824_S2x1x13824_2_0_01_1_n_n none (shapeCast _ (extractStridedSlice S2x1x640x1x1 ![0, 0, 0, 1, 1] (res_main_v0 V0) slices_S2x1x640x2x4_S2x1x640x1x1_0_0_0_1_1) shapeCasts_S2x1x640x1x1_S2x1x640) (select (cmpi .eq (res_main_v72 V0) (broadcastInDim S640x13824 ![] bcast_S_S640x13824 (constantI S_ 32 1#32))) (res_main_v78 V0) (select (cmpi .eq (res_main_v76 V0) (broadcastInDim S640x13824 ![] bcast_S_S640x13824 (constantI S_ 32 1#32))) (res_main_v80 V0) (broadcastInDim S640x13824 ![] bcast_S_S640x13824 (constant S_ .bf16 0x0000#16)))) (ix3 b 0 n) = S V0 b 0 n.val 1 1 :=
  prod_ref _ _ _ _ _ 1#32 b n 1 (by decide) rfl _ _ _ _ _ _ (fun t => pos_lt _ _) (fun t => pos_lt _ _) (x11 V0 b) (pos_v72 V0 · n) (pos_v76 V0 · n) (val_v78 V0 · n) (val_v80 V0 · n)

/-- The product of the even columns for half 1 and row 2, entry by entry. -/
theorem dot012 (b : Fin 2) (n : Fin 13824) : Host.dotGeneral (φ₁ := .bf16) dot_S2x1x640_S640x13824_S2x1x13824_2_0_01_1_n_n none (shapeCast _ (extractStridedSlice S2x1x640x1x1 ![0, 0, 0, 1, 2] (res_main_v0 V0) slices_S2x1x640x2x4_S2x1x640x1x1_0_0_0_1_2) shapeCasts_S2x1x640x1x1_S2x1x640) (select (cmpi .eq (res_main_v72 V0) (broadcastInDim S640x13824 ![] bcast_S_S640x13824 (constantI S_ 32 2#32))) (res_main_v78 V0) (select (cmpi .eq (res_main_v76 V0) (broadcastInDim S640x13824 ![] bcast_S_S640x13824 (constantI S_ 32 2#32))) (res_main_v80 V0) (broadcastInDim S640x13824 ![] bcast_S_S640x13824 (constant S_ .bf16 0x0000#16)))) (ix3 b 0 n) = S V0 b 0 n.val 1 2 :=
  prod_ref _ _ _ _ _ 2#32 b n 2 (by decide) rfl _ _ _ _ _ _ (fun t => pos_lt _ _) (fun t => pos_lt _ _) (x12 V0 b) (pos_v72 V0 · n) (pos_v76 V0 · n) (val_v78 V0 · n) (val_v80 V0 · n)

/-- The product of the even columns for half 1 and row 3, entry by entry. -/
theorem dot013 (b : Fin 2) (n : Fin 13824) : Host.dotGeneral (φ₁ := .bf16) dot_S2x1x640_S640x13824_S2x1x13824_2_0_01_1_n_n none (shapeCast _ (extractStridedSlice S2x1x640x1x1 ![0, 0, 0, 1, 3] (res_main_v0 V0) slices_S2x1x640x2x4_S2x1x640x1x1_0_0_0_1_3) shapeCasts_S2x1x640x1x1_S2x1x640) (select (cmpi .eq (res_main_v72 V0) (broadcastInDim S640x13824 ![] bcast_S_S640x13824 (constantI S_ 32 3#32))) (res_main_v78 V0) (select (cmpi .eq (res_main_v76 V0) (broadcastInDim S640x13824 ![] bcast_S_S640x13824 (constantI S_ 32 3#32))) (res_main_v80 V0) (broadcastInDim S640x13824 ![] bcast_S_S640x13824 (constant S_ .bf16 0x0000#16)))) (ix3 b 0 n) = S V0 b 0 n.val 1 3 :=
  prod_ref _ _ _ _ _ 3#32 b n 3 (by decide) rfl _ _ _ _ _ _ (fun t => pos_lt _ _) (fun t => pos_lt _ _) (x13 V0 b) (pos_v72 V0 · n) (pos_v76 V0 · n) (val_v78 V0 · n) (val_v80 V0 · n)

/-- The product of the odd columns for half 0 and row 0, entry by entry. -/
theorem dot100 (b : Fin 2) (n : Fin 13824) : Host.dotGeneral (φ₁ := .bf16) dot_S2x1x640_S640x13824_S2x1x13824_2_0_01_1_n_n none (shapeCast _ (extractStridedSlice S2x1x640x1x1 ![0, 0, 0, 0, 0] (res_main_v0 V0) slices_S2x1x640x2x4_S2x1x640x1x1_0_0_0_0_0) shapeCasts_S2x1x640x1x1_S2x1x640) (select (cmpi .eq (res_main_v138 V0) (broadcastInDim S640x13824 ![] bcast_S_S640x13824 (constantI S_ 32 0#32))) (res_main_v144 V0) (select (cmpi .eq (res_main_v142 V0) (broadcastInDim S640x13824 ![] bcast_S_S640x13824 (constantI S_ 32 0#32))) (res_main_v146 V0) (broadcastInDim S640x13824 ![] bcast_S_S640x13824 (constant S_ .bf16 0x0000#16)))) (ix3 b 0 n) = S V0 b 1 n.val 0 0 :=
  prod_ref _ _ _ _ _ 0#32 b n 0 (by decide) rfl _ _ _ _ _ _ (fun t => pos_lt _ _) (fun t => pos_lt _ _) (x00 V0 b) (pos_v138 V0 · n) (pos_v142 V0 · n) (val_v144 V0 · n) (val_v146 V0 · n)

/-- The product of the odd columns for half 0 and row 1, entry by entry. -/
theorem dot101 (b : Fin 2) (n : Fin 13824) : Host.dotGeneral (φ₁ := .bf16) dot_S2x1x640_S640x13824_S2x1x13824_2_0_01_1_n_n none (shapeCast _ (extractStridedSlice S2x1x640x1x1 ![0, 0, 0, 0, 1] (res_main_v0 V0) slices_S2x1x640x2x4_S2x1x640x1x1_0_0_0_0_1) shapeCasts_S2x1x640x1x1_S2x1x640) (select (cmpi .eq (res_main_v138 V0) (broadcastInDim S640x13824 ![] bcast_S_S640x13824 (constantI S_ 32 1#32))) (res_main_v144 V0) (select (cmpi .eq (res_main_v142 V0) (broadcastInDim S640x13824 ![] bcast_S_S640x13824 (constantI S_ 32 1#32))) (res_main_v146 V0) (broadcastInDim S640x13824 ![] bcast_S_S640x13824 (constant S_ .bf16 0x0000#16)))) (ix3 b 0 n) = S V0 b 1 n.val 0 1 :=
  prod_ref _ _ _ _ _ 1#32 b n 1 (by decide) rfl _ _ _ _ _ _ (fun t => pos_lt _ _) (fun t => pos_lt _ _) (x01 V0 b) (pos_v138 V0 · n) (pos_v142 V0 · n) (val_v144 V0 · n) (val_v146 V0 · n)

/-- The product of the odd columns for half 0 and row 2, entry by entry. -/
theorem dot102 (b : Fin 2) (n : Fin 13824) : Host.dotGeneral (φ₁ := .bf16) dot_S2x1x640_S640x13824_S2x1x13824_2_0_01_1_n_n none (shapeCast _ (extractStridedSlice S2x1x640x1x1 ![0, 0, 0, 0, 2] (res_main_v0 V0) slices_S2x1x640x2x4_S2x1x640x1x1_0_0_0_0_2) shapeCasts_S2x1x640x1x1_S2x1x640) (select (cmpi .eq (res_main_v138 V0) (broadcastInDim S640x13824 ![] bcast_S_S640x13824 (constantI S_ 32 2#32))) (res_main_v144 V0) (select (cmpi .eq (res_main_v142 V0) (broadcastInDim S640x13824 ![] bcast_S_S640x13824 (constantI S_ 32 2#32))) (res_main_v146 V0) (broadcastInDim S640x13824 ![] bcast_S_S640x13824 (constant S_ .bf16 0x0000#16)))) (ix3 b 0 n) = S V0 b 1 n.val 0 2 :=
  prod_ref _ _ _ _ _ 2#32 b n 2 (by decide) rfl _ _ _ _ _ _ (fun t => pos_lt _ _) (fun t => pos_lt _ _) (x02 V0 b) (pos_v138 V0 · n) (pos_v142 V0 · n) (val_v144 V0 · n) (val_v146 V0 · n)

/-- The product of the odd columns for half 0 and row 3, entry by entry. -/
theorem dot103 (b : Fin 2) (n : Fin 13824) : Host.dotGeneral (φ₁ := .bf16) dot_S2x1x640_S640x13824_S2x1x13824_2_0_01_1_n_n none (shapeCast _ (extractStridedSlice S2x1x640x1x1 ![0, 0, 0, 0, 3] (res_main_v0 V0) slices_S2x1x640x2x4_S2x1x640x1x1_0_0_0_0_3) shapeCasts_S2x1x640x1x1_S2x1x640) (select (cmpi .eq (res_main_v138 V0) (broadcastInDim S640x13824 ![] bcast_S_S640x13824 (constantI S_ 32 3#32))) (res_main_v144 V0) (select (cmpi .eq (res_main_v142 V0) (broadcastInDim S640x13824 ![] bcast_S_S640x13824 (constantI S_ 32 3#32))) (res_main_v146 V0) (broadcastInDim S640x13824 ![] bcast_S_S640x13824 (constant S_ .bf16 0x0000#16)))) (ix3 b 0 n) = S V0 b 1 n.val 0 3 :=
  prod_ref _ _ _ _ _ 3#32 b n 3 (by decide) rfl _ _ _ _ _ _ (fun t => pos_lt _ _) (fun t => pos_lt _ _) (x03 V0 b) (pos_v138 V0 · n) (pos_v142 V0 · n) (val_v144 V0 · n) (val_v146 V0 · n)

/-- The product of the odd columns for half 1 and row 0, entry by entry. -/
theorem dot110 (b : Fin 2) (n : Fin 13824) : Host.dotGeneral (φ₁ := .bf16) dot_S2x1x640_S640x13824_S2x1x13824_2_0_01_1_n_n none (shapeCast _ (extractStridedSlice S2x1x640x1x1 ![0, 0, 0, 1, 0] (res_main_v0 V0) slices_S2x1x640x2x4_S2x1x640x1x1_0_0_0_1_0) shapeCasts_S2x1x640x1x1_S2x1x640) (select (cmpi .eq (res_main_v189 V0) (broadcastInDim S640x13824 ![] bcast_S_S640x13824 (constantI S_ 32 0#32))) (res_main_v195 V0) (select (cmpi .eq (res_main_v193 V0) (broadcastInDim S640x13824 ![] bcast_S_S640x13824 (constantI S_ 32 0#32))) (res_main_v197 V0) (broadcastInDim S640x13824 ![] bcast_S_S640x13824 (constant S_ .bf16 0x0000#16)))) (ix3 b 0 n) = S V0 b 1 n.val 1 0 :=
  prod_ref _ _ _ _ _ 0#32 b n 0 (by decide) rfl _ _ _ _ _ _ (fun t => pos_lt _ _) (fun t => pos_lt _ _) (x10 V0 b) (pos_v189 V0 · n) (pos_v193 V0 · n) (val_v195 V0 · n) (val_v197 V0 · n)

/-- The product of the odd columns for half 1 and row 1, entry by entry. -/
theorem dot111 (b : Fin 2) (n : Fin 13824) : Host.dotGeneral (φ₁ := .bf16) dot_S2x1x640_S640x13824_S2x1x13824_2_0_01_1_n_n none (shapeCast _ (extractStridedSlice S2x1x640x1x1 ![0, 0, 0, 1, 1] (res_main_v0 V0) slices_S2x1x640x2x4_S2x1x640x1x1_0_0_0_1_1) shapeCasts_S2x1x640x1x1_S2x1x640) (select (cmpi .eq (res_main_v189 V0) (broadcastInDim S640x13824 ![] bcast_S_S640x13824 (constantI S_ 32 1#32))) (res_main_v195 V0) (select (cmpi .eq (res_main_v193 V0) (broadcastInDim S640x13824 ![] bcast_S_S640x13824 (constantI S_ 32 1#32))) (res_main_v197 V0) (broadcastInDim S640x13824 ![] bcast_S_S640x13824 (constant S_ .bf16 0x0000#16)))) (ix3 b 0 n) = S V0 b 1 n.val 1 1 :=
  prod_ref _ _ _ _ _ 1#32 b n 1 (by decide) rfl _ _ _ _ _ _ (fun t => pos_lt _ _) (fun t => pos_lt _ _) (x11 V0 b) (pos_v189 V0 · n) (pos_v193 V0 · n) (val_v195 V0 · n) (val_v197 V0 · n)

/-- The product of the odd columns for half 1 and row 2, entry by entry. -/
theorem dot112 (b : Fin 2) (n : Fin 13824) : Host.dotGeneral (φ₁ := .bf16) dot_S2x1x640_S640x13824_S2x1x13824_2_0_01_1_n_n none (shapeCast _ (extractStridedSlice S2x1x640x1x1 ![0, 0, 0, 1, 2] (res_main_v0 V0) slices_S2x1x640x2x4_S2x1x640x1x1_0_0_0_1_2) shapeCasts_S2x1x640x1x1_S2x1x640) (select (cmpi .eq (res_main_v189 V0) (broadcastInDim S640x13824 ![] bcast_S_S640x13824 (constantI S_ 32 2#32))) (res_main_v195 V0) (select (cmpi .eq (res_main_v193 V0) (broadcastInDim S640x13824 ![] bcast_S_S640x13824 (constantI S_ 32 2#32))) (res_main_v197 V0) (broadcastInDim S640x13824 ![] bcast_S_S640x13824 (constant S_ .bf16 0x0000#16)))) (ix3 b 0 n) = S V0 b 1 n.val 1 2 :=
  prod_ref _ _ _ _ _ 2#32 b n 2 (by decide) rfl _ _ _ _ _ _ (fun t => pos_lt _ _) (fun t => pos_lt _ _) (x12 V0 b) (pos_v189 V0 · n) (pos_v193 V0 · n) (val_v195 V0 · n) (val_v197 V0 · n)

/-- The product of the odd columns for half 1 and row 3, entry by entry. -/
theorem dot113 (b : Fin 2) (n : Fin 13824) : Host.dotGeneral (φ₁ := .bf16) dot_S2x1x640_S640x13824_S2x1x13824_2_0_01_1_n_n none (shapeCast _ (extractStridedSlice S2x1x640x1x1 ![0, 0, 0, 1, 3] (res_main_v0 V0) slices_S2x1x640x2x4_S2x1x640x1x1_0_0_0_1_3) shapeCasts_S2x1x640x1x1_S2x1x640) (select (cmpi .eq (res_main_v189 V0) (broadcastInDim S640x13824 ![] bcast_S_S640x13824 (constantI S_ 32 3#32))) (res_main_v195 V0) (select (cmpi .eq (res_main_v193 V0) (broadcastInDim S640x13824 ![] bcast_S_S640x13824 (constantI S_ 32 3#32))) (res_main_v197 V0) (broadcastInDim S640x13824 ![] bcast_S_S640x13824 (constant S_ .bf16 0x0000#16)))) (ix3 b 0 n) = S V0 b 1 n.val 1 3 :=
  prod_ref _ _ _ _ _ 3#32 b n 3 (by decide) rfl _ _ _ _ _ _ (fun t => pos_lt _ _) (fun t => pos_lt _ _) (x13 V0 b) (pos_v189 V0 · n) (pos_v193 V0 · n) (val_v195 V0 · n) (val_v197 V0 · n)

/-- The eight products of the even columns, added. -/
theorem sum0 (b : Fin 2) (n : Fin 13824) : addf (res_main_v110 V0) (Host.dotGeneral (φ₁ := .bf16) dot_S2x1x640_S640x13824_S2x1x13824_2_0_01_1_n_n none (shapeCast _ (extractStridedSlice S2x1x640x1x1 ![0, 0, 0, 1, 3] (res_main_v0 V0) slices_S2x1x640x2x4_S2x1x640x1x1_0_0_0_1_3) shapeCasts_S2x1x640x1x1_S2x1x640) (select (cmpi .eq (res_main_v72 V0) (broadcastInDim S640x13824 ![] bcast_S_S640x13824 (constantI S_ 32 3#32))) (res_main_v78 V0) (select (cmpi .eq (res_main_v76 V0) (broadcastInDim S640x13824 ![] bcast_S_S640x13824 (constantI S_ 32 3#32))) (res_main_v80 V0) (broadcastInDim S640x13824 ![] bcast_S_S640x13824 (constant S_ .bf16 0x0000#16))))) (ix3 b 0 n) = S V0 b 0 n.val 0 0 + S V0 b 0 n.val 0 1 + S V0 b 0 n.val 0 2 + S V0 b 0 n.val 0 3 + S V0 b 0 n.val 1 0 + S V0 b 0 n.val 1 1 + S V0 b 0 n.val 1 2 + S V0 b 0 n.val 1 3 := by
  unfold res_main_v110
  simp only [addf, Ideal.addf_def]
  rw [dot000, dot001, dot002, dot003, dot010, dot011, dot012, dot013]

/-- The eight products of the odd columns, added. -/
theorem sum1 (b : Fin 2) (n : Fin 13824) : addf (res_main_v227 V0) (Host.dotGeneral (φ₁ := .bf16) dot_S2x1x640_S640x13824_S2x1x13824_2_0_01_1_n_n none (shapeCast _ (extractStridedSlice S2x1x640x1x1 ![0, 0, 0, 1, 3] (res_main_v0 V0) slices_S2x1x640x2x4_S2x1x640x1x1_0_0_0_1_3) shapeCasts_S2x1x640x1x1_S2x1x640) (select (cmpi .eq (res_main_v189 V0) (broadcastInDim S640x13824 ![] bcast_S_S640x13824 (constantI S_ 32 3#32))) (res_main_v195 V0) (select (cmpi .eq (res_main_v193 V0) (broadcastInDim S640x13824 ![] bcast_S_S640x13824 (constantI S_ 32 3#32))) (res_main_v197 V0) (broadcastInDim S640x13824 ![] bcast_S_S640x13824 (constant S_ .bf16 0x0000#16))))) (ix3 b 0 n) = S V0 b 1 n.val 0 0 + S V0 b 1 n.val 0 1 + S V0 b 1 n.val 0 2 + S V0 b 1 n.val 0 3 + S V0 b 1 n.val 1 0 + S V0 b 1 n.val 1 1 + S V0 b 1 n.val 1 2 + S V0 b 1 n.val 1 3 := by
  unfold res_main_v227
  simp only [addf, Ideal.addf_def]
  rw [dot100, dot101, dot102, dot103, dot110, dot111, dot112, dot113]

/-- The reference's result. -/
def result : FVec Ideal S2x1x27648 .bf16 := truncf .bf16 (shapeCast _ (concatenate S2x1x13824x2 3 [⟨S2x1x13824x1, (broadcastInDim S2x1x13824x1 ![0, 1, 2] bcast_S2x1x13824_S2x1x13824x1_0_1_2 (addf (res_main_v110 V0) (Host.dotGeneral (φ₁ := .bf16) dot_S2x1x640_S640x13824_S2x1x13824_2_0_01_1_n_n none (shapeCast _ (extractStridedSlice S2x1x640x1x1 ![0, 0, 0, 1, 3] (res_main_v0 V0) slices_S2x1x640x2x4_S2x1x640x1x1_0_0_0_1_3) shapeCasts_S2x1x640x1x1_S2x1x640) (select (cmpi .eq (res_main_v72 V0) (broadcastInDim S640x13824 ![] bcast_S_S640x13824 (constantI S_ 32 3#32))) (res_main_v78 V0) (select (cmpi .eq (res_main_v76 V0) (broadcastInDim S640x13824 ![] bcast_S_S640x13824 (constantI S_ 32 3#32))) (res_main_v80 V0) (broadcastInDim S640x13824 ![] bcast_S_S640x13824 (constant S_ .bf16 0x0000#16)))))))⟩, ⟨S2x1x13824x1, (broadcastInDim S2x1x13824x1 ![0, 1, 2] bcast_S2x1x13824_S2x1x13824x1_0_1_2 (addf (res_main_v227 V0) (Host.dotGeneral (φ₁ := .bf16) dot_S2x1x640_S640x13824_S2x1x13824_2_0_01_1_n_n none (shapeCast _ (extractStridedSlice S2x1x640x1x1 ![0, 0, 0, 1, 3] (res_main_v0 V0) slices_S2x1x640x2x4_S2x1x640x1x1_0_0_0_1_3) shapeCasts_S2x1x640x1x1_S2x1x640) (select (cmpi .eq (res_main_v189 V0) (broadcastInDim S640x13824 ![] bcast_S_S640x13824 (constantI S_ 32 3#32))) (res_main_v195 V0) (select (cmpi .eq (res_main_v193 V0) (broadcastInDim S640x13824 ![] bcast_S_S640x13824 (constantI S_ 32 3#32))) (res_main_v197 V0) (broadcastInDim S640x13824 ![] bcast_S_S640x13824 (constant S_ .bf16 0x0000#16)))))))⟩] concatenates_S2x1x13824x1_S2x1x13824x1_S2x1x13824x2_d3) shapeCasts_S2x1x13824x2_S2x1x27648) bitsLt_bf16_f32

/-- The reference's result, entry by entry, from the sums of the even and the odd columns. -/
theorem result_gen (y0 y1 : FVec Ideal S2x1x13824 .f32) (b : Fin 2) (n : Fin 27648) :
    (truncf .bf16 (shapeCast S2x1x27648 (concatenate S2x1x13824x2 3 [⟨S2x1x13824x1, (broadcastInDim S2x1x13824x1 ![0, 1, 2] bcast_S2x1x13824_S2x1x13824x1_0_1_2 y0)⟩, ⟨S2x1x13824x1, (broadcastInDim S2x1x13824x1 ![0, 1, 2] bcast_S2x1x13824_S2x1x13824x1_0_1_2 y1)⟩] concatenates_S2x1x13824x1_S2x1x13824x1_S2x1x13824x2_d3) shapeCasts_S2x1x13824x2_S2x1x27648) bitsLt_bf16_f32 : FVec Ideal S2x1x27648 .bf16) (ix3 b 0 n) =
      (if n.val % 2 = 0 then y0 (ix3 b 0 ⟨n.val / 2, by omega⟩) else y1 (ix3 b 0 ⟨n.val / 2, by omega⟩) : EReal) := by
  pointwise
  by_cases h : n.val % 2 = 0
  · rw [if_pos h, dif_pos (by omega)]
  · rw [if_neg h, dif_neg (by omega)]

/-- The result of row `b` at column `n`: eight products, one after the other. -/
theorem result_at (b : Fin 2) (n : Fin 27648) : result V0 (ix3 b 0 n) =
    S V0 b (n.val % 2) (n.val / 2) 0 0 + S V0 b (n.val % 2) (n.val / 2) 0 1 + S V0 b (n.val % 2) (n.val / 2) 0 2 + S V0 b (n.val % 2) (n.val / 2) 0 3 + S V0 b (n.val % 2) (n.val / 2) 1 0 + S V0 b (n.val % 2) (n.val / 2) 1 1 + S V0 b (n.val % 2) (n.val / 2) 1 2 + S V0 b (n.val % 2) (n.val / 2) 1 3 := by
  have hn : n.val % 2 = 0 ∨ n.val % 2 = 1 := by omega
  rcases hn with h | h
  · rw [h]
    refine Eq.trans (result_gen _ _ b n) ?_
    rw [if_pos h]
    exact sum0 V0 b ⟨n.val / 2, by omega⟩
  · rw [h]
    refine Eq.trans (result_gen _ _ b n) ?_
    rw [if_neg (by omega)]
    exact sum1 V0 b ⟨n.val / 2, by omega⟩

end Cert.ReferenceIdeal.RV
end
-- ==== Proof.WEntry.lean ====
module

public import proofs.«01_k».proof.Proof.Entry

@[expose] public section

set_option maxRecDepth 16384

noncomputable section

open Idealize.ShloMosaic Idealize.ShloMosaic.TcCoe Idealize.SL Idealize.SL.RA Idealize.SL.Sem

namespace Cert.KernelIdeal.KV

open Cert.KernelIdeal Cert.KernelIdeal.Gen

/-! ### The entries of the dense tiles -/

/-- The row of position bytes that row `R` of half `g` of trip `k` reads. -/
def octOf (k g R : Nat) : Nat := 32 * k + 4 * (4 * g + 2 * (R / 16 % 2) + R % 16 / 8) + 2 * (R / 128) + R % 8 / 2 % 2

/-- A dense word's nibble, from the block's windows. -/
theorem block_word (blk kk : Nat) (v : Vec Ideal S128x128 .i8) (i0 i1 : Vec Ideal S32x128 .i8) (x : Vec Ideal S2560x128 .i8) (x3 : Vec Ideal S640x512 .i8)
    (hv : ∀ i j, i < 128 → j < 128 → rd v i j = rd x (128 * kk + i) j)
    (h0 : ∀ i j, i < 32 → j < 128 → rd i0 i j = rd x3 (32 * kk + i) (256 * blk + j))
    (h1 : ∀ i j, i < 32 → j < 128 → rd i1 i j = rd x3 (32 * kk + i) (256 * blk + 128 + j))
    (q : Fin 2) (p : Fin 4) (s : Fin 8) (l : Fin 128) (n : Nat) (hn : n < 8)
    (hp : pos (rd x3 (32 * kk + 4 * s.val + (2 * q.val + n / 2 % 2)) (256 * blk + 2 * l.val + n % 2)) (4 * (n / 4)) < pos (rd x3 (32 * kk + 4 * s.val + (2 * q.val + n / 2 % 2)) (256 * blk + 2 * l.val + n % 2)) (4 * (n / 4) + 2)) :
    (nib (wordsOf (F := Ideal) (iota Kind.tc S8x128 32 [1] iota_S8x128_d1_w32) v i0 i1 q p (ix2 s l)) n).toInt
      = dval (rd x (128 * kk + (16 * s.val + 8 * q.val + 4 * (n / 2 % 2) + 2 * (n / 4))) l.val) (rd x (128 * kk + (16 * s.val + 8 * q.val + 4 * (n / 2 % 2) + 2 * (n / 4) + 1)) l.val)
          (rd x3 (32 * kk + 4 * s.val + (2 * q.val + n / 2 % 2)) (256 * blk + 2 * l.val + n % 2)) (n / 4) (n % 2) p.val := by
  have hs := s.isLt
  have hl := l.isLt
  have hq := q.isLt
  rw [word_nib v _ i0 i1 q p s l n hn (fun a c => (rd x3 (32 * kk + 4 * s.val + a) (256 * blk + 2 * l.val + c) : BitVec 8)) (fun i hi => ?_) (fun i hi => ?_) hp,
    hv _ _ (by omega) hl, hv _ _ (by omega) hl]
  · rw [eV_bit i0 i1 s l i hi]
    split
    · rw [h0 _ _ (by omega) (by omega)]
      exact congrArg (fun a => BitVec.getLsbD (a : BitVec 8) (i % 8)) (congrArg₂ (rd x3) (by omega) (by omega))
    · rw [h1 _ _ (by omega) (by omega)]
      exact congrArg (fun a => BitVec.getLsbD (a : BitVec 8) (i % 8)) (congrArg₂ (rd x3) (by omega) (by omega))
  · rw [oV_bit i0 i1 s l i hi]
    split
    · rw [h0 _ _ (by omega) (by omega)]
      exact congrArg (fun a => BitVec.getLsbD (a : BitVec 8) (i % 8)) (congrArg₂ (rd x3) (by omega) (by omega))
    · rw [h1 _ _ (by omega) (by omega)]
      exact congrArg (fun a => BitVec.getLsbD (a : BitVec 8) (i % 8)) (congrArg₂ (rd x3) (by omega) (by omega))

/-- A row of scales, set out for the tile: rows alternate between the even and the odd columns' scales. -/
theorem pay45_at (v : Vec Ideal S1x1x2x128 .bf16) (t : Fin 16) (l : Fin 128) :
    k0_pay45 (F := Ideal) v (ix2 t l) = v (ix4 0 0 ⟨t.val % 2, by omega⟩ l) := by
  have ht : t.val % 2 = 0 ∨ t.val % 2 = 1 := by omega
  have e : ∀ a : Fin 2, t.val % 2 = a.val → k0_pay45 (F := Ideal) v (ix2 t l) = v (ix4 0 0 a l) := by
    intro a ha
    pointwise [k0_pay45]
    by_cases h : t.val % 2 = 0
    · obtain rfl : a = 0 := Fin.ext (by rw [← ha, h]; rfl)
      rw [if_pos h]
      repeat' split
      all_goals rfl
    · obtain rfl : a = 1 := Fin.ext (by show a.val = 1; omega)
      rw [if_neg h]
      repeat' split
      all_goals rfl
  exact e ⟨t.val % 2, by omega⟩ rfl

/-- An entry of the tile of half 0: a signed nibble times a scale. -/
theorem tile0_nib (w : Fin 2 → Fin 4 → IVec S8x128 32) (s : FVec Ideal S16x128 .bf16) (R : Fin 256) (l : Fin 128) :
    tile0 (F := Ideal) k0_pay172 w s (ix2 R l)
      = ((((nib (w ⟨R.val / 128, by omega⟩ ⟨R.val / 32 % 4, by omega⟩ (ix2 (⟨4 * 0 + 2 * (R.val / 16 % 2) + R.val % 16 / 8, by omega⟩ : Fin 8) l)) (R.val % 8)).toInt : ℝ)) : EReal)
        * s (ix2 ⟨R.val % 16, by omega⟩ l) := by
  have hR := R.isLt
  have e := tile0_piece w s ⟨R.val / 16, by omega⟩ ⟨R.val % 16, by omega⟩ l
  dsimp only at e
  rw [nibbles_at] at e
  dsimp only at e
  have e1 : (⟨16 * (R.val / 16) + R.val % 16, by omega⟩ : Fin 256) = R := Fin.ext (by show 16 * (R.val / 16) + R.val % 16 = R.val; omega)
  have e2 : (⟨(0 + 16 * (R.val / 16 % 2) + R.val % 16) / 8, by omega⟩ : Fin 8) = ⟨4 * 0 + 2 * (R.val / 16 % 2) + R.val % 16 / 8, by omega⟩ := Fin.ext (by show (0 + 16 * (R.val / 16 % 2) + R.val % 16) / 8 = 4 * 0 + 2 * (R.val / 16 % 2) + R.val % 16 / 8; omega)
  have e3 : (0 + 16 * (R.val / 16 % 2) + R.val % 16) % 8 = R.val % 8 := by omega
  have e4 : (⟨R.val / 16 / 8, by omega⟩ : Fin 2) = ⟨R.val / 128, by omega⟩ := Fin.ext (by show R.val / 16 / 8 = R.val / 128; omega)
  have e5 : (⟨R.val / 16 / 2 % 4, by omega⟩ : Fin 4) = ⟨R.val / 32 % 4, by omega⟩ := Fin.ext (by show R.val / 16 / 2 % 4 = R.val / 32 % 4; omega)
  rw [e1, e2, e3, e4, e5] at e
  exact e

/-- An entry of the tile of half 1: a signed nibble times a scale. -/
theorem tile1_nib (w : Fin 2 → Fin 4 → IVec S8x128 32) (s : FVec Ideal S16x128 .bf16) (R : Fin 256) (l : Fin 128) :
    tile1 (F := Ideal) k0_pay172 w s (ix2 R l)
      = ((((nib (w ⟨R.val / 128, by omega⟩ ⟨R.val / 32 % 4, by omega⟩ (ix2 (⟨4 * 1 + 2 * (R.val / 16 % 2) + R.val % 16 / 8, by omega⟩ : Fin 8) l)) (R.val % 8)).toInt : ℝ)) : EReal)
        * s (ix2 ⟨R.val % 16, by omega⟩ l) := by
  have hR := R.isLt
  have e := tile1_piece w s ⟨R.val / 16, by omega⟩ ⟨R.val % 16, by omega⟩ l
  dsimp only at e
  rw [nibbles_at] at e
  dsimp only at e
  have e1 : (⟨16 * (R.val / 16) + R.val % 16, by omega⟩ : Fin 256) = R := Fin.ext (by show 16 * (R.val / 16) + R.val % 16 = R.val; omega)
  have e2 : (⟨(32 + 16 * (R.val / 16 % 2) + R.val % 16) / 8, by omega⟩ : Fin 8) = ⟨4 * 1 + 2 * (R.val / 16 % 2) + R.val % 16 / 8, by omega⟩ := Fin.ext (by show (32 + 16 * (R.val / 16 % 2) + R.val % 16) / 8 = 4 * 1 + 2 * (R.val / 16 % 2) + R.val % 16 / 8; omega)
  have e3 : (32 + 16 * (R.val / 16 % 2) + R.val % 16) % 8 = R.val % 8 := by omega
  have e4 : (⟨R.val / 16 / 8, by omega⟩ : Fin 2) = ⟨R.val / 128, by omega⟩ := Fin.ext (by show R.val / 16 / 8 = R.val / 128; omega)
  have e5 : (⟨R.val / 16 / 2 % 4, by omega⟩ : Fin 4) = ⟨R.val / 32 % 4, by omega⟩ := Fin.ext (by show R.val / 16 / 2 % 4 = R.val / 32 % 4; omega)
  rw [e1, e2, e3, e4, e5] at e
  exact e

/-- An entry of the dense tile of half `g` of trip `k`, from the blocks of the arguments. -/
def wEnt (x1 x2 : Vec Ideal S2560x128 .i8) (x3 : Vec Ideal S640x512 .i8) (x4 : Vec Ideal S40x512 .bf16) (k g R J : Nat) : EReal :=
  (((dval (if J < 128 then rd x1 (4 * octOf k g R + 2 * (R % 8 / 4)) J else rd x2 (4 * octOf k g R + 2 * (R % 8 / 4)) (J - 128))
      (if J < 128 then rd x1 (4 * octOf k g R + 2 * (R % 8 / 4) + 1) J else rd x2 (4 * octOf k g R + 2 * (R % 8 / 4) + 1) (J - 128))
      (rd x3 (octOf k g R) (2 * J + R % 2)) (R % 8 / 4) (R % 2) (R / 32 % 4) : ℝ)) : EReal) * rd x4 (2 * k + g) (2 * J + R % 2)

/-- A block's tile, from the arguments' windows. -/
theorem tile_word (g blk kk : Nat) (hg : g < 2) (hk : kk < 20) (hb : blk < 2) (v : Vec Ideal S128x128 .i8) (i0 i1 : Vec Ideal S32x128 .i8) (x : Vec Ideal S2560x128 .i8) (x3 : Vec Ideal S640x512 .i8)
    (x4 : Vec Ideal S40x512 .bf16)
    (hv : ∀ i j, i < 128 → j < 128 → rd v i j = rd x (128 * kk + i) j)
    (h0 : ∀ i j, i < 32 → j < 128 → rd i0 i j = rd x3 (32 * kk + i) (256 * blk + j))
    (h1 : ∀ i j, i < 32 → j < 128 → rd i1 i j = rd x3 (32 * kk + i) (256 * blk + 128 + j))
    (hp : ∀ r j h, r < 640 → j < 512 → h < 2 → pos (rd x3 r j) (4 * h) < pos (rd x3 r j) (4 * h + 2))
    (R : Fin 256) (l : Fin 128) :
    ((((nib (wordsOf (F := Ideal) (iota Kind.tc S8x128 32 [1] iota_S8x128_d1_w32) v i0 i1 ⟨R.val / 128, by omega⟩ ⟨R.val / 32 % 4, by omega⟩ (ix2 (⟨4 * g + 2 * (R.val / 16 % 2) + R.val % 16 / 8, by omega⟩ : Fin 8) l)) (R.val % 8)).toInt : ℝ)) : EReal)
        * rd x4 (2 * kk + g) (256 * blk + 2 * l.val + R.val % 2)
      = (((dval (rd x (4 * octOf kk g R.val + 2 * (R.val % 8 / 4)) l.val) (rd x (4 * octOf kk g R.val + 2 * (R.val % 8 / 4) + 1) l.val)
      (rd x3 (octOf kk g R.val) (2 * (128 * blk + l.val) + R.val % 2)) (R.val % 8 / 4) (R.val % 2) (R.val / 32 % 4) : ℝ)) : EReal) * rd x4 (2 * kk + g) (2 * (128 * blk + l.val) + R.val % 2) := by
  have hR := R.isLt
  have hl := l.isLt
  have eo : 32 * kk + 4 * (4 * g + 2 * (R.val / 16 % 2) + R.val % 16 / 8) + (2 * (R.val / 128) + R.val % 8 / 2 % 2) = octOf kk g R.val := by unfold octOf; omega
  have ho : octOf kk g R.val < 640 := by unfold octOf; omega
  have h2 := hp (octOf kk g R.val) (256 * blk + 2 * l.val + R.val % 8 % 2) (R.val % 8 / 4) ho (by omega) (by omega)
  rw [block_word blk kk v i0 i1 x x3 hv h0 h1 _ _ _ l (R.val % 8) (by omega) (by dsimp only; rw [eo]; exact h2)]
  dsimp only
  rw [eo, show 128 * kk + (16 * (4 * g + 2 * (R.val / 16 % 2) + R.val % 16 / 8) + 8 * (R.val / 128) + 4 * (R.val % 8 / 2 % 2) + 2 * (R.val % 8 / 4)) = 4 * octOf kk g R.val + 2 * (R.val % 8 / 4) by unfold octOf; omega,
    show 128 * kk + (16 * (4 * g + 2 * (R.val / 16 % 2) + R.val % 16 / 8) + 8 * (R.val / 128) + 4 * (R.val % 8 / 2 % 2) + 2 * (R.val % 8 / 4) + 1) = 4 * octOf kk g R.val + 2 * (R.val % 8 / 4) + 1 by unfold octOf; omega,
    show R.val % 8 % 2 = R.val % 2 by omega, show 256 * blk + 2 * l.val + R.val % 2 = 2 * (128 * blk + l.val) + R.val % 2 by omega]

/-- An entry of the dense tile of half 0. -/
theorem W0_at (x1 x2 : Vec Ideal S2560x128 .i8) (x3 : Vec Ideal S640x512 .i8) (x4 : Vec Ideal S40x512 .bf16) (s : Vec Ideal S2x24x2x128 .bf16)
    (hs : ∀ y, s y = scaleG x4 0 y) (hp : ∀ r j h, r < 640 → j < 512 → h < 2 → pos (rd x3 r j) (4 * h) < pos (rd x3 r j) (4 * h + 2))
    (k : Fin k0_t1_loop.trips) (hk : k.val < 20) (R J : Fin 256) :
    W0 (F := Ideal) (iota Kind.tc S8x128 32 [1] iota_S8x128_d1_w32) k0_pay172 x1 x2 x3 s k (ix2 R J) = wEnt x1 x2 x3 x4 k.val 0 R.val J.val := by
  have hR := R.isLt
  have hJ := J.isLt
  by_cases h : J.val < 128
  · have e : W0 (F := Ideal) (iota Kind.tc S8x128 32 [1] iota_S8x128_d1_w32) k0_pay172 x1 x2 x3 s k (ix2 R J)
        = tile0 (F := Ideal) k0_pay172 (wordsOf (iota Kind.tc S8x128 32 [1] iota_S8x128_d1_w32) (View.ld x1 (Rect.unit (s := S2560x128) (k0_off1 k ) S128x128.size (k0_off1_inb k ))) (View.ld x3 (Rect.unit (s := S640x512) (k0_off2 k ) S32x128.size (k0_off2_inb k ))) (View.ld x3 (Rect.unit (s := S640x512) (k0_off3 k ) S32x128.size (k0_off3_inb k )))) (k0_pay45 (View.ld s (Rect.unit (s := S2x24x2x128) (k0_off4 k ) S1x1x2x128.size (k0_off4_inb k )))) (ix2 R ⟨J.val, h⟩) := by
      pointwise [W0]
      rw [dif_pos h]
    rw [e]
    rw [tile0_nib, pay45_at, show View.ld s (Rect.unit (s := S2x24x2x128) (k0_off4 k) S1x1x2x128.size (k0_off4_inb k)) (ix4 0 0 ⟨R.val % 16 % 2, by omega⟩ (⟨J.val, h⟩ : Fin 128)) = rd x4 (2 * k.val + 0) (256 * 0 + 2 * (⟨J.val, h⟩ : Fin 128).val + R.val % 2) from ?_]
    · refine (tile_word 0 0 k.val (by decide) hk (by decide) _ _ _ x1 x3 x4 (fun i j hi hj => ?_) (fun i j hi hj => ?_) (fun i j hi hj => ?_) hp R (⟨J.val, h⟩ : Fin 128)).trans ?_
      · exact (ld_rd (α := Elt Ideal) (e := .i8) (m := 2560) (n := 128) (m' := 128) (n' := 128) x1 _ _ (128 * k.val) 0 (k0_off1_eq k) i j hi hj).trans (by rw [Nat.zero_add])
      · exact ld_rd (α := Elt Ideal) (e := .i8) (m := 640) (n := 512) (m' := 32) (n' := 128) x3 _ _ (32 * k.val) 0 (k0_off2_eq k) i j hi hj
      · exact ld_rd (α := Elt Ideal) (e := .i8) (m := 640) (n := 512) (m' := 32) (n' := 128) x3 _ _ (32 * k.val) 128 (k0_off3_eq k) i j hi hj
      · unfold wEnt
        rw [if_pos h, if_pos h]
        dsimp only
        rw [show 128 * 0 + J.val = J.val by omega]
    · have e4 := congrFun (k0_off4_eq k)
      show s _ = _
      rw [hs]
      show rd x4 (0 + if k0_off4 k 1 + 1 * 0 < 20 then 2 * (k0_off4 k 1 + 1 * 0) else 2 * (k0_off4 k 1 + 1 * 0) - 8) (256 * (k0_off4 k 0 + 1 * 0) + 2 * (k0_off4 k 3 + 1 * ((⟨J.val, h⟩ : Fin 128)).val) + (k0_off4 k 2 + 1 * (R.val % 16 % 2))) = _
      rw [e4 0, e4 1, e4 2, e4 3]
      show rd x4 (0 + if k.val + 1 * 0 < 20 then 2 * (k.val + 1 * 0) else 2 * (k.val + 1 * 0) - 8) (256 * (0 + 1 * 0) + 2 * (0 + 1 * ((⟨J.val, h⟩ : Fin 128)).val) + (0 + 1 * (R.val % 16 % 2))) = _
      rw [if_pos (by omega)]
      exact congrArg₂ (rd x4) (by omega) (by omega)

  · have e : W0 (F := Ideal) (iota Kind.tc S8x128 32 [1] iota_S8x128_d1_w32) k0_pay172 x1 x2 x3 s k (ix2 R J)
        = tile0 (F := Ideal) k0_pay172 (wordsOf (iota Kind.tc S8x128 32 [1] iota_S8x128_d1_w32) (View.ld x2 (Rect.unit (s := S2560x128) (k0_off1 k ) S128x128.size (k0_off1_inb k ))) (View.ld x3 (Rect.unit (s := S640x512) (k0_off5 k ) S32x128.size (k0_off5_inb k ))) (View.ld x3 (Rect.unit (s := S640x512) (k0_off6 k ) S32x128.size (k0_off6_inb k )))) (k0_pay45 (View.ld s (Rect.unit (s := S2x24x2x128) (k0_off7 k ) S1x1x2x128.size (k0_off7_inb k )))) (ix2 R ⟨J.val - 128, by omega⟩) := by
      pointwise [W0]
      rw [dif_neg h]
    rw [e]
    rw [tile0_nib, pay45_at, show View.ld s (Rect.unit (s := S2x24x2x128) (k0_off7 k) S1x1x2x128.size (k0_off7_inb k)) (ix4 0 0 ⟨R.val % 16 % 2, by omega⟩ (⟨J.val - 128, by omega⟩ : Fin 128)) = rd x4 (2 * k.val + 0) (256 * 1 + 2 * (⟨J.val - 128, by omega⟩ : Fin 128).val + R.val % 2) from ?_]
    · refine (tile_word 0 1 k.val (by decide) hk (by decide) _ _ _ x2 x3 x4 (fun i j hi hj => ?_) (fun i j hi hj => ?_) (fun i j hi hj => ?_) hp R (⟨J.val - 128, by omega⟩ : Fin 128)).trans ?_
      · exact (ld_rd (α := Elt Ideal) (e := .i8) (m := 2560) (n := 128) (m' := 128) (n' := 128) x2 _ _ (128 * k.val) 0 (k0_off1_eq k) i j hi hj).trans (by rw [Nat.zero_add])
      · exact ld_rd (α := Elt Ideal) (e := .i8) (m := 640) (n := 512) (m' := 32) (n' := 128) x3 _ _ (32 * k.val) 256 (k0_off5_eq k) i j hi hj
      · exact ld_rd (α := Elt Ideal) (e := .i8) (m := 640) (n := 512) (m' := 32) (n' := 128) x3 _ _ (32 * k.val) 384 (k0_off6_eq k) i j hi hj
      · unfold wEnt
        rw [if_neg h, if_neg h]
        dsimp only
        rw [show 128 * 1 + (J.val - 128) = J.val by omega]
    · have e4 := congrFun (k0_off7_eq k)
      show s _ = _
      rw [hs]
      show rd x4 (0 + if k0_off7 k 1 + 1 * 0 < 20 then 2 * (k0_off7 k 1 + 1 * 0) else 2 * (k0_off7 k 1 + 1 * 0) - 8) (256 * (k0_off7 k 0 + 1 * 0) + 2 * (k0_off7 k 3 + 1 * ((⟨J.val - 128, by omega⟩ : Fin 128)).val) + (k0_off7 k 2 + 1 * (R.val % 16 % 2))) = _
      rw [e4 0, e4 1, e4 2, e4 3]
      show rd x4 (0 + if k.val + 1 * 0 < 20 then 2 * (k.val + 1 * 0) else 2 * (k.val + 1 * 0) - 8) (256 * (1 + 1 * 0) + 2 * (0 + 1 * ((⟨J.val - 128, by omega⟩ : Fin 128)).val) + (0 + 1 * (R.val % 16 % 2))) = _
      rw [if_pos (by omega)]
      exact congrArg₂ (rd x4) (by omega) (by omega)

/-- An entry of the dense tile of half 1. -/
theorem W1_at (x1 x2 : Vec Ideal S2560x128 .i8) (x3 : Vec Ideal S640x512 .i8) (x4 : Vec Ideal S40x512 .bf16) (s : Vec Ideal S2x24x2x128 .bf16)
    (hs : ∀ y, s y = scaleG x4 1 y) (hp : ∀ r j h, r < 640 → j < 512 → h < 2 → pos (rd x3 r j) (4 * h) < pos (rd x3 r j) (4 * h + 2))
    (k : Fin k0_t1_loop.trips) (hk : k.val < 20) (R J : Fin 256) :
    W1 (F := Ideal) (iota Kind.tc S8x128 32 [1] iota_S8x128_d1_w32) k0_pay172 x1 x2 x3 s k (ix2 R J) = wEnt x1 x2 x3 x4 k.val 1 R.val J.val := by
  have hR := R.isLt
  have hJ := J.isLt
  by_cases h : J.val < 128
  · have e : W1 (F := Ideal) (iota Kind.tc S8x128 32 [1] iota_S8x128_d1_w32) k0_pay172 x1 x2 x3 s k (ix2 R J)
        = tile1 (F := Ideal) k0_pay172 (wordsOf (iota Kind.tc S8x128 32 [1] iota_S8x128_d1_w32) (View.ld x1 (Rect.unit (s := S2560x128) (k0_off1 k ) S128x128.size (k0_off1_inb k ))) (View.ld x3 (Rect.unit (s := S640x512) (k0_off2 k ) S32x128.size (k0_off2_inb k ))) (View.ld x3 (Rect.unit (s := S640x512) (k0_off3 k ) S32x128.size (k0_off3_inb k )))) (k0_pay45 (View.ld s (Rect.unit (s := S2x24x2x128) (k0_off4 k ) S1x1x2x128.size (k0_off4_inb k )))) (ix2 R ⟨J.val, h⟩) := by
      pointwise [W1]
      rw [dif_pos h]
    rw [e]
    rw [tile1_nib, pay45_at, show View.ld s (Rect.unit (s := S2x24x2x128) (k0_off4 k) S1x1x2x128.size (k0_off4_inb k)) (ix4 0 0 ⟨R.val % 16 % 2, by omega⟩ (⟨J.val, h⟩ : Fin 128)) = rd x4 (2 * k.val + 1) (256 * 0 + 2 * (⟨J.val, h⟩ : Fin 128).val + R.val % 2) from ?_]
    · refine (tile_word 1 0 k.val (by decide) hk (by decide) _ _ _ x1 x3 x4 (fun i j hi hj => ?_) (fun i j hi hj => ?_) (fun i j hi hj => ?_) hp R (⟨J.val, h⟩ : Fin 128)).trans ?_
      · exact (ld_rd (α := Elt Ideal) (e := .i8) (m := 2560) (n := 128) (m' := 128) (n' := 128) x1 _ _ (128 * k.val) 0 (k0_off1_eq k) i j hi hj).trans (by rw [Nat.zero_add])
      · exact ld_rd (α := Elt Ideal) (e := .i8) (m := 640) (n := 512) (m' := 32) (n' := 128) x3 _ _ (32 * k.val) 0 (k0_off2_eq k) i j hi hj
      · exact ld_rd (α := Elt Ideal) (e := .i8) (m := 640) (n := 512) (m' := 32) (n' := 128) x3 _ _ (32 * k.val) 128 (k0_off3_eq k) i j hi hj
      · unfold wEnt
        rw [if_pos h, if_pos h]
        dsimp only
        rw [show 128 * 0 + J.val = J.val by omega]
    · have e4 := congrFun (k0_off4_eq k)
      show s _ = _
      rw [hs]
      show rd x4 (1 + if k0_off4 k 1 + 1 * 0 < 20 then 2 * (k0_off4 k 1 + 1 * 0) else 2 * (k0_off4 k 1 + 1 * 0) - 8) (256 * (k0_off4 k 0 + 1 * 0) + 2 * (k0_off4 k 3 + 1 * ((⟨J.val, h⟩ : Fin 128)).val) + (k0_off4 k 2 + 1 * (R.val % 16 % 2))) = _
      rw [e4 0, e4 1, e4 2, e4 3]
      show rd x4 (1 + if k.val + 1 * 0 < 20 then 2 * (k.val + 1 * 0) else 2 * (k.val + 1 * 0) - 8) (256 * (0 + 1 * 0) + 2 * (0 + 1 * ((⟨J.val, h⟩ : Fin 128)).val) + (0 + 1 * (R.val % 16 % 2))) = _
      rw [if_pos (by omega)]
      exact congrArg₂ (rd x4) (by omega) (by omega)

  · have e : W1 (F := Ideal) (iota Kind.tc S8x128 32 [1] iota_S8x128_d1_w32) k0_pay172 x1 x2 x3 s k (ix2 R J)
        = tile1 (F := Ideal) k0_pay172 (wordsOf (iota Kind.tc S8x128 32 [1] iota_S8x128_d1_w32) (View.ld x2 (Rect.unit (s := S2560x128) (k0_off1 k ) S128x128.size (k0_off1_inb k ))) (View.ld x3 (Rect.unit (s := S640x512) (k0_off5 k ) S32x128.size (k0_off5_inb k ))) (View.ld x3 (Rect.unit (s := S640x512) (k0_off6 k ) S32x128.size (k0_off6_inb k )))) (k0_pay45 (View.ld s (Rect.unit (s := S2x24x2x128) (k0_off7 k ) S1x1x2x128.size (k0_off7_inb k )))) (ix2 R ⟨J.val - 128, by omega⟩) := by
      pointwise [W1]
      rw [dif_neg h]
    rw [e]
    rw [tile1_nib, pay45_at, show View.ld s (Rect.unit (s := S2x24x2x128) (k0_off7 k) S1x1x2x128.size (k0_off7_inb k)) (ix4 0 0 ⟨R.val % 16 % 2, by omega⟩ (⟨J.val - 128, by omega⟩ : Fin 128)) = rd x4 (2 * k.val + 1) (256 * 1 + 2 * (⟨J.val - 128, by omega⟩ : Fin 128).val + R.val % 2) from ?_]
    · refine (tile_word 1 1 k.val (by decide) hk (by decide) _ _ _ x2 x3 x4 (fun i j hi hj => ?_) (fun i j hi hj => ?_) (fun i j hi hj => ?_) hp R (⟨J.val - 128, by omega⟩ : Fin 128)).trans ?_
      · exact (ld_rd (α := Elt Ideal) (e := .i8) (m := 2560) (n := 128) (m' := 128) (n' := 128) x2 _ _ (128 * k.val) 0 (k0_off1_eq k) i j hi hj).trans (by rw [Nat.zero_add])
      · exact ld_rd (α := Elt Ideal) (e := .i8) (m := 640) (n := 512) (m' := 32) (n' := 128) x3 _ _ (32 * k.val) 256 (k0_off5_eq k) i j hi hj
      · exact ld_rd (α := Elt Ideal) (e := .i8) (m := 640) (n := 512) (m' := 32) (n' := 128) x3 _ _ (32 * k.val) 384 (k0_off6_eq k) i j hi hj
      · unfold wEnt
        rw [if_neg h, if_neg h]
        dsimp only
        rw [show 128 * 1 + (J.val - 128) = J.val by omega]
    · have e4 := congrFun (k0_off7_eq k)
      show s _ = _
      rw [hs]
      show rd x4 (1 + if k0_off7 k 1 + 1 * 0 < 20 then 2 * (k0_off7 k 1 + 1 * 0) else 2 * (k0_off7 k 1 + 1 * 0) - 8) (256 * (k0_off7 k 0 + 1 * 0) + 2 * (k0_off7 k 3 + 1 * ((⟨J.val - 128, by omega⟩ : Fin 128)).val) + (k0_off7 k 2 + 1 * (R.val % 16 % 2))) = _
      rw [e4 0, e4 1, e4 2, e4 3]
      show rd x4 (1 + if k.val + 1 * 0 < 20 then 2 * (k.val + 1 * 0) else 2 * (k.val + 1 * 0) - 8) (256 * (1 + 1 * 0) + 2 * (0 + 1 * ((⟨J.val - 128, by omega⟩ : Fin 128)).val) + (0 + 1 * (R.val % 16 % 2))) = _
      rw [if_pos (by omega)]
      exact congrArg₂ (rd x4) (by omega) (by omega)

end Cert.KernelIdeal.KV

end
-- ==== Proof.Sum.lean ====
module

public import proofs.«01_k».proof.Proof.WEntry

@[expose] public section

set_option maxRecDepth 16384

noncomputable section

namespace Cert.KernelIdeal.KV

/-! ### The order of the sum

The kernel adds twenty pairs of products of 256 terms, half of which are zero; the reference adds eight products of 640. -/

/-- The row that holds octet `u` of a trip, half `h`, place `p`, parity `c`. -/
def rowOf (c u h p : Nat) : Nat := 128 * (u / 2 % 2) + 32 * p + 16 * (u / 8 % 2) + 8 * (u / 4 % 2) + 4 * h + 2 * (u % 2) + c

/-- A row's octet, half, place and parity give the row again. -/
theorem row_oct : ∀ (g : Fin 2) (R : Fin 256), octOf 0 g.val R.val < 32 ∧ octOf 0 g.val R.val / 16 = g.val ∧
    rowOf (R.val % 2) (octOf 0 g.val R.val) (R.val % 8 / 4) (R.val / 32 % 4) = R.val ∧ R.val % 8 / 4 < 2 ∧ R.val / 32 % 4 < 4 := by
  decide +kernel

/-- An octet, half, place and parity are those of their row. -/
theorem oct_row : ∀ (u : Fin 32) (h : Fin 2) (p : Fin 4) (c : Fin 2), rowOf c.val u.val h.val p.val < 256 ∧ rowOf c.val u.val h.val p.val % 2 = c.val ∧
    rowOf c.val u.val h.val p.val % 8 / 4 = h.val ∧ rowOf c.val u.val h.val p.val / 32 % 4 = p.val ∧
    octOf 0 (u.val / 16) (rowOf c.val u.val h.val p.val) = u.val ∧ u.val / 16 < 2 := by
  decide +kernel

/-- The octet of a row of a tile, from the trip. -/
theorem oct_trip (k g R : Nat) : octOf k g R = 32 * k + octOf 0 g R := by
  simp only [octOf, Nat.mul_zero, Nat.zero_add, Nat.add_assoc]

/-- The sum over all of `k`, `g` and the rows of parity `c` is the sum over all octets, halves and places. -/
theorem regroup_sets (f : Nat → Nat → Nat → EReal) (c : Nat) (hc : c < 2) :
    (∑ x ∈ (Finset.range 20 ×ˢ Finset.range 2) ×ˢ (Finset.range 256).filter (fun R => R % 2 = c), f (octOf x.1.1 x.1.2 x.2) (x.2 % 8 / 4) (x.2 / 32 % 4)) =
      ∑ y ∈ (Finset.range 2 ×ˢ Finset.range 4) ×ˢ Finset.range 640, f y.2 y.1.1 y.1.2 := by
  refine Finset.sum_nbij' (fun x => ((x.2 % 8 / 4, x.2 / 32 % 4), octOf x.1.1 x.1.2 x.2))
    (fun y => ((y.2 / 32, y.2 % 32 / 16), rowOf c (y.2 % 32) y.1.1 y.1.2)) ?_ ?_ ?_ ?_ ?_
  · rintro ⟨⟨k, g⟩, R⟩ hx
    simp only [Finset.mem_product, Finset.mem_range, Finset.mem_filter] at hx ⊢
    obtain ⟨⟨hk, hg⟩, hR, hRc⟩ := hx
    obtain ⟨a1, a2, a3, a4, a5⟩ := row_oct ⟨g, hg⟩ ⟨R, hR⟩
    rw [oct_trip]
    refine ⟨⟨a4, a5⟩, ?_⟩
    have a1' : octOf 0 g R < 32 := a1
    clear a1 a2 a3 a4 a5
    generalize octOf 0 g R = u at a1' ⊢
    omega
  · rintro ⟨⟨h, p⟩, t⟩ hy
    simp only [Finset.mem_product, Finset.mem_range, Finset.mem_filter] at hy ⊢
    obtain ⟨⟨hh, hp⟩, ht⟩ := hy
    obtain ⟨b1, b2, b3, b4, b5, b6⟩ := oct_row ⟨t % 32, Nat.mod_lt _ (by decide)⟩ ⟨h, hh⟩ ⟨p, hp⟩ ⟨c, hc⟩
    exact ⟨⟨Nat.div_lt_of_lt_mul ht, b6⟩, b1, b2⟩
  · rintro ⟨⟨k, g⟩, R⟩ hx
    simp only [Finset.mem_product, Finset.mem_range, Finset.mem_filter] at hx
    obtain ⟨⟨hk, hg⟩, hR, hRc⟩ := hx
    obtain ⟨a1, a2, a3, a4, a5⟩ := row_oct ⟨g, hg⟩ ⟨R, hR⟩
    have a1' : octOf 0 g R < 32 := a1
    have a2' : octOf 0 g R / 16 = g := a2
    have a3' : rowOf (R % 2) (octOf 0 g R) (R % 8 / 4) (R / 32 % 4) = R := a3
    rw [hRc] at a3'
    have e1 : octOf k g R / 32 = k := by
      rw [oct_trip]
      clear a1 a2 a3 a4 a5 a2' a3'
      generalize octOf 0 g R = u at a1' ⊢
      omega
    have e2 : octOf k g R % 32 = octOf 0 g R := by
      rw [oct_trip]
      clear a1 a2 a3 a4 a5 a2' a3'
      generalize octOf 0 g R = u at a1' ⊢
      omega
    simp only [Prod.mk.injEq]
    rw [e1, e2]
    exact ⟨⟨rfl, a2'⟩, a3'⟩
  · rintro ⟨⟨h, p⟩, t⟩ hy
    simp only [Finset.mem_product, Finset.mem_range, Finset.mem_filter] at hy
    obtain ⟨⟨hh, hp⟩, ht⟩ := hy
    obtain ⟨b1, b2, b3, b4, b5, b6⟩ := oct_row ⟨t % 32, Nat.mod_lt _ (by decide)⟩ ⟨h, hh⟩ ⟨p, hp⟩ ⟨c, hc⟩
    simp only [Prod.mk.injEq]
    refine ⟨⟨b3, b4⟩, ?_⟩
    rw [oct_trip, show octOf 0 (t % 32 / 16) (rowOf c (t % 32) h p) = t % 32 from b5]
    exact Nat.div_add_mod t 32
  · rintro ⟨⟨k, g⟩, R⟩ hx
    rfl

/-- The two sums, as they are met. -/
theorem regroup (f : Nat → Nat → Nat → EReal) (c : Nat) (hc : c < 2) :
    (∑ k ∈ Finset.range 20, ((∑ R : Fin 256, if R.val % 2 = c then f (octOf k 0 R.val) (R.val % 8 / 4) (R.val / 32 % 4) else 0) +
        ∑ R : Fin 256, if R.val % 2 = c then f (octOf k 1 R.val) (R.val % 8 / 4) (R.val / 32 % 4) else 0)) =
      (∑ t : Fin 640, f t.val 0 0) + (∑ t : Fin 640, f t.val 0 1) + (∑ t : Fin 640, f t.val 0 2) + (∑ t : Fin 640, f t.val 0 3) +
        (∑ t : Fin 640, f t.val 1 0) + (∑ t : Fin 640, f t.val 1 1) + (∑ t : Fin 640, f t.val 1 2) + (∑ t : Fin 640, f t.val 1 3) := by
  have two : ∀ F : Nat → EReal, ∑ i ∈ Finset.range 2, F i = F 0 + F 1 := fun F => by
    rw [Finset.sum_range_succ, Finset.sum_range_one]
  have four : ∀ F : Nat → EReal, ∑ i ∈ Finset.range 4, F i = F 0 + F 1 + F 2 + F 3 := fun F => by
    rw [Finset.sum_range_succ, Finset.sum_range_succ, Finset.sum_range_succ, Finset.sum_range_one]
  have l : ∀ k g : Nat, (∑ R : Fin 256, if R.val % 2 = c then f (octOf k g R.val) (R.val % 8 / 4) (R.val / 32 % 4) else 0) =
      ∑ R ∈ (Finset.range 256).filter (fun R => R % 2 = c), f (octOf k g R) (R % 8 / 4) (R / 32 % 4) := by
    intro k g
    rw [Finset.sum_filter]
    exact (Finset.sum_range (fun R => if R % 2 = c then f (octOf k g R) (R % 8 / 4) (R / 32 % 4) else 0)).symm
  have r : ∀ h p : Nat, (∑ t : Fin 640, f t.val h p) = ∑ t ∈ Finset.range 640, f t h p := fun h p => (Finset.sum_range (fun t => f t h p)).symm
  calc _ = ∑ k ∈ Finset.range 20, ∑ g ∈ Finset.range 2, ∑ R ∈ (Finset.range 256).filter (fun R => R % 2 = c), f (octOf k g R) (R % 8 / 4) (R / 32 % 4) :=
        Finset.sum_congr rfl fun k _ => by rw [two, l, l]
    _ = ∑ x ∈ (Finset.range 20 ×ˢ Finset.range 2) ×ˢ (Finset.range 256).filter (fun R => R % 2 = c), f (octOf x.1.1 x.1.2 x.2) (x.2 % 8 / 4) (x.2 / 32 % 4) := by
        rw [Finset.sum_product, Finset.sum_product]
    _ = ∑ y ∈ (Finset.range 2 ×ˢ Finset.range 4) ×ˢ Finset.range 640, f y.2 y.1.1 y.1.2 := regroup_sets f c hc
    _ = ∑ h ∈ Finset.range 2, ∑ p ∈ Finset.range 4, ∑ t ∈ Finset.range 640, f t h p := by
        rw [Finset.sum_product, Finset.sum_product]
    _ = _ := by
        rw [two, four, four, r, r, r, r, r, r, r, r]
        simp only [add_assoc]

end Cert.KernelIdeal.KV
end
-- ==== Proof.Acc.lean ====
module

public import proofs.«01_k».proof.Proof.WEntry

@[expose] public section

set_option maxRecDepth 16384

noncomputable section

open Idealize.ShloMosaic Idealize.ShloMosaic.TcCoe Idealize.SL Idealize.SL.RA Idealize.SL.Sem

namespace Cert.KernelIdeal.KV

open Cert.KernelIdeal Cert.KernelIdeal.Gen

/-! ### The accumulator after the trips -/

/-- One product added to the accumulator, at an entry. -/
theorem step_at (x : Vec Ideal S1x16x256 .bf16) (acc : FVec Ideal S16x256 .f32) (w : FVec Ideal S256x256 .bf16) (b : Fin 16) (J : Fin 256) :
    step (F := Ideal) x acc w (ix2 b J) = acc (ix2 b J) + ∑ R : Fin 256, x (ix3 0 b R) * w (ix2 R J) := by
  pointwise [step, k0_pay264]

/-- The left rows, by numbers. -/
def rd3 (x : Vec Ideal S40x16x256 .bf16) (i : Nat) (b : Fin 16) (R : Fin 256) : EReal := x (ix3 (Fin.ofNat 40 i) b R)

/-- The left operand of the even groups, read at a trip: row 2k of the buffer. -/
theorem X0_at (x0 : Vec Ideal S40x16x256 .bf16) (k : Fin k0_t1_loop.trips) (hk : k.val < 20) (b : Fin 16) (R : Fin 256) :
    X0 (F := Ideal) x0 k (ix3 0 b R) = rd3 x0 (2 * k.val) b R := by
  have e := congrFun (k0_off8_eq k 0)
  refine congrArg x0 (funext fun a => Fin.ext ?_)
  match a with
  | ⟨0, _⟩ =>
    show k0_off8 k 0#32 0 + 1 * 0 = (2 * k.val) % 40
    rw [show k0_off8 k 0#32 0 = _ from e 0]
    show 2 * k.val + 0 + 1 * 0 = (2 * k.val) % 40
    omega
  | ⟨1, _⟩ =>
    show k0_off8 k 0#32 1 + 1 * b.val = b.val
    rw [show k0_off8 k 0#32 1 = _ from e 1]
    show 0 + 1 * b.val = b.val
    omega
  | ⟨2, _⟩ =>
    show k0_off8 k 0#32 2 + 1 * R.val = R.val
    rw [show k0_off8 k 0#32 2 = _ from e 2]
    show 0 + 1 * R.val = R.val
    omega

/-- The left operand of the odd groups, read at a trip: row 2k + 1 of the buffer. -/
theorem X1_at (x0 : Vec Ideal S40x16x256 .bf16) (k : Fin k0_t1_loop.trips) (hk : k.val < 20) (b : Fin 16) (R : Fin 256) :
    X1 (F := Ideal) x0 k (ix3 0 b R) = rd3 x0 (2 * k.val + 1) b R := by
  have e := congrFun (k0_off8_eq k 1)
  refine congrArg x0 (funext fun a => Fin.ext ?_)
  match a with
  | ⟨0, _⟩ =>
    show k0_off8 k 1#32 0 + 1 * 0 = (2 * k.val + 1) % 40
    rw [show k0_off8 k 1#32 0 = _ from e 0]
    show 2 * k.val + 1 + 1 * 0 = (2 * k.val + 1) % 40
    omega
  | ⟨1, _⟩ =>
    show k0_off8 k 1#32 1 + 1 * b.val = b.val
    rw [show k0_off8 k 1#32 1 = _ from e 1]
    show 0 + 1 * b.val = b.val
    omega
  | ⟨2, _⟩ =>
    show k0_off8 k 1#32 2 + 1 * R.val = R.val
    rw [show k0_off8 k 1#32 2 = _ from e 2]
    show 0 + 1 * R.val = R.val
    omega

/-- What trip `k` adds to entry `b`, `J`. -/
def term (x0 : Vec Ideal S40x16x256 .bf16) (x1 x2 : Vec Ideal S2560x128 .i8) (x3 : Vec Ideal S640x512 .i8) (x4 : Vec Ideal S40x512 .bf16) (b : Fin 16) (J : Fin 256) (k : Nat) : EReal :=
  (∑ R : Fin 256, rd3 x0 (2 * k) b R * wEnt x1 x2 x3 x4 k 0 R.val J.val) + ∑ R : Fin 256, rd3 x0 (2 * k + 1) b R * wEnt x1 x2 x3 x4 k 1 R.val J.val

/-- The loop makes 20 trips. -/
theorem trips_eq : k0_t1_loop.trips = 20 := by decide +kernel

/-- The accumulator after the loop, entry by entry: the sum over the trips and the two groups. -/
theorem acc_at (x0 : Vec Ideal S40x16x256 .bf16) (x1 x2 : Vec Ideal S2560x128 .i8) (x3 : Vec Ideal S640x512 .i8) (x4 : Vec Ideal S40x512 .bf16) (s0 s1 : Vec Ideal S2x24x2x128 .bf16)
    (h0 : ∀ y, s0 y = scaleG x4 0 y) (h1 : ∀ y, s1 y = scaleG x4 1 y) (hp : ∀ r j h, r < 640 → j < 512 → h < 2 → pos (rd x3 r j) (4 * h) < pos (rd x3 r j) (4 * h + 2))
    (b : Fin 16) (J : Fin 256) (n : Nat) (hn : n ≤ 20) :
    accN (F := Ideal) (iota Kind.tc S8x128 32 [1] iota_S8x128_d1_w32) k0_pay172 x0 x1 x2 x3 s0 s1 n (ix2 b J) = ∑ k ∈ Finset.range n, term x0 x1 x2 x3 x4 b J k := by
  induction n with
  | zero =>
    rw [Finset.sum_range_zero]
    show k0_pay173 (F := Ideal) (ix2 b J) = 0
    pointwise [k0_pay173]
  | succ n ih =>
    have ht : n < k0_t1_loop.trips := by rw [trips_eq]; omega
    rw [accN, dif_pos ht, Finset.sum_range_succ, ← ih (by omega)]
    unfold tripOf term
    rw [step_at, step_at, add_assoc]
    refine congrArg₂ _ rfl (congrArg₂ _ (Finset.sum_congr rfl fun R _ => ?_) (Finset.sum_congr rfl fun R _ => ?_))
    · rw [X0_at x0 ⟨n, ht⟩ (by show n < 20; omega), W0_at x1 x2 x3 x4 s0 h0 hp ⟨n, ht⟩ (by show n < 20; omega)]
    · rw [X1_at x0 ⟨n, ht⟩ (by show n < 20; omega), W1_at x1 x2 x3 x4 s1 h1 hp ⟨n, ht⟩ (by show n < 20; omega)]

/-- What a body leaves in its output block, entry by entry. -/
theorem out_at (c : Dev nD) (i : grid0.Coords) (arg1 : Memref sig .tc .vmem S40x16x256 .bf16) (harg1 : arg1.IsWhole) (arg2 : Memref sig .tc .vmem S2560x128 .i8) (harg2 : arg2.IsWhole) (arg3 : Memref sig .tc .vmem S2560x128 .i8) (harg3 : arg3.IsWhole) (arg4 : Memref sig .tc .vmem S640x512 .i8) (harg4 : arg4.IsWhole) (arg5 : Memref sig .tc .vmem S40x512 .bf16) (harg5 : arg5.IsWhole) (arg6 : Memref sig .tc .vmem S16x256 .f32) (harg6 : arg6.IsWhole) (arg7 : Memref sig .tc .vmem S16x256 .f32) (harg7 : arg7.IsWhole) (arg8 : Memref sig .tc .vmem S2x24x2x128 .bf16) (harg8 : arg8.IsWhole) (arg9 : Memref sig .tc .vmem S2x24x2x128 .bf16) (harg9 : arg9.IsWhole)  (x0 : Vec Ideal S40x16x256 .bf16) (x1 : Vec Ideal S2560x128 .i8) (x2 : Vec Ideal S2560x128 .i8) (x3 : Vec Ideal S640x512 .i8) (x4 : Vec Ideal S40x512 .bf16)
    (hp : ∀ r j h, r < 640 → j < 512 → h < 2 → pos (rd x3 r j) (4 * h) < pos (rd x3 r j) (4 * h + 2)) (b : Fin 16) (J : Fin 256) :
    out0_A_5 (F := Ideal) c i arg1 harg1 arg2 harg2 arg3 harg3 arg4 harg4 arg5 harg5 arg6 harg6 arg7 harg7 arg8 harg8 arg9 harg9 x0 x1 x2 x3 x4 (ix2 b J) = ∑ k ∈ Finset.range 20, term x0 x1 x2 x3 x4 b J k := by
  rw [out_A, show Scf.trips k0_t1_loop.lb k0_t1_loop.ub k0_t1_loop.st = 20 from trips_eq]
  exact acc_at x0 x1 x2 x3 x4 _ _ (scale0_canon c arg5 harg5 x4) (scale1_canon c arg5 harg5 x4) hp b J 20 (le_refl _)

end Cert.KernelIdeal.KV

end
-- ==== Proof.Lhs.lean ====
module

public import proofs.«01_k».proof.Proof.RefRead
public import proofs.«01_k».proof.Proof.Sum
public import proofs.«01_k».proof.Proof.Acc
public import Idealize.ShloMosaic.Lib.StableHlo.RunClose
public import Idealize.ShloMosaic.Lib.Pointwise

@[expose] public section

set_option maxRecDepth 16384

noncomputable section

open Idealize.ShloMosaic Idealize.ShloMosaic.TcCoe Idealize.SL Idealize.SL.RA Idealize.SL.Sem

namespace Cert.KernelIdeal.KV

open Cert.KernelIdeal Cert.KernelIdeal.Gen

/-! ### The left rows -/

/-- The activations, in the kernel's order. -/
def acts (A : Vec Ideal S2x1x5120 .bf16) : Vec Ideal S40x2x128 .bf16 :=
  shapeCast S40x2x128 (transpose S20x2x2x2x4x2x2x2x2 [1, 2, 0, 5, 8, 3, 4, 7, 6] (shapeCast S2x20x2x2x2x2x2x2x4 A shapeCasts_S2x1x5120_S2x20x2x2x2x2x2x2x4) transposes_S2x20x2x2x2x2x2x2x4_S20x2x2x2x4x2x2x2x2_1_2_0_5_8_3_4_7_6) shapeCasts_S20x2x2x2x4x2x2x2x2_S40x2x128

def zeros : Vec Ideal S40x2x128 .bf16 := broadcastInDim S40x2x128 ![] bcast_S_S40x2x128 (constant S_ .bf16 0x0000#16 : FVec Ideal S_ .bf16)

/-- The activations between zeros: in the even rows, in the odd rows. -/
def between (a b : Vec Ideal S40x2x128 .bf16) : Vec Ideal S40x2x256 .bf16 :=
  shapeCast S40x2x256 (concatenate S40x2x128x2 3 [⟨S40x2x128x1, broadcastInDim S40x2x128x1 ![0, 1, 2] bcast_S40x2x128_S40x2x128x1_0_1_2 a⟩, ⟨S40x2x128x1, broadcastInDim S40x2x128x1 ![0, 1, 2] bcast_S40x2x128_S40x2x128x1_0_1_2 b⟩] concatenates_S40x2x128x1_S40x2x128x1_S40x2x128x2_d3) shapeCasts_S40x2x128x2_S40x2x256

/-- What the first window stages. -/
def lhs (A : Vec Ideal S2x1x5120 .bf16) : Vec Ideal S40x16x256 .bf16 :=
  concatenate S40x16x256 1 [⟨S40x2x256, between (acts A) zeros⟩, ⟨S40x2x256, between zeros (acts A)⟩, ⟨S40x12x256, broadcastInDim S40x12x256 ![] bcast_S_S40x12x256 (constant S_ .bf16 0x0000#16 : FVec Ideal S_ .bf16)⟩] concatenates_S40x2x256_S40x2x256_S40x12x256_S40x16x256_d1

/-- The host's operations before the call leave the left operand. -/
theorem V_v13 (m : (ℓ : Loc nD τ sig) → Buf (Elt Ideal) ℓ) (c : Dev nD) : V m c main_v13 = lhs (m ((c : Thread nD τ).loc main_arg0)) := by
  show StableHlo.after hostOps0 _ (Proc.devRef .tc main_v13) = _
  after_results_entrywise (rounds := 1) []

/-- The rearranged rows of x, entry by entry. -/
theorem acts_at (A : Vec Ideal S2x1x5120 .bf16) (i : Fin 40) (b : Fin 2) (l : Fin 128) : acts A (ix3 i b l) =
    rx A b (i.val / 2 * 256 + i.val % 2 * 128 + l.val / 8 % 2 * 64 + l.val / 4 % 2 * 32 + l.val / 64 * 16 + l.val % 2 * 8 + l.val / 2 % 2 * 4 + l.val / 16 % 4) := by
  rw [← rx_of A b _ (by omega)]
  pointwise [acts]

/-- The zeros, entry by entry. -/
theorem zeros_at (i : Fin 40) (b : Fin 2) (l : Fin 128) : zeros (ix3 i b l) = (0 : EReal) := by
  pointwise [zeros]

/-- Two arrays interleaved along the lanes, entry by entry. -/
theorem between_at (x y : Vec Ideal S40x2x128 .bf16) (i : Fin 40) (b : Fin 2) (l : Fin 256) : between x y (ix3 i b l) =
    (if l.val % 2 = 0 then x (ix3 i b ⟨l.val / 2, by omega⟩) else y (ix3 i b ⟨l.val / 2, by omega⟩) : EReal) := by
  pointwise [between]
  by_cases h : l.val % 2 = 0
  · rw [if_pos h, dif_pos (by omega)]
  · rw [if_neg h, dif_neg (by omega)]

/-- The even rows, the odd rows and the zero rows, one after the other, entry by entry. -/
theorem rows_at (x y : Vec Ideal S40x2x256 .bf16) (z : Vec Ideal S40x12x256 .bf16) (i : Fin 40) (bb : Fin 16) (l : Fin 256) (c : Nat) (hc : c < 2) (b : Fin 2) (hb : bb.val = 2 * c + b.val) :
    concatenate S40x16x256 1 [⟨S40x2x256, x⟩, ⟨S40x2x256, y⟩, ⟨S40x12x256, z⟩] concatenates_S40x2x256_S40x2x256_S40x12x256_S40x16x256_d1 (ix3 i bb l) =
      (if c = 0 then x (ix3 i b l) else y (ix3 i b l) : EReal) := by
  have e : concatenate S40x16x256 1 [⟨S40x2x256, x⟩, ⟨S40x2x256, y⟩, ⟨S40x12x256, z⟩] concatenates_S40x2x256_S40x2x256_S40x12x256_S40x16x256_d1 (ix3 i bb l) =
      (if h : bb.val < 2 then x (ix3 i ⟨bb.val, h⟩ l) else if h2 : bb.val - 2 < 2 then y (ix3 i ⟨bb.val - 2, h2⟩ l) else z (ix3 i ⟨bb.val - 2 - 2, by omega⟩ l) : EReal) := by
    pointwise
  rw [e]
  by_cases h : c = 0
  · rw [dif_pos (by omega), if_pos h]
    exact congrArg (fun q => x (ix3 i q l)) (Fin.ext (by simp only []; omega))
  · rw [dif_neg (by omega), dif_pos (by omega), if_neg h]
    exact congrArg (fun q => y (ix3 i q l)) (Fin.ext (by simp only []; omega))

/-- Where a row's activation lies. -/
theorem place : ∀ R : Fin 256, R.val / 2 / 8 % 2 * 64 + R.val / 2 / 4 % 2 * 32 + R.val / 2 / 64 * 16 + R.val / 2 % 2 * 8 + R.val / 2 / 2 % 2 * 4 + R.val / 2 / 16 % 4 =
    8 * octOf 0 0 R.val + 4 * (R.val % 8 / 4) + R.val / 32 % 4 := by
  decide +kernel

/-- The octet of a row of a tile, from the trip and the group. -/
theorem oct_group (k g R : Nat) : octOf k g R = 32 * k + 16 * g + octOf 0 0 R := by
  simp only [octOf, Nat.mul_zero, Nat.zero_add, Nat.mul_add, Nat.add_assoc, ← Nat.mul_assoc]

/-- A left row, entry by entry: the activations of the rows of one parity. -/
theorem lhs_at (A : Vec Ideal S2x1x5120 .bf16) (k : Nat) (hk : k < 20) (g : Nat) (hg : g < 2) (bb : Fin 16) (c : Nat) (hc : c < 2) (b : Fin 2) (hb : bb.val = 2 * c + b.val) (R : Fin 256) :
    rd3 (lhs A) (2 * k + g) bb R = if R.val % 2 = c then rx A b (8 * octOf k g R.val + 4 * (R.val % 8 / 4) + R.val / 32 % 4) else 0 := by
  have hi : (Fin.ofNat 40 (2 * k + g)).val = 2 * k + g := Nat.mod_eq_of_lt (by omega)
  have act : acts A (ix3 (Fin.ofNat 40 (2 * k + g)) b ⟨R.val / 2, by omega⟩) = rx A b (8 * octOf k g R.val + 4 * (R.val % 8 / 4) + R.val / 32 % 4) := by
    rw [acts_at, hi]
    refine congrArg (rx A b) ?_
    have p := place R
    rw [oct_group]
    show (2 * k + g) / 2 * 256 + (2 * k + g) % 2 * 128 + R.val / 2 / 8 % 2 * 64 + R.val / 2 / 4 % 2 * 32 + R.val / 2 / 64 * 16 + R.val / 2 % 2 * 8 + R.val / 2 / 2 % 2 * 4 + R.val / 2 / 16 % 4 = _
    rw [show (2 * k + g) / 2 = k by omega, show (2 * k + g) % 2 = g by omega]
    generalize octOf 0 0 R.val = u at p ⊢
    generalize R.val / 2 / 8 % 2 * 64 = a1 at p ⊢
    generalize R.val / 2 / 4 % 2 * 32 = a2 at p ⊢
    generalize R.val / 2 / 64 * 16 = a3 at p ⊢
    generalize R.val / 2 % 2 * 8 = a4 at p ⊢
    generalize R.val / 2 / 2 % 2 * 4 = a5 at p ⊢
    generalize R.val / 2 / 16 % 4 = a6 at p ⊢
    generalize R.val / 32 % 4 = a7 at p ⊢
    generalize R.val % 8 / 4 = a8 at p ⊢
    omega
  refine (rows_at _ _ _ (Fin.ofNat 40 (2 * k + g)) bb R c hc b hb).trans ?_
  rw [between_at, between_at, act, zeros_at]
  by_cases h0 : c = 0
  · subst h0; rw [if_pos rfl]
  · have h1 : c = 1 := by omega
    subst h1
    rw [if_neg h0]
    by_cases h : R.val % 2 = 0
    · rw [if_pos h, if_neg (by omega)]
    · rw [if_neg h, if_pos (by omega)]

end Cert.KernelIdeal.KV
end
-- ==== Proof.Blocks.lean ====
module

public import proofs.«01_k».proof.Proof.Lhs
public import Idealize.ShloMosaic.Lib.Pipeline.ValueKit

@[expose] public section

set_option maxRecDepth 16384

noncomputable section

open Idealize.ShloMosaic Idealize.ShloMosaic.TcCoe Idealize.SL Idealize.SL.RA Idealize.SL.Sem
open Idealize.ShloMosaic.Pipeline (Dat)

namespace Cert.KernelIdeal.KV

open Cert.KernelIdeal Cert.KernelIdeal.Gen

variable (m : (ℓ : Loc nD τ sig) → Buf (Elt Ideal) ℓ)

/-! ### The windows at a grid point -/

/-- The arguments' arrays on a device. -/
def a0 (c : Dev nD) : S2x1x5120.Idx → EReal := m ((c : Thread nD τ).loc main_arg0)
def a1 (c : Dev nD) : S2560x13824.Idx → BitVec 8 := m ((c : Thread nD τ).loc main_arg1)
def a2 (c : Dev nD) : S640x27648.Idx → BitVec 8 := m ((c : Thread nD τ).loc main_arg2)
def a3 (c : Dev nD) : S40x27648.Idx → EReal := m ((c : Thread nD τ).loc main_arg3)

/-- Which blocks are staged at each of the 54 points. -/
theorem idx_facts : ∀ t : Fin cfg0.N, win0_0.index t (0 : Fin 3) = 0 ∧ win0_0.index t (1 : Fin 3) = 0 ∧ win0_0.index t (2 : Fin 3) = 0
    ∧ win0_1.index t (0 : Fin 2) = 0 ∧ win0_1.index t (1 : Fin 2) = 2 * t.val
    ∧ win0_2.index t (0 : Fin 2) = 0 ∧ win0_2.index t (1 : Fin 2) = 2 * t.val + 1
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- The grid has 54 steps. -/
theorem t_lt (t : Fin cfg0.N) : t.val < 54 := t.isLt

/-- The first window is the whole left operand at each step. -/
theorem blk0 (c : Dev nD) (t : Fin cfg0.N) : iblk m c 0 t = lhs (a0 m c) := by
  funext y
  have h : ((cfg0.win 0).blk t).view.emb y = y := by
    obtain ⟨e0, e1, e2, -⟩ := idx_facts t
    funext a; apply Fin.ext
    match a with
    | ⟨0, _⟩ => show win0_0.index t (0 : Fin 3) * 40 + 1 * (y 0).val = (y 0).val; omega
    | ⟨1, _⟩ => show win0_0.index t (1 : Fin 3) * 16 + 1 * (y 1).val = (y 1).val; omega
    | ⟨2, _⟩ => show win0_0.index t (2 : Fin 3) * 256 + 1 * (y 2).val = (y 2).val; omega
  show V m c main_v13 (((cfg0.win 0).blk t).view.emb y) = _
  rw [V_v13]
  exact congrArg (lhs (a0 m c)) h

/-- The second window, entry by entry: the first 128 columns of the values of the step. -/
theorem blk1 (c : Dev nD) (t : Fin cfg0.N) (i j : Nat) (hi : i < 2560) (hj : j < 128) :
    rd (m := 2560) (n := 128) (iblk m c 1 t) i j = rd (a1 m c) i (256 * t.val + j) := by
  have ht := t_lt t
  rw [rd_eq (m := 2560) (n := 128) (iblk m c 1 t) i j hi hj, rd_eq (a1 m c) i (256 * t.val + j) hi (by omega)]
  show V m c main_arg1 (((cfg0.win 1).blk t).view.emb (ix2 ⟨i, hi⟩ ⟨j, hj⟩)) = _
  rw [V_main_arg1]
  obtain ⟨-, -, -, e0, e1, -⟩ := idx_facts t
  refine congrArg (a1 m c) (funext fun a => Fin.ext ?_)
  match a with
  | ⟨0, _⟩ => show win0_1.index t (0 : Fin 2) * 2560 + 1 * i = i; omega
  | ⟨1, _⟩ => show win0_1.index t (1 : Fin 2) * 128 + 1 * j = 256 * t.val + j; omega

/-- The third window, entry by entry: the last 128 columns of the values of the step. -/
theorem blk2 (c : Dev nD) (t : Fin cfg0.N) (i j : Nat) (hi : i < 2560) (hj : j < 128) :
    rd (m := 2560) (n := 128) (iblk m c 2 t) i j = rd (a1 m c) i (256 * t.val + 128 + j) := by
  have ht := t_lt t
  rw [rd_eq (m := 2560) (n := 128) (iblk m c 2 t) i j hi hj, rd_eq (a1 m c) i (256 * t.val + 128 + j) hi (by omega)]
  show V m c main_arg1 (((cfg0.win 2).blk t).view.emb (ix2 ⟨i, hi⟩ ⟨j, hj⟩)) = _
  rw [V_main_arg1]
  obtain ⟨-, -, -, -, -, e0, e1, -⟩ := idx_facts t
  refine congrArg (a1 m c) (funext fun a => Fin.ext ?_)
  match a with
  | ⟨0, _⟩ => show win0_2.index t (0 : Fin 2) * 2560 + 1 * i = i; omega
  | ⟨1, _⟩ => show win0_2.index t (1 : Fin 2) * 128 + 1 * j = 256 * t.val + 128 + j; omega

/-- The window of the positions, entry by entry. -/
theorem blk3 (c : Dev nD) (t : Fin cfg0.N) (i j : Nat) (hi : i < 640) (hj : j < 512) :
    rd (m := 640) (n := 512) (iblk m c 3 t) i j = rd (a2 m c) i (512 * t.val + j) := by
  have ht := t_lt t
  rw [rd_eq (m := 640) (n := 512) (iblk m c 3 t) i j hi hj, rd_eq (a2 m c) i (512 * t.val + j) hi (by omega)]
  show V m c main_arg2 (((cfg0.win 3).blk t).view.emb (ix2 ⟨i, hi⟩ ⟨j, hj⟩)) = _
  rw [V_main_arg2]
  obtain ⟨-, -, -, -, -, -, -, e0, e1, -⟩ := idx_facts t
  refine congrArg (a2 m c) (funext fun a => Fin.ext ?_)
  match a with
  | ⟨0, _⟩ => show win0_3.index t (0 : Fin 2) * 640 + 1 * i = i; omega
  | ⟨1, _⟩ => show win0_3.index t (1 : Fin 2) * 512 + 1 * j = 512 * t.val + j; omega

/-- The window of the scales, entry by entry. -/
theorem blk4 (c : Dev nD) (t : Fin cfg0.N) (i j : Nat) (hi : i < 40) (hj : j < 512) :
    rd (m := 40) (n := 512) (iblk m c 4 t) i j = rd (a3 m c) i (512 * t.val + j) := by
  have ht := t_lt t
  rw [rd_eq (m := 40) (n := 512) (iblk m c 4 t) i j hi hj, rd_eq (a3 m c) i (512 * t.val + j) hi (by omega)]
  show V m c main_arg3 (((cfg0.win 4).blk t).view.emb (ix2 ⟨i, hi⟩ ⟨j, hj⟩)) = _
  rw [V_main_arg3]
  obtain ⟨-, -, -, -, -, -, -, -, -, e0, e1, -⟩ := idx_facts t
  refine congrArg (a3 m c) (funext fun a => Fin.ext ?_)
  match a with
  | ⟨0, _⟩ => show win0_4.index t (0 : Fin 2) * 40 + 1 * i = i; omega
  | ⟨1, _⟩ => show win0_4.index t (1 : Fin 2) * 512 + 1 * j = 512 * t.val + j; omega

/-! ### The array after the run -/

/-- Two steps with the same block of the result are the same step. -/
theorem idx_inj5 : ∀ t t' : Fin cfg0.N, win0_5.index t = win0_5.index t' → t = t' :=
  (by decide +kernel : ∀ t t' : Fin grid0.N, win0_5.index t = win0_5.index t' → t = t')

/-- Two steps write different blocks of the result. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- Each step writes its block of the result. -/
theorem flush5 : ∀ t : Fin cfg0.N, (cfg0.win 5).flush t = true :=
  (by decide +kernel : ∀ t : Fin grid0.N, win0_5.flush t = true)

/-- The product's array after the run. -/
def prod (c : Dev nD) : S16x13824.Idx → EReal := (dats m 0 c).arrAt 5 cfg0.N

/-- Its block at a point is what the body left there. -/
theorem prod_at (c : Dev nD) (t : Fin cfg0.N) (b : Fin 16) (J : Fin 256) (h : 256 * t.val + J.val < 13824) :
    prod m c (ix2 b ⟨256 * t.val + J.val, h⟩) = outsAt0 m c t (ix2 b J) := by
  have e := congrFun ((dats m 0 c).read_blk_arrAt_eq_flushed 5 disjoint5 cfg0.N t t.isLt (flush5 t)) (ix2 b J)
  have f : (dats m 0 c).flushed 5 t = (cfg0.win 5).cut (grid0.coords t) (outsAt0 m c t) := by
    show (cfg0.win 5).cut (grid0.coords t) ((dats m 0 c).after 5 t) = _
    rw [after0_5]
  rw [f] at e
  refine Eq.trans (congrArg (prod m c) ?_) e
  obtain ⟨-, -, -, -, -, -, -, -, -, -, -, e0, e1⟩ := idx_facts t
  refine funext fun a => Fin.ext ?_
  match a with
  | ⟨0, _⟩ => show b.val = win0_5.index t (0 : Fin 2) * 16 + 1 * b.val; omega
  | ⟨1, _⟩ => show 256 * t.val + J.val = win0_5.index t (1 : Fin 2) * 256 + 1 * J.val; omega

end Cert.KernelIdeal.KV
end
-- ==== Proof.Val.lean ====
module

public import proofs.«01_k».proof.Proof.Blocks

@[expose] public section

set_option maxRecDepth 16384

noncomputable section

open Idealize.ShloMosaic Idealize.ShloMosaic.TcCoe Idealize.SL Idealize.SL.RA Idealize.SL.Sem

namespace Cert.KernelIdeal.KV

open Cert.KernelIdeal Cert.KernelIdeal.Gen

variable (m : (ℓ : Loc nD τ sig) → Buf (Elt Ideal) ℓ)

/-! ### The product's entries -/

/-- The two positions of each half are in order, on a device. -/
def InOrder (c : Dev nD) : Prop := ∀ r j h : Nat, r < 640 → j < 27648 → h < 2 → pos (rd (a2 m c) r j) (4 * h) < pos (rd (a2 m c) r j) (4 * h + 2)

/-- The octet of a row within a group is below 16. -/
theorem oct_lt : ∀ R : Fin 256, octOf 0 0 R.val < 16 := by decide +kernel

/-- An entry of the packed pair of weight columns, from the array. -/
theorem packed (c : Dev nD) (t : Fin cfg0.N) (i J : Nat) (hi : i < 2560) (hJ : J < 256) :
    (if J < 128 then rd (m := 2560) (n := 128) (iblk m c 1 t) i J else rd (m := 2560) (n := 128) (iblk m c 2 t) i (J - 128)) = rd (a1 m c) i (256 * t.val + J) := by
  by_cases h : J < 128
  · rw [if_pos h, blk1 m c t i J hi h]
  · rw [if_neg h, blk2 m c t i (J - 128) hi (by omega)]
    exact congrArg (rd (a1 m c) i) (by omega)

/-- One term of a product: the reference's term, in the rows of its parity. -/
theorem term_at (c : Dev nD) (t : Fin cfg0.N) (k g : Nat) (hk : k < 20) (hg : g < 2) (bb : Fin 16) (cc : Nat) (hcc : cc < 2) (b : Fin 2) (hb : bb.val = 2 * cc + b.val) (R J : Fin 256) :
    rd3 (lhs (a0 m c)) (2 * k + g) bb R * wEnt (iblk m c 1 t) (iblk m c 2 t) (iblk m c 3 t) (iblk m c 4 t) k g R.val J.val =
      if R.val % 2 = cc then fterm (a0 m c) (a1 m c) (a2 m c) (a3 m c) b cc (256 * t.val + J.val) (octOf k g R.val) (R.val % 8 / 4) (R.val / 32 % 4) else 0 := by
  have ht := t_lt t
  have hJ := J.isLt
  rw [lhs_at (a0 m c) k hk g hg bb cc hcc b hb R]
  by_cases h : R.val % 2 = cc
  · rw [if_pos h, if_pos h]
    have hu := oct_lt R
    have ho : octOf k g R.val < 640 := by
      rw [oct_group]; generalize octOf 0 0 R.val = u at hu ⊢; omega
    have hd : octOf k g R.val / 16 = 2 * k + g := by
      rw [oct_group]; generalize octOf 0 0 R.val = u at hu ⊢; omega
    have hh : R.val % 8 / 4 < 2 := by omega
    unfold wEnt fterm
    rw [h, hd]
    generalize octOf k g R.val = o at ho ⊢
    generalize R.val % 8 / 4 = hf at hh ⊢
    rw [packed m c t (4 * o + 2 * hf) J.val (by omega) hJ, packed m c t (4 * o + 2 * hf + 1) J.val (by omega) hJ,
      blk3 m c t o (2 * J.val + cc) ho (by omega), blk4 m c t (2 * k + g) (2 * J.val + cc) (by omega) (by omega),
      show 512 * t.val + (2 * J.val + cc) = 2 * (256 * t.val + J.val) + cc by omega]
  · rw [if_neg h, if_neg h, zero_mul]

/-- The eight sums over the octets. -/
def total (A0 : (⟨3, ![2, 1, 5120]⟩ : Shape).Idx → EReal) (A1 : (⟨2, ![2560, 13824]⟩ : Shape).Idx → BitVec 8) (A2 : (⟨2, ![640, 27648]⟩ : Shape).Idx → BitVec 8)
    (A3 : (⟨2, ![40, 27648]⟩ : Shape).Idx → EReal) (b : Fin 2) (cc j : Nat) : EReal :=
  (∑ t : Fin 640, fterm A0 A1 A2 A3 b cc j t.val 0 0) + (∑ t : Fin 640, fterm A0 A1 A2 A3 b cc j t.val 0 1) + (∑ t : Fin 640, fterm A0 A1 A2 A3 b cc j t.val 0 2) + (∑ t : Fin 640, fterm A0 A1 A2 A3 b cc j t.val 0 3) +
    (∑ t : Fin 640, fterm A0 A1 A2 A3 b cc j t.val 1 0) + (∑ t : Fin 640, fterm A0 A1 A2 A3 b cc j t.val 1 1) + (∑ t : Fin 640, fterm A0 A1 A2 A3 b cc j t.val 1 2) + (∑ t : Fin 640, fterm A0 A1 A2 A3 b cc j t.val 1 3)

/-- What the body leaves at a point, entry by entry. -/
theorem outs_at (c : Dev nD) (hp : InOrder m c) (t : Fin cfg0.N) (bb : Fin 16) (cc : Nat) (hcc : cc < 2) (b : Fin 2) (hb : bb.val = 2 * cc + b.val) (J : Fin 256) :
    outsAt0 m c t (ix2 bb J) = total (a0 m c) (a1 m c) (a2 m c) (a3 m c) b cc (256 * t.val + J.val) := by
  have ht := t_lt t
  unfold outsAt0
  refine Eq.trans (out_at c _ _ _ _ _ _ _ _ _ _ _ _ _ _ _ _ _ _ _ (iblk m c 0 t) (iblk m c 1 t) (iblk m c 2 t) (iblk m c 3 t) (iblk m c 4 t) ?_ bb J) ?_
  · intro r j h hr hj hh
    rw [blk3 m c t r j hr hj]
    exact hp r _ h hr (by omega) hh
  · unfold total
    rw [← regroup (fun o h p => fterm (a0 m c) (a1 m c) (a2 m c) (a3 m c) b cc (256 * t.val + J.val) o h p) cc hcc]
    refine Finset.sum_congr rfl fun k hk => ?_
    have hk' := Finset.mem_range.mp hk
    unfold term
    rw [blk0]
    refine congrArg₂ (· + ·) (Finset.sum_congr rfl fun R _ => ?_) (Finset.sum_congr rfl fun R _ => ?_)
    · exact term_at m c t k 0 hk' (by decide) bb cc hcc b hb R J
    · exact term_at m c t k 1 hk' (by decide) bb cc hcc b hb R J

/-- The product the kernel writes, at the rows that hold a result: the sum over all octets and rows. -/
theorem prod_val (c : Dev nD) (hp : InOrder m c) (bb : Fin 16) (cc : Nat) (hcc : cc < 2) (b : Fin 2) (hb : bb.val = 2 * cc + b.val) (j : Fin 13824) :
    prod m c (ix2 bb j) = total (a0 m c) (a1 m c) (a2 m c) (a3 m c) b cc j.val := by
  have hj := j.isLt
  have e := prod_at m c (⟨j.val / 256, by show j.val / 256 < 54; omega⟩ : Fin cfg0.N) bb ⟨j.val % 256, Nat.mod_lt _ (by decide)⟩ (by show 256 * (j.val / 256) + j.val % 256 < 13824; omega)
  rw [outs_at m c hp _ bb cc hcc b hb] at e
  have q : 256 * (j.val / 256) + j.val % 256 = j.val := Nat.div_add_mod _ _
  refine Eq.trans (congrArg (fun z => prod m c (ix2 bb z)) (Fin.ext q.symm)) (e.trans ?_)
  exact congrArg (total (a0 m c) (a1 m c) (a2 m c) (a3 m c) b cc) q

/-! ### After the region -/

/-- What is made of the product. -/
def tail (x : FVec Ideal S16x13824 .f32) : FVec Ideal S2x1x27648 .bf16 :=
  truncf .bf16 (shapeCast S2x1x27648 (transpose S2x13824x2 [1, 2, 0] (shapeCast S2x2x13824 (extractStridedSlice S4x13824 ![0, 0] x slices_S16x13824_S4x13824_0_0) shapeCasts_S4x13824_S2x2x13824) transposes_S2x2x13824_S2x13824x2_1_2_0) shapeCasts_S2x13824x2_S2x1x27648) bitsLt_bf16_f32

/-- The host's operations after the call, entry by entry. -/
theorem tail_at (x : FVec Ideal S16x13824 .f32) (b : Fin 2) (n : Fin 27648) :
    tail x (ix3 b 0 n) = (x (ix2 ⟨2 * (n.val % 2) + b.val, by omega⟩ ⟨n.val / 2, by omega⟩) : EReal) := by
  have e : tail x (ix3 b 0 n) = (x (ix2 ⟨n.val % 2 * 2 + b.val, by omega⟩ ⟨n.val / 2, by omega⟩) : EReal) := by
    pointwise [tail]
  rw [e]
  exact congrArg (fun z => x (ix2 z _)) (Fin.ext (by simp only []; omega))

/-- The result's array at the end of the run. -/
theorem W_v19 (c : Dev nD) : Pipeline.afterTail₀ cfgs (dats m) 0 (V0 m) [hostOps1] c main_v19 = tail (prod m c) := by
  unfold Pipeline.afterTail₀
  have e : Pipeline.withArrays (cfgs 0).spec c (V0 m c) (fun w => (dats m 0 c).arrAt w (cfgs 0).N) (Proc.devRef .tc main_v14) = prod m c :=
    Pipeline.Dat.withArrays_arrAt (dats m 0 c) sharedIn0 (V0 m c) (A_eq m c) 5
  show StableHlo.after hostOps1 _ (Proc.devRef .tc main_v19) = _
  generalize Pipeline.withArrays (cfgs 0).spec c (V0 m c) (fun w => (dats m 0 c).arrAt w (cfgs 0).N) = W at e ⊢
  after_results_entrywise [e]

/-- The kernel's result. -/
def result (c : Dev nD) : FVec Ideal S2x1x27648 .bf16 := tail (prod m c)

/-- The kernel's result, entry by entry, where the positions are in order. -/
theorem result_at (c : Dev nD) (hp : InOrder m c) (b : Fin 2) (n : Fin 27648) :
    result m c (ix3 b 0 n) = total (a0 m c) (a1 m c) (a2 m c) (a3 m c) b (n.val % 2) (n.val / 2) := by
  unfold result
  rw [tail_at]
  exact prod_val m c hp _ (n.val % 2) (Nat.mod_lt _ (by decide)) b rfl ⟨n.val / 2, by omega⟩

/-- The run: the result, the arguments kept. -/
theorem run_value (ρ : Dev nD → PrngReg) : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v19 (Pipeline.mem_restRefs_of main_v19 (by decide) (by decide))).trans (W_v19 m c), h.2 c⟩)
    (θ_run_and (run_main m ρ) (unchanged m ρ))

end Cert.KernelIdeal.KV
end
-- ==== Proof.Leg.lean ====
module

public import proofs.«01_k».proof.Defs
public import proofs.«01_k».proof.Proof.Val
public import proofs.«01_k».proof.Proof.RefRead
public import proofs.«01_k».proof.Proof.Gen.Pre_positions_in_order

@[expose] public section

set_option maxRecDepth 16384

noncomputable section

open Idealize.ShloMosaic Idealize.ShloMosaic.TcCoe Idealize.SL Idealize.SL.RA Idealize.SL.Sem

namespace Cert.KernelIdeal.KV

/-! ### The precondition -/

/-- What the precondition says of one byte. -/
def ordered (b : BitVec 8) : BitVec 1 :=
  IntOp.andi (IntOp.cmpi .slt (IntOp.andi (BitVec.setWidth 32 b) 3#32) (IntOp.andi (IntOp.shrsi ArithUnit.host (BitVec.setWidth 32 b) 2#32) 3#32))
    (IntOp.cmpi .slt (IntOp.andi (IntOp.shrsi ArithUnit.host (BitVec.setWidth 32 b) 4#32) 3#32) (IntOp.andi (IntOp.shrsi ArithUnit.host (BitVec.setWidth 32 b) 6#32) 3#32))

/-- The precondition at a byte puts both of its pairs of positions in order: all bytes tried. -/
theorem ordered_bits : ∀ k : Fin 256, ordered (BitVec.ofFin k) = 1#1 → pos (BitVec.ofFin k) 0 < pos (BitVec.ofFin k) 2 ∧ pos (BitVec.ofFin k) 4 < pos (BitVec.ofFin k) 6 := by
  decide +kernel

/-- The precondition, entry by entry. -/
theorem pre_at (x0 : FVec Ideal Cert.Pre_positions_in_order.S2x1x5120 .bf16) (x1 : IVec Cert.Pre_positions_in_order.S2560x13824 8) (x2 : IVec Cert.Pre_positions_in_order.S640x27648 8) (x3 : FVec Ideal Cert.Pre_positions_in_order.S40x27648 .bf16) (r : Fin 640) (j : Fin 27648) :
    Cert.Pre_positions_in_order.fn (F := Ideal) x0 x1 x2 x3 (ix2 r j) = ordered (x2 (ix2 r j)) := by
  pointwise [Cert.Pre_positions_in_order.fn, Cert.Pre_positions_in_order.fn_part1, ordered]

/-- The precondition holds of the memory the kernel starts from. -/
theorem inOrder (m : (ℓ : Loc Cert.KernelIdeal.nD Cert.KernelIdeal.τ Cert.KernelIdeal.sig) → Buf (Elt Ideal) ℓ) (h : Cert.Pre_KernelIdeal_positions_in_order m) (c : Dev Cert.KernelIdeal.nD) : InOrder m c := by
  intro r j hf hr hj hh
  have e := congrFun (h c) (ix2 ⟨r, hr⟩ ⟨j, hj⟩)
  have o := ordered_bits (a2 m c (ix2 ⟨r, hr⟩ ⟨j, hj⟩)).toFin ((pre_at _ _ _ _ ⟨r, hr⟩ ⟨j, hj⟩).symm.trans e)
  rw [rd_eq (a2 m c) r j hr hj]
  have hc : hf = 0 ∨ hf = 1 := by omega
  rcases hc with h0 | h0
  · subst h0; exact o.1
  · subst h0; exact o.2

/-! ### The two results -/

/-- The kernel's result is the reference's, where the arguments are the same. -/
theorem results_eq (m : (ℓ : Loc Cert.KernelIdeal.nD Cert.KernelIdeal.τ Cert.KernelIdeal.sig) → Buf (Elt Ideal) ℓ) (c : Dev Cert.KernelIdeal.nD) (hp : InOrder m c)
    (V0 : Valuation Cert.ReferenceIdeal.τ Cert.ReferenceIdeal.sig (Elt Ideal))
    (h0 : Cert.ReferenceIdeal.RV.A0 V0 = a0 m c) (h1 : Cert.ReferenceIdeal.RV.A1 V0 = a1 m c) (h2 : Cert.ReferenceIdeal.RV.A2 V0 = a2 m c) (h3 : Cert.ReferenceIdeal.RV.A3 V0 = a3 m c) :
    Cert.ReferenceIdeal.RV.result V0 = result m c := by
  funext i
  have hi : i = ix3 (i 0) (i 1) (i 2) := eq_ix3 i
  have h1' : ∀ z : Fin 1, z = 0 := fun z => Subsingleton.elim _ _
  rw [hi, show ix3 (i 0) (i 1) (i 2) = ix3 (i 0) (0 : Fin 1) (i 2) from congrArg (fun z => ix3 (i 0) z (i 2)) (h1' (i 1))]
  refine (Cert.ReferenceIdeal.RV.result_at V0 (i 0) (i 2)).trans (Eq.trans ?_ (result_at m c hp (i 0) (i 2)).symm)
  unfold Cert.ReferenceIdeal.RV.S total
  rw [h0, h1, h2, h3]

/-- The reference's run, its result named. -/
theorem run_reference (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = Cert.ReferenceIdeal.RV.result (StableHlo.launchContents m' c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  unfold Cert.ReferenceIdeal.RV.result
  exact Cert.ReferenceIdeal.Value.run (F := Ideal) m' g'

/-- The value claim: both run, to the same result. -/
theorem value : Cert.algebraic_KernelIdeal_ReferenceIdeal_pre_positions_in_order := by
  intro m g m' g' hpre hargs
  refine ⟨fun c => result m c, run_value m g, ?_⟩
  have e : ∀ c, Cert.ReferenceIdeal.RV.result (StableHlo.launchContents m' c) = result m c := fun c =>
    results_eq m c (inOrder m hpre c) (StableHlo.launchContents m' c) (hargs c).1 (hargs c).2.1 (hargs c).2.2.1 (hargs c).2.2.2
  have run := run_reference m' g'
  simp only [e] at run
  exact run

end Cert.KernelIdeal.KV
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_positions_in_order
public import proofs.«01_k».proof.Proof.Leg
public import Idealize.ShloMosaic.Adequacy
public import Idealize.ShloMosaic.Init
public import Idealize.ShloMosaic.Lib.Quiescent
public import Idealize.ShloMosaic.Lib.Bf16Pair
public import Idealize.ShloMosaic.Lib.Bf16PairInverse

@[expose] public section

noncomputable section

namespace Cert.Proof

open Idealize.ShloMosaic Idealize.SL.Sem

/-- The printed kernel runs and leaves its arguments as they were, its semaphores at zero: the generated frame. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The same under the precondition. -/
theorem frame_pi_pre : Cert.quiescent_KernelIdeal_pre_positions_in_order := fun m ρ _ => Cert.KernelIdeal.Gen.frame m ρ

/-- The reference's run keeps its arguments; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition. -/
theorem frame_ri_pre : Cert.quiescent_ReferenceIdeal_pre_positions_in_order := fun m ρ _ => frame_ri m ρ trivial

/-- Each rewrite of the ideal pass is an instance of its rule's statement. -/
theorem preserves : Cert.preserves_Kernel_KernelIdeal :=
  ⟨IdealRules.bf16_pair.bufferStatement _ _, IdealRules.bf16_pair.statement _ _, IdealRules.bf16_pair.statement _ _,
    IdealRules.bf16_pair.statement _ _⟩

/-- The kernel and the reference give the same result, where the positions of each pair are in order. -/
theorem algebraic : Cert.algebraic_KernelIdeal_ReferenceIdeal_pre_positions_in_order := Cert.KernelIdeal.KV.value

/-- `Cert.Claim` (Defs.lean): its conjuncts together. -/
theorem claim : Cert.Claim := ⟨Cert.Kernel.Gen.facts, Cert.KernelIdeal.Gen.facts, Cert.ReferenceIdeal.Gen.facts,
  Cert.Pre_positions_in_order.Gen.facts, frame_p, frame_pi, frame_pi_pre, frame_ri, frame_ri_pre, preserves, algebraic⟩

end Cert.Proof

end
